-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpRefIdeal (m : (ℓ : Loc Cert.InpRefIdeal.nD Cert.InpRefIdeal.τ Cert.InpRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_pool_finite [hPre_pool_finite : Cert.Pre_pool_finite.Facts] (m : (ℓ : Loc Cert.PoolIdeal.nD Cert.PoolIdeal.τ Cert.PoolIdeal.sig) → Buf (Elt Ideal) ℓ) : Prop :=
  ∀ c : Dev Cert.PoolIdeal.nD,
    (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))) = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_pool_finite [hPre_pool_finite : Cert.Pre_pool_finite.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))) = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2)
      ∧ r.2.mem ((c.tc : Thread Cert.Inp.nD Cert.Inp.τ).loc Cert.Inp.main_arg3) = m ((c.tc : Thread Cert.Inp.nD Cert.Inp.τ).loc Cert.Inp.main_arg3)
      ∧ r.2.mem ((c.tc : Thread Cert.Inp.nD Cert.Inp.τ).loc Cert.Inp.main_arg4) = m ((c.tc : Thread Cert.Inp.nD Cert.Inp.τ).loc Cert.Inp.main_arg4)
      ∧ r.2.mem ((c.tc : Thread Cert.Inp.nD Cert.Inp.τ).loc Cert.Inp.main_arg5) = m ((c.tc : Thread Cert.Inp.nD Cert.Inp.τ).loc Cert.Inp.main_arg5))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
      ∧ r.2.mem ((c.tc : Thread Cert.InpIdeal.nD Cert.InpIdeal.τ).loc Cert.InpIdeal.main_arg5) = m ((c.tc : Thread Cert.InpIdeal.nD Cert.InpIdeal.τ).loc Cert.InpIdeal.main_arg5))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3)
      ∧ r.2.mem ((c.tc : Thread Cert.InpRefIdeal.nD Cert.InpRefIdeal.τ).loc Cert.InpRefIdeal.main_arg4) = m ((c.tc : Thread Cert.InpRefIdeal.nD Cert.InpRefIdeal.τ).loc Cert.InpRefIdeal.main_arg4)
      ∧ r.2.mem ((c.tc : Thread Cert.InpRefIdeal.nD Cert.InpRefIdeal.τ).loc Cert.InpRefIdeal.main_arg5) = m ((c.tc : Thread Cert.InpRefIdeal.nD Cert.InpRefIdeal.τ).loc Cert.InpRefIdeal.main_arg5))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolIdeal_pre_pool_finite [hPoolIdeal : Cert.PoolIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_pool_finite m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_PoolRefIdeal_pre_pool_finite [hPoolRefIdeal : Cert.PoolRefIdeal.Facts] [hPre_pool_finite : Cert.Pre_pool_finite.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_pool_finite m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def preserves_Attn_AttnIdeal : Prop :=
  IdealRules.named_const.Statement Cert.AttnIdeal.κ "log2e" .f32 0x3FB8AA3B#32 (((Real.log 2)⁻¹ : ℝ) : EReal)

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v4)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v4) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v40) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v1) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v24) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v3)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v3) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v27) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5))

def preserves_Inp_InpIdeal : Prop :=
  IdealRules.named_const.Statement Cert.InpIdeal.κ "q_scale" .f32 0x3E0293EE#32 (((Real.sqrt 128)⁻¹ * (Real.log 2)⁻¹ : ℝ) : EReal)

def algebraic_InpIdeal_InpRefIdeal [hInpIdeal : Cert.InpIdeal.Facts] [hInpRefIdeal : Cert.InpRefIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)
      ∧ m' ((c.tc : Thread Cert.InpRefIdeal.nD Cert.InpRefIdeal.τ).loc Cert.InpRefIdeal.main_arg2) = m ((c.tc : Thread Cert.InpIdeal.nD Cert.InpIdeal.τ).loc Cert.InpIdeal.main_arg2)
      ∧ m' ((c.tc : Thread Cert.InpRefIdeal.nD Cert.InpRefIdeal.τ).loc Cert.InpRefIdeal.main_arg3) = m ((c.tc : Thread Cert.InpIdeal.nD Cert.InpIdeal.τ).loc Cert.InpIdeal.main_arg3)
      ∧ m' ((c.tc : Thread Cert.InpRefIdeal.nD Cert.InpRefIdeal.τ).loc Cert.InpRefIdeal.main_arg4) = m ((c.tc : Thread Cert.InpIdeal.nD Cert.InpIdeal.τ).loc Cert.InpIdeal.main_arg4)
      ∧ m' ((c.tc : Thread Cert.InpRefIdeal.nD Cert.InpRefIdeal.τ).loc Cert.InpRefIdeal.main_arg5) = m ((c.tc : Thread Cert.InpIdeal.nD Cert.InpIdeal.τ).loc Cert.InpIdeal.main_arg5)) →
    ∃ (v0 : (c : Dev Cert.InpIdeal.nD) → Buf (Elt Ideal) ((c.tc : Thread Cert.InpIdeal.nD Cert.InpIdeal.τ).loc Cert.InpIdeal.main_v17_0)) (v1 : (c : Dev Cert.InpIdeal.nD) → Buf (Elt Ideal) ((c.tc : Thread Cert.InpIdeal.nD Cert.InpIdeal.τ).loc Cert.InpIdeal.main_v17_1)) (v2 : (c : Dev Cert.InpIdeal.nD) → Buf (Elt Ideal) ((c.tc : Thread Cert.InpIdeal.nD Cert.InpIdeal.τ).loc Cert.InpIdeal.main_v17_2)) (v3 : (c : Dev Cert.InpIdeal.nD) → Buf (Elt Ideal) ((c.tc : Thread Cert.InpIdeal.nD Cert.InpIdeal.τ).loc Cert.InpIdeal.main_v17_3)) (v4 : (c : Dev Cert.InpIdeal.nD) → Buf (Elt Ideal) ((c.tc : Thread Cert.InpIdeal.nD Cert.InpIdeal.τ).loc Cert.InpIdeal.main_v17_4)) (v5 : (c : Dev Cert.InpIdeal.nD) → Buf (Elt Ideal) ((c.tc : Thread Cert.InpIdeal.nD Cert.InpIdeal.τ).loc Cert.InpIdeal.main_v17_5)) (v6 : (c : Dev Cert.InpIdeal.nD) → Buf (Elt Ideal) ((c.tc : Thread Cert.InpIdeal.nD Cert.InpIdeal.τ).loc Cert.InpIdeal.main_v17_6)) (v7 : (c : Dev Cert.InpIdeal.nD) → Buf (Elt Ideal) ((c.tc : Thread Cert.InpIdeal.nD Cert.InpIdeal.τ).loc Cert.InpIdeal.main_v17_7)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v17_0) = v0 c
          ∧ r.2.mem ((c.tc : Thread Cert.InpIdeal.nD Cert.InpIdeal.τ).loc Cert.InpIdeal.main_v17_1) = v1 c
          ∧ r.2.mem ((c.tc : Thread Cert.InpIdeal.nD Cert.InpIdeal.τ).loc Cert.InpIdeal.main_v17_2) = v2 c
          ∧ r.2.mem ((c.tc : Thread Cert.InpIdeal.nD Cert.InpIdeal.τ).loc Cert.InpIdeal.main_v17_3) = v3 c
          ∧ r.2.mem ((c.tc : Thread Cert.InpIdeal.nD Cert.InpIdeal.τ).loc Cert.InpIdeal.main_v17_4) = v4 c
          ∧ r.2.mem ((c.tc : Thread Cert.InpIdeal.nD Cert.InpIdeal.τ).loc Cert.InpIdeal.main_v17_5) = v5 c
          ∧ r.2.mem ((c.tc : Thread Cert.InpIdeal.nD Cert.InpIdeal.τ).loc Cert.InpIdeal.main_v17_6) = v6 c
          ∧ r.2.mem ((c.tc : Thread Cert.InpIdeal.nD Cert.InpIdeal.τ).loc Cert.InpIdeal.main_v17_7) = v7 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
          ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
          ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
          ∧ r.2.mem ((c.tc : Thread Cert.InpIdeal.nD Cert.InpIdeal.τ).loc Cert.InpIdeal.main_arg5) = m ((c.tc : Thread Cert.InpIdeal.nD Cert.InpIdeal.τ).loc Cert.InpIdeal.main_arg5))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v63) = v0 c
          ∧ r.2.mem ((c.tc : Thread Cert.InpRefIdeal.nD Cert.InpRefIdeal.τ).loc Cert.InpRefIdeal.main_v44) = v1 c
          ∧ r.2.mem ((c.tc : Thread Cert.InpRefIdeal.nD Cert.InpRefIdeal.τ).loc Cert.InpRefIdeal.main_v64) = v2 c
          ∧ r.2.mem ((c.tc : Thread Cert.InpRefIdeal.nD Cert.InpRefIdeal.τ).loc Cert.InpRefIdeal.main_v45) = v3 c
          ∧ r.2.mem ((c.tc : Thread Cert.InpRefIdeal.nD Cert.InpRefIdeal.τ).loc Cert.InpRefIdeal.main_v65) = v4 c
          ∧ r.2.mem ((c.tc : Thread Cert.InpRefIdeal.nD Cert.InpRefIdeal.τ).loc Cert.InpRefIdeal.main_v47) = v5 c
          ∧ r.2.mem ((c.tc : Thread Cert.InpRefIdeal.nD Cert.InpRefIdeal.τ).loc Cert.InpRefIdeal.main_v52) = v6 c
          ∧ r.2.mem ((c.tc : Thread Cert.InpRefIdeal.nD Cert.InpRefIdeal.τ).loc Cert.InpRefIdeal.main_v55) = v7 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2)
          ∧ r.2.mem ((c.tc : Thread Cert.InpRefIdeal.nD Cert.InpRefIdeal.τ).loc Cert.InpRefIdeal.main_arg3) = m' ((c.tc : Thread Cert.InpRefIdeal.nD Cert.InpRefIdeal.τ).loc Cert.InpRefIdeal.main_arg3)
          ∧ r.2.mem ((c.tc : Thread Cert.InpRefIdeal.nD Cert.InpRefIdeal.τ).loc Cert.InpRefIdeal.main_arg4) = m' ((c.tc : Thread Cert.InpRefIdeal.nD Cert.InpRefIdeal.τ).loc Cert.InpRefIdeal.main_arg4)
          ∧ r.2.mem ((c.tc : Thread Cert.InpRefIdeal.nD Cert.InpRefIdeal.τ).loc Cert.InpRefIdeal.main_arg5) = m' ((c.tc : Thread Cert.InpRefIdeal.nD Cert.InpRefIdeal.τ).loc Cert.InpRefIdeal.main_arg5))

def preserves_Pool_PoolIdeal : Prop :=
  True

def algebraic_PoolIdeal_PoolRefIdeal_pre_pool_finite [hPoolIdeal : Cert.PoolIdeal.Facts] [hPoolRefIdeal : Cert.PoolRefIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_pool_finite m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)) →
    ∃ (v0 : (c : Dev Cert.PoolIdeal.nD) → Buf (Elt Ideal) ((c.tc : Thread Cert.PoolIdeal.nD Cert.PoolIdeal.τ).loc Cert.PoolIdeal.main_v3_0)) (v1 : (c : Dev Cert.PoolIdeal.nD) → Buf (Elt Ideal) ((c.tc : Thread Cert.PoolIdeal.nD Cert.PoolIdeal.τ).loc Cert.PoolIdeal.main_v3_1)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v3_0) = v0 c
          ∧ r.2.mem ((c.tc : Thread Cert.PoolIdeal.nD Cert.PoolIdeal.τ).loc Cert.PoolIdeal.main_v3_1) = v1 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v89) = v0 c
          ∧ r.2.mem ((c.tc : Thread Cert.PoolRefIdeal.nD Cert.PoolRefIdeal.τ).loc Cert.PoolRefIdeal.main_v90) = v1 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hMix : Cert.Mix.Facts) (hMixIdeal : Cert.MixIdeal.Facts) (hMixRefIdeal : Cert.MixRefIdeal.Facts) (hInp : Cert.Inp.Facts) (hInpIdeal : Cert.InpIdeal.Facts) (hInpRefIdeal : Cert.InpRefIdeal.Facts) (hPool : Cert.Pool.Facts) (hPoolIdeal : Cert.PoolIdeal.Facts) (hPoolRefIdeal : Cert.PoolRefIdeal.Facts) (hPre_attn_finite : Cert.Pre_attn_finite.Facts) (hPre_pool_finite : Cert.Pre_pool_finite.Facts),
    quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Ffn (hFfn := hFfn)
    ∧ quiescent_FfnIdeal (hFfnIdeal := hFfnIdeal)
    ∧ quiescent_FfnRefIdeal (hFfnRefIdeal := hFfnRefIdeal)
    ∧ quiescent_Mix (hMix := hMix)
    ∧ quiescent_MixIdeal (hMixIdeal := hMixIdeal)
    ∧ quiescent_MixRefIdeal (hMixRefIdeal := hMixRefIdeal)
    ∧ quiescent_Inp (hInp := hInp)
    ∧ quiescent_InpIdeal (hInpIdeal := hInpIdeal)
    ∧ quiescent_InpRefIdeal (hInpRefIdeal := hInpRefIdeal)
    ∧ quiescent_Pool (hPool := hPool)
    ∧ quiescent_PoolIdeal (hPoolIdeal := hPoolIdeal)
    ∧ quiescent_PoolIdeal_pre_pool_finite (hPoolIdeal := hPoolIdeal) (hPre_pool_finite := hPre_pool_finite)
    ∧ quiescent_PoolRefIdeal (hPoolRefIdeal := hPoolRefIdeal)
    ∧ quiescent_PoolRefIdeal_pre_pool_finite (hPoolRefIdeal := hPoolRefIdeal) (hPre_pool_finite := hPre_pool_finite)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Ffn_FfnIdeal
    ∧ algebraic_FfnIdeal_FfnRefIdeal (hFfnIdeal := hFfnIdeal) (hFfnRefIdeal := hFfnRefIdeal)
    ∧ preserves_Mix_MixIdeal
    ∧ algebraic_MixIdeal_MixRefIdeal (hMixIdeal := hMixIdeal) (hMixRefIdeal := hMixRefIdeal)
    ∧ preserves_Inp_InpIdeal
    ∧ algebraic_InpIdeal_InpRefIdeal (hInpIdeal := hInpIdeal) (hInpRefIdeal := hInpRefIdeal)
    ∧ preserves_Pool_PoolIdeal
    ∧ algebraic_PoolIdeal_PoolRefIdeal_pre_pool_finite (hPoolIdeal := hPoolIdeal) (hPoolRefIdeal := hPoolRefIdeal) (hPre_pool_finite := hPre_pool_finite)
-- ==== Pre_attn_finite.lean ====
abbrev S8192x1024 : Shape := ⟨2, ![8192, 1024]⟩
abbrev S8192x128 : Shape := ⟨2, ![8192, 128]⟩
abbrev S_ : Shape := ⟨0, ![]⟩
abbrev S8192x8 : Shape := ⟨2, ![8192, 8]⟩

class Facts : Prop where
  bitsLt_bf16_f32 : FTy.bits .bf16 < FTy.bits .f32
  bcast_S_S8192x1024 : S_.BroadcastsInDim S8192x1024 (![] : Fin 0 → Fin S8192x1024.rank)
  slices_S8192x128_S8192x8_0_0 : S8192x128.Slices ![0, 0] S8192x8
  bcast_S_S8192x8 : S_.BroadcastsInDim S8192x8 (![] : Fin 0 → Fin S8192x8.rank)

variable [Facts]

def fn {F : FTy → Type} [FloatOps F] (main_arg0 : FVec F S8192x1024 .bf16) (main_arg1 : FVec F S8192x1024 .bf16) (main_arg2 : FVec F S8192x1024 .bf16) (main_arg3 : FVec F S8192x128 .f32) : IVec S8192x1024 1 × IVec S8192x1024 1 × IVec S8192x8 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8192x1024 .f32 := (extf .f32 · bitsLt_bf16_f32) main_arg1
  let main_v5 : FVec F S8192x1024 .f32 := Host.absf main_v4
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_v8 : FVec F S8192x8 .f32 := (extractStridedSlice S8192x8 ![0, 0] · slices_S8192x128_S8192x8_0_0) main_arg3
  let main_v9 : FVec F S8192x8 .f32 := Host.absf main_v8
  let main_cst_1 : FVec F S_ .f32 := constant S_ .f32 0x7F800000#32
  let main_v10 : FVec F S8192x8 .f32 := broadcastInDim S8192x8 ![] bcast_S_S8192x8 main_cst_1
  let main_v11 : IVec S8192x8 1 := cmpf .olt main_v9 main_v10
  (main_v3, main_v7, main_v11)
-- ==== Pre_pool_finite.lean ====
abbrev S8192x2048 : Shape := ⟨2, ![8192, 2048]⟩
abbrev S2048 : Shape := ⟨1, ![2048]⟩
abbrev S4x512x512 : Shape := ⟨3, ![4, 512, 512]⟩
abbrev S_ : Shape := ⟨0, ![]⟩

class Facts : Prop where
  bcast_S_S2048 : S_.BroadcastsInDim S2048 (![] : Fin 0 → Fin S2048.rank)

variable [Facts]

def fn {F : FTy → Type} [FloatOps F] (main_arg0 : FVec F S8192x2048 .f32) (main_arg1 : FVec F S2048 .f32) (main_arg2 : FVec F S4x512x512 .f32) (main_arg3 : FVec F S2048 .f32) : IVec S2048 1 :=
  let main_v0 : FVec F S2048 .f32 := Host.absf main_arg1
  let main_cst : FVec F S_ .f32 := constant S_ .f32 0x7F800000#32
  let main_v1 : FVec F S2048 .f32 := broadcastInDim S2048 ![] bcast_S_S2048 main_cst
  let main_v2 : IVec S2048 1 := cmpf .olt main_v0 main_v1
  main_v2
-- ==== Attn.lean ====
abbrev S8192x1024 : Shape := ⟨2, ![8192, 1024]⟩
abbrev S8192x128 : Shape := ⟨2, ![8192, 128]⟩
abbrev S8192x8 : Shape := ⟨2, ![8192, 8]⟩
abbrev S4x2048x8 : Shape := ⟨3, ![4, 2048, 8]⟩
abbrev S4x8x2048 : Shape := ⟨3, ![4, 8, 2048]⟩
abbrev S4x8x1x2048 : Shape := ⟨4, ![4, 8, 1, 2048]⟩
abbrev S2048x128 : Shape := ⟨2, ![2048, 128]⟩
abbrev S1x1x1x2048 : Shape := ⟨4, ![1, 1, 1, 2048]⟩
abbrev S512x128 : Shape := ⟨2, ![512, 128]⟩
abbrev S512 : Shape := ⟨1, ![512]⟩
abbrev S512x1 : Shape := ⟨2, ![512, 1]⟩
abbrev S512x512 : Shape := ⟨2, ![512, 512]⟩
abbrev S1x1x1x512 : Shape := ⟨4, ![1, 1, 1, 512]⟩
abbrev S1x512 : Shape := ⟨2, ![1, 512]⟩

abbrev nBuf : Space → Nat
  | .hbm => 9
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x128, .f32⟩
  | .hbm, ⟨4, _⟩ => ⟨S8192x8, .f32⟩
  | .hbm, ⟨5, _⟩ => ⟨S4x2048x8, .f32⟩
  | .hbm, ⟨6, _⟩ => ⟨S4x8x2048, .f32⟩
  | .hbm, ⟨7, _⟩ => ⟨S4x8x1x2048, .f32⟩
  | .hbm, ⟨8, _⟩ => ⟨S8192x1024, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .f32⟩
  | .local _ .vmem, ⟨7, _⟩ => ⟨S2048x128, .f32⟩
  | .local _ .vmem, ⟨8, _⟩ => ⟨S1x1x1x2048, .f32⟩
  | .local _ .vmem, ⟨9, _⟩ => ⟨S1x1x1x2048, .f32⟩
  | .local _ .vmem, ⟨10, _⟩ => ⟨S2048x128, .bf16⟩
  | .local _ .vmem, ⟨11, _⟩ => ⟨S2048x128, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnIdeal.lean ====
variable {F : FTy → Type} [FloatOps F] [Named F]
def κ : String → Option EReal := fun
  | "log2e" => some (((Real.log 2)⁻¹ : ℝ) : EReal)
  | _ => none
-- ==== AttnRefIdeal.lean ====
abbrev S8192x1024 : Shape := ⟨2, ![8192, 1024]⟩
abbrev S8192x128 : Shape := ⟨2, ![8192, 128]⟩
abbrev S4x2048x8x128 : Shape := ⟨4, ![4, 2048, 8, 128]⟩
abbrev S8192x8 : Shape := ⟨2, ![8192, 8]⟩
abbrev S4x2048x8 : Shape := ⟨3, ![4, 2048, 8]⟩
abbrev S4x8x2048 : Shape := ⟨3, ![4, 8, 2048]⟩
abbrev S2048 : Shape := ⟨1, ![2048]⟩
abbrev S4x8x2048x2048 : Shape := ⟨4, ![4, 8, 2048, 2048]⟩
abbrev S_ : Shape := ⟨0, ![]⟩
abbrev S4x8x2048x1 : Shape := ⟨4, ![4, 8, 2048, 1]⟩
abbrev S4x8x1x2048 : Shape := ⟨4, ![4, 8, 1, 2048]⟩
abbrev S1x2048 : Shape := ⟨2, ![1, 2048]⟩
abbrev S2048x1 : Shape := ⟨2, ![2048, 1]⟩
abbrev S2048x2048 : Shape := ⟨2, ![2048, 2048]⟩
abbrev S4x8x128x2048 : Shape := ⟨4, ![4, 8, 128, 2048]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x128, .f32⟩
  | .hbm, ⟨4, _⟩ => ⟨S8192x1024, .f32⟩
  | .hbm, ⟨5, _⟩ => ⟨S4x2048x8x128, .f32⟩
  | .hbm, ⟨6, _⟩ => ⟨S8192x1024, .f32⟩
  | .hbm, ⟨7, _⟩ => ⟨S4x2048x8x128, .f32⟩
  | .hbm, ⟨8, _⟩ => ⟨S8192x1024, .f32⟩
  | .hbm, ⟨9, _⟩ => ⟨S4x2048x8x128, .f32⟩
  | .hbm, ⟨10, _⟩ => ⟨S8192x8, .f32⟩
  | .hbm, ⟨11, _⟩ => ⟨S4x2048x8, .f32⟩
  | .hbm, ⟨12, _⟩ => ⟨S4x8x2048, .f32⟩
  | .hbm, ⟨13, _⟩ => ⟨S2048, .i32⟩
  | .hbm, ⟨14, _⟩ => ⟨S4x8x2048x2048, .f32⟩
  | .hbm, ⟨15, _⟩ => ⟨S_, .f32⟩
  | .hbm, ⟨16, _⟩ => ⟨S_, .f32⟩
  | .hbm, ⟨17, _⟩ => ⟨S4x8x2048x2048, .f32⟩
  | .hbm, ⟨18, _⟩ => ⟨S4x8x2048x2048, .f32⟩
  | .hbm, ⟨19, _⟩ => ⟨S4x8x2048x1, .f32⟩
  | .hbm, ⟨20, _⟩ => ⟨S4x8x1x2048, .f32⟩
  | .hbm, ⟨21, _⟩ => ⟨S4x8x2048x2048, .f32⟩
  | .hbm, ⟨22, _⟩ => ⟨S4x8x2048x2048, .f32⟩
  | .hbm, ⟨23, _⟩ => ⟨S4x8x2048x2048, .f32⟩
  | .hbm, ⟨24, _⟩ => ⟨S4x8x2048x2048, .f32⟩
  | .hbm, ⟨25, _⟩ => ⟨S1x2048, .i32⟩
  | .hbm, ⟨26, _⟩ => ⟨S2048x1, .i32⟩
  | .hbm, ⟨27, _⟩ => ⟨S2048x2048, .i32⟩
  | .hbm, ⟨28, _⟩ => ⟨S2048x2048, .i32⟩
  | .hbm, ⟨29, _⟩ => ⟨S2048x2048, .i1⟩
  | .hbm, ⟨30, _⟩ => ⟨S_, .f32⟩
  | .hbm, ⟨31, _⟩ => ⟨S_, .f32⟩
  | .hbm, ⟨32, _⟩ => ⟨S4x8x2048x2048, .i1⟩
  | .hbm, ⟨33, _⟩ => ⟨S4x8x2048x2048, .f32⟩
  | .hbm, ⟨34, _⟩ => ⟨S4x8x2048x2048, .f32⟩
  | .hbm, ⟨35, _⟩ => ⟨S_, .f32⟩
  | .hbm, ⟨36, _⟩ => ⟨S4x8x2048, .f32⟩
  | .hbm, ⟨37, _⟩ => ⟨S_, .f32⟩
  | .hbm, ⟨38, _⟩ => ⟨S4x8x2048, .f32⟩
  | .hbm, ⟨39, _⟩ => ⟨S4x8x2048, .f32⟩
  | .hbm, ⟨40, _⟩ => ⟨S4x8x2048x1, .f32⟩
  | .hbm, ⟨41, _⟩ => ⟨S4x8x2048x2048, .f32⟩
  | .hbm, ⟨42, _⟩ => ⟨S4x8x2048x2048, .f32⟩
  | .hbm, ⟨43, _⟩ => ⟨S4x8x2048x2048, .f32⟩
  | .hbm, ⟨44, _⟩ => ⟨S_, .f32⟩
  | .hbm, ⟨45, _⟩ => ⟨S4x8x2048, .f32⟩
  | .hbm, ⟨46, _⟩ => ⟨S4x8x2048x1, .f32⟩
  | .hbm, ⟨47, _⟩ => ⟨S4x8x2048x2048, .f32⟩
  | .hbm, ⟨48, _⟩ => ⟨S4x8x2048x2048, .f32⟩
  | .hbm, ⟨49, _⟩ => ⟨S4x8x128x2048, .f32⟩
  | .hbm, ⟨50, _⟩ => ⟨S4x2048x8x128, .f32⟩
  | .hbm, ⟨51, _⟩ => ⟨S8192x1024, .f32⟩
  | .hbm, ⟨52, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== Ffn.lean ====
abbrev S8192x2048 : Shape := ⟨2, ![8192, 2048]⟩
abbrev S2048 : Shape := ⟨1, ![2048]⟩
abbrev S2x2048x5632 : Shape := ⟨3, ![2, 2048, 5632]⟩
abbrev S2x5632x2048 : Shape := ⟨3, ![2, 5632, 2048]⟩
abbrev S1x2048 : Shape := ⟨2, ![1, 2048]⟩
abbrev S1x2048x512 : Shape := ⟨3, ![1, 2048, 512]⟩
abbrev S1024x2048 : Shape := ⟨2, ![1024, 2048]⟩
abbrev S1x512x2048 : Shape := ⟨3, ![1, 512, 2048]⟩
abbrev S1024 : Shape := ⟨1, ![1024]⟩
abbrev S1024x1 : Shape := ⟨2, ![1024, 1]⟩
abbrev S1x2048x256 : Shape := ⟨3, ![1, 2048, 256]⟩
abbrev S2048x256 : Shape := ⟨2, ![2048, 256]⟩
abbrev S1024x256 : Shape := ⟨2, ![1024, 256]⟩
abbrev S1x256x2048 : Shape := ⟨3, ![1, 256, 2048]⟩
abbrev S256x2048 : Shape := ⟨2, ![256, 2048]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S1x2048, .f32⟩
  | .hbm, ⟨6, _⟩ => ⟨S8192x2048, .f32⟩
  | .local _ .vmem, ⟨0, _⟩ => ⟨S1x2048x512, .f32⟩
  | .local _ .vmem, ⟨1, _⟩ => ⟨S1x2048x512, .f32⟩
  | .local _ .vmem, ⟨2, _⟩ => ⟨S1024x2048, .f32⟩
  | .local _ .vmem, ⟨3, _⟩ => ⟨S1x2048, .f32⟩
  | .local _ .vmem, ⟨4, _⟩ => ⟨S1x2048x512, .f32⟩
  | .local _ .vmem, ⟨5, _⟩ => ⟨S1x2048x512, .f32⟩
  | .local _ .vmem, ⟨6, _⟩ => ⟨S1x512x2048, .f32⟩
  | .local _ .vmem, ⟨7, _⟩ => ⟨S1x512x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 11], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S8192x2048 : Shape := ⟨2, ![8192, 2048]⟩
abbrev S2048 : Shape := ⟨1, ![2048]⟩
abbrev S2x2048x5632 : Shape := ⟨3, ![2, 2048, 5632]⟩
abbrev S2x5632x2048 : Shape := ⟨3, ![2, 5632, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x2048x5632 : Shape := ⟨3, ![1, 2048, 5632]⟩
abbrev S2048x5632 : Shape := ⟨2, ![2048, 5632]⟩
abbrev S8192x5632 : Shape := ⟨2, ![8192, 5632]⟩
abbrev S1x5632x2048 : Shape := ⟨3, ![1, 5632, 2048]⟩
abbrev S5632x2048 : Shape := ⟨2, ![5632, 2048]⟩

abbrev nBuf : Space → Nat
  | .hbm => 41
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S1x2048x5632, .f32⟩
  | .hbm, ⟨22, _⟩ => ⟨S2048x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S_, .f32⟩
  | .hbm, ⟨27, _⟩ => ⟨S8192x5632, .f32⟩
  | .hbm, ⟨28, _⟩ => ⟨S8192x5632, .f32⟩
  | .hbm, ⟨29, _⟩ => ⟨S_, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S1x2048x5632, .f32⟩
  | .hbm, ⟨34, _⟩ => ⟨S2048x5632, .f32⟩
  | .hbm, ⟨35, _⟩ => ⟨S8192x5632, .f32⟩
  | .hbm, ⟨36, _⟩ => ⟨S8192x5632, .f32⟩
  | .hbm, ⟨37, _⟩ => ⟨S1x5632x2048, .f32⟩
  | .hbm, ⟨38, _⟩ => ⟨S5632x2048, .f32⟩
  | .hbm, ⟨39, _⟩ => ⟨S8192x2048, .f32⟩
  | .hbm, ⟨40, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩

abbrev nD : Nat := 1
abbrev τ : Topo := Topo.v7x

variable {F : FTy → Type} [FloatOps F]
-- ==== Mix.lean ====
abbrev S8192x2048 : Shape := ⟨2, ![8192, 2048]⟩
abbrev S8192x1024 : Shape := ⟨2, ![8192, 1024]⟩
abbrev S1024x1024 : Shape := ⟨2, ![1024, 1024]⟩
abbrev S1024 : Shape := ⟨1, ![1024]⟩
abbrev S2048x2048 : Shape := ⟨2, ![2048, 2048]⟩
abbrev S1x1024 : Shape := ⟨2, ![1, 1024]⟩
abbrev S512x2048 : Shape := ⟨2, ![512, 2048]⟩
abbrev S512x1024 : Shape := ⟨2, ![512, 1024]⟩
abbrev S1024x2048 : Shape := ⟨2, ![1024, 2048]⟩

abbrev nBuf : Space → Nat
  | .hbm => 10
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8192x1024, .bf16⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S2048x2048, .f32⟩
  | .hbm, ⟨6, _⟩ => ⟨S1024x1024, .bf16⟩
  | .hbm, ⟨7, _⟩ => ⟨S1x1024, .f32⟩
  | .hbm, ⟨8, _⟩ => ⟨S2048x2048, .bf16⟩
  | .hbm, ⟨9, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S2048x2048, .bf16⟩
  | .local _ .vmem, ⟨9, _⟩ => ⟨S512x2048, .f32⟩
  | .local _ .vmem, ⟨10, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MixRefIdeal.lean ====
abbrev S8192x2048 : Shape := ⟨2, ![8192, 2048]⟩
abbrev S8192x1024 : Shape := ⟨2, ![8192, 1024]⟩
abbrev S1024x1024 : Shape := ⟨2, ![1024, 1024]⟩
abbrev S1024 : Shape := ⟨1, ![1024]⟩
abbrev S2048x2048 : Shape := ⟨2, ![2048, 2048]⟩
abbrev S_ : Shape := ⟨0, ![]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .bf16⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S2048x2048, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x2048, .f32⟩
  | .hbm, ⟨38, _⟩ => ⟨S8192x2048, .f32⟩
  | .hbm, ⟨39, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Inp.lean ====
abbrev S8192x2048 : Shape := ⟨2, ![8192, 2048]⟩
abbrev S2048 : Shape := ⟨1, ![2048]⟩
abbrev S2048x4104 : Shape := ⟨2, ![2048, 4104]⟩
abbrev S8 : Shape := ⟨1, ![8]⟩
abbrev S128 : Shape := ⟨1, ![128]⟩
abbrev S4104x2048 : Shape := ⟨2, ![4104, 2048]⟩
abbrev S1024x2048 : Shape := ⟨2, ![1024, 2048]⟩
abbrev S8x2048 : Shape := ⟨2, ![8, 2048]⟩
abbrev S_ : Shape := ⟨0, ![]⟩
abbrev S128x2048 : Shape := ⟨2, ![128, 2048]⟩
abbrev S1x128 : Shape := ⟨2, ![1, 128]⟩
abbrev S1x2048 : Shape := ⟨2, ![1, 2048]⟩
abbrev S8192x1024 : Shape := ⟨2, ![8192, 1024]⟩
abbrev S8192x128 : Shape := ⟨2, ![8192, 128]⟩
abbrev S512x2048 : Shape := ⟨2, ![512, 2048]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S256x2048 : Shape := ⟨2, ![256, 2048]⟩
abbrev S512x256 : Shape := ⟨2, ![512, 256]⟩
abbrev S512x512 : Shape := ⟨2, ![512, 512]⟩
abbrev S512x384 : Shape := ⟨2, ![512, 384]⟩

abbrev nBuf : Space → Nat
  | .hbm => 35
  | .vmem => 28
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x4104, .f32⟩
  | .hbm, ⟨3, _⟩ => ⟨S8, .f32⟩
  | .hbm, ⟨4, _⟩ => ⟨S128, .f32⟩
  | .hbm, ⟨5, _⟩ => ⟨S128, .f32⟩
  | .hbm, ⟨6, _⟩ => ⟨S4104x2048, .f32⟩
  | .hbm, ⟨7, _⟩ => ⟨S1024x2048, .f32⟩
  | .hbm, ⟨8, _⟩ => ⟨S1024x2048, .bf16⟩
  | .hbm, ⟨9, _⟩ => ⟨S1024x2048, .f32⟩
  | .hbm, ⟨10, _⟩ => ⟨S1024x2048, .bf16⟩
  | .hbm, ⟨11, _⟩ => ⟨S1024x2048, .f32⟩
  | .hbm, ⟨12, _⟩ => ⟨S1024x2048, .bf16⟩
  | .hbm, ⟨13, _⟩ => ⟨S8x2048, .f32⟩
  | .hbm, ⟨14, _⟩ => ⟨S_, .i32⟩
  | .hbm, ⟨15, _⟩ => ⟨S_, .f32⟩
  | .hbm, ⟨16, _⟩ => ⟨S128x2048, .f32⟩
  | .hbm, ⟨17, _⟩ => ⟨S128x2048, .bf16⟩
  | .hbm, ⟨18, _⟩ => ⟨S1024x2048, .f32⟩
  | .hbm, ⟨19, _⟩ => ⟨S1024x2048, .bf16⟩
  | .hbm, ⟨20, _⟩ => ⟨S_, .i32⟩
  | .hbm, ⟨21, _⟩ => ⟨S_, .f32⟩
  | .hbm, ⟨22, _⟩ => ⟨S128, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S1x2048, .f32⟩
  | .hbm, ⟨27, _⟩ => ⟨S8192x1024, .bf16⟩
  | .hbm, ⟨28, _⟩ => ⟨S8192x1024, .f32⟩
  | .hbm, ⟨29, _⟩ => ⟨S8192x1024, .bf16⟩
  | .hbm, ⟨30, _⟩ => ⟨S8192x1024, .f32⟩
  | .hbm, ⟨31, _⟩ => ⟨S8192x1024, .bf16⟩
  | .hbm, ⟨32, _⟩ => ⟨S8192x1024, .f32⟩
  | .hbm, ⟨33, _⟩ => ⟨S8192x128, .f32⟩
  | .hbm, ⟨34, _⟩ => ⟨S8192x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S128x2048, .bf16⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S512x1024, .f32⟩
  | .local _ .vmem, ⟨22, _⟩ => ⟨S512x1024, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S1x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_call1_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev main_v17_2 : Ref sig .tc := ⟨.hbm, 29, rfl⟩
abbrev main_v17_3 : Ref sig .tc := ⟨.hbm, 30, rfl⟩
abbrev main_v17_4 : Ref sig .tc := ⟨.hbm, 31, rfl⟩
abbrev main_v17_5 : Ref sig .tc := ⟨.hbm, 32, rfl⟩
abbrev main_v17_6 : Ref sig .tc := ⟨.hbm, 33, rfl⟩
abbrev main_v17_7 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== InpIdeal.lean ====
variable {F : FTy → Type} [FloatOps F] [Named F]
def κ : String → Option EReal := fun
  | "q_scale" => some (((Real.sqrt 128)⁻¹ * (Real.log 2)⁻¹ : ℝ) : EReal)
  | _ => none
-- ==== InpRefIdeal.lean ====
abbrev S8192x2048 : Shape := ⟨2, ![8192, 2048]⟩
abbrev S2048 : Shape := ⟨1, ![2048]⟩
abbrev S2048x4104 : Shape := ⟨2, ![2048, 4104]⟩
abbrev S8 : Shape := ⟨1, ![8]⟩
abbrev S128 : Shape := ⟨1, ![128]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x4104 : Shape := ⟨2, ![8192, 4104]⟩
abbrev S8192x1024 : Shape := ⟨2, ![8192, 1024]⟩
abbrev S8192x8x128 : Shape := ⟨3, ![8192, 8, 128]⟩
abbrev S8192x8 : Shape := ⟨2, ![8192, 8]⟩
abbrev S8192x8x1 : Shape := ⟨3, ![8192, 8, 1]⟩
abbrev S1x1x128 : Shape := ⟨3, ![1, 1, 128]⟩
abbrev S1x8 : Shape := ⟨2, ![1, 8]⟩
abbrev S8192x128 : Shape := ⟨2, ![8192, 128]⟩
abbrev S4x2048x128 : Shape := ⟨3, ![4, 2048, 128]⟩

abbrev nBuf : Space → Nat
  | .hbm => 102
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x4104, .f32⟩
  | .hbm, ⟨3, _⟩ => ⟨S8, .f32⟩
  | .hbm, ⟨4, _⟩ => ⟨S128, .f32⟩
  | .hbm, ⟨5, _⟩ => ⟨S128, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x4104, .f32⟩
  | .hbm, ⟨23, _⟩ => ⟨S8192x1024, .f32⟩
  | .hbm, ⟨24, _⟩ => ⟨S8192x8x128, .f32⟩
  | .hbm, ⟨25, _⟩ => ⟨S8192x8x128, .f32⟩
  | .hbm, ⟨26, _⟩ => ⟨S_, .f32⟩
  | .hbm, ⟨27, _⟩ => ⟨S8192x8, .f32⟩
  | .hbm, ⟨28, _⟩ => ⟨S8192x8x1, .f32⟩
  | .hbm, ⟨29, _⟩ => ⟨S_, .f32⟩
  | .hbm, ⟨30, _⟩ => ⟨S8192x8x1, .f32⟩
  | .hbm, ⟨31, _⟩ => ⟨S8192x8x1, .f32⟩
  | .hbm, ⟨32, _⟩ => ⟨S_, .f32⟩
  | .hbm, ⟨33, _⟩ => ⟨S8192x8x1, .f32⟩
  | .hbm, ⟨34, _⟩ => ⟨S8192x8x1, .f32⟩
  | .hbm, ⟨35, _⟩ => ⟨S8192x8x1, .f32⟩
  | .hbm, ⟨36, _⟩ => ⟨S8192x8x128, .f32⟩
  | .hbm, ⟨37, _⟩ => ⟨S8192x8x128, .f32⟩
  | .hbm, ⟨38, _⟩ => ⟨S1x1x128, .f32⟩
  | .hbm, ⟨39, _⟩ => ⟨S8192x8x128, .f32⟩
  | .hbm, ⟨40, _⟩ => ⟨S8192x8x128, .f32⟩
  | .hbm, ⟨41, _⟩ => ⟨S8192x1024, .f32⟩
  | .hbm, ⟨42, _⟩ => ⟨S8192x8x128, .f32⟩
  | .hbm, ⟨43, _⟩ => ⟨S8192x8x128, .f32⟩
  | .hbm, ⟨44, _⟩ => ⟨S_, .f32⟩
  | .hbm, ⟨45, _⟩ => ⟨S8192x8, .f32⟩
  | .hbm, ⟨46, _⟩ => ⟨S8192x8x1, .f32⟩
  | .hbm, ⟨47, _⟩ => ⟨S_, .f32⟩
  | .hbm, ⟨48, _⟩ => ⟨S8192x8x1, .f32⟩
  | .hbm, ⟨49, _⟩ => ⟨S8192x8x1, .f32⟩
  | .hbm, ⟨50, _⟩ => ⟨S_, .f32⟩
  | .hbm, ⟨51, _⟩ => ⟨S8192x8x1, .f32⟩
  | .hbm, ⟨52, _⟩ => ⟨S8192x8x1, .f32⟩
  | .hbm, ⟨53, _⟩ => ⟨S8192x8x1, .f32⟩
  | .hbm, ⟨54, _⟩ => ⟨S8192x8x128, .f32⟩
  | .hbm, ⟨55, _⟩ => ⟨S8192x8x128, .f32⟩
  | .hbm, ⟨56, _⟩ => ⟨S1x1x128, .f32⟩
  | .hbm, ⟨57, _⟩ => ⟨S8192x8x128, .f32⟩
  | .hbm, ⟨58, _⟩ => ⟨S8192x8x128, .f32⟩
  | .hbm, ⟨59, _⟩ => ⟨S8192x1024, .f32⟩
  | .hbm, ⟨60, _⟩ => ⟨S8192x1024, .f32⟩
  | .hbm, ⟨61, _⟩ => ⟨S8192x8, .f32⟩
  | .hbm, ⟨62, _⟩ => ⟨S8192x1024, .f32⟩
  | .hbm, ⟨63, _⟩ => ⟨S1x8, .f32⟩
  | .hbm, ⟨64, _⟩ => ⟨S8192x8, .f32⟩
  | .hbm, ⟨65, _⟩ => ⟨S8192x8, .f32⟩
  | .hbm, ⟨66, _⟩ => ⟨S_, .i32⟩
  | .hbm, ⟨67, _⟩ => ⟨S_, .f32⟩
  | .hbm, ⟨68, _⟩ => ⟨S8192x128, .f32⟩
  | .hbm, ⟨69, _⟩ => ⟨S8192x128, .f32⟩
  | .hbm, ⟨70, _⟩ => ⟨S_, .f32⟩
  | .hbm, ⟨71, _⟩ => ⟨S8192x128, .f32⟩
  | .hbm, ⟨72, _⟩ => ⟨S8192x128, .f32⟩
  | .hbm, ⟨73, _⟩ => ⟨S8192x128, .f32⟩
  | .hbm, ⟨74, _⟩ => ⟨S8192x128, .f32⟩
  | .hbm, ⟨75, _⟩ => ⟨S8192x128, .i1⟩
  | .hbm, ⟨76, _⟩ => ⟨S8192x128, .f32⟩
  | .hbm, ⟨77, _⟩ => ⟨S8192x128, .f32⟩
  | .hbm, ⟨78, _⟩ => ⟨S8192x128, .f32⟩
  | .hbm, ⟨79, _⟩ => ⟨S8192x128, .f32⟩
  | .hbm, ⟨80, _⟩ => ⟨S8192x128, .f32⟩
  | .hbm, ⟨81, _⟩ => ⟨S8192x128, .f32⟩
  | .hbm, ⟨82, _⟩ => ⟨S8192x128, .f32⟩
  | .hbm, ⟨83, _⟩ => ⟨S8192x128, .f32⟩
  | .hbm, ⟨84, _⟩ => ⟨S8192x128, .f32⟩
  | .hbm, ⟨85, _⟩ => ⟨S4x2048x128, .f32⟩
  | .hbm, ⟨86, _⟩ => ⟨S_, .f32⟩
  | .hbm, ⟨87, _⟩ => ⟨S_, .f32⟩
  | .hbm, ⟨88, _⟩ => ⟨S4x2048x128, .f32⟩
  | .hbm, ⟨89, _⟩ => ⟨S8192x128, .f32⟩
  | .hbm, ⟨90, _⟩ => ⟨S_, .f32⟩
  | .hbm, ⟨91, _⟩ => ⟨S_, .f32⟩
  | .hbm, ⟨92, _⟩ => ⟨S8192x8x128, .f32⟩
  | .hbm, ⟨93, _⟩ => ⟨S8192x8x128, .f32⟩
  | .hbm, ⟨94, _⟩ => ⟨S_, .f32⟩
  | .hbm, ⟨95, _⟩ => ⟨S_, .f32⟩
  | .hbm, ⟨96, _⟩ => ⟨S8192x8x128, .f32⟩
  | .hbm, ⟨97, _⟩ => ⟨S8192x8x128, .f32⟩
  | .hbm, ⟨98, _⟩ => ⟨S8192x1024, .f32⟩
  | .hbm, ⟨99, _⟩ => ⟨S8192x1024, .bf16⟩
  | .hbm, ⟨100, _⟩ => ⟨S8192x1024, .bf16⟩
  | .hbm, ⟨101, _⟩ => ⟨S8192x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_c : Ref sig .tc := ⟨.hbm, 66, rfl⟩
abbrev main_call0_v0 : Ref sig .tc := ⟨.hbm, 67, rfl⟩
abbrev main_v51 : Ref sig .tc := ⟨.hbm, 68, rfl⟩
abbrev main_call1_v0 : Ref sig .tc := ⟨.hbm, 69, rfl⟩
abbrev main_call1_call0_cst : Ref sig .tc := ⟨.hbm, 70, rfl⟩
abbrev main_call1_call0_v0 : Ref sig .tc := ⟨.hbm, 71, rfl⟩
abbrev main_call1_call0_v1 : Ref sig .tc := ⟨.hbm, 72, rfl⟩
abbrev main_call1_call0_v2 : Ref sig .tc := ⟨.hbm, 73, rfl⟩
abbrev main_call1_call0_v3 : Ref sig .tc := ⟨.hbm, 74, rfl⟩
abbrev main_call1_call0_v4 : Ref sig .tc := ⟨.hbm, 75, rfl⟩
abbrev main_call1_call0_v5 : Ref sig .tc := ⟨.hbm, 76, rfl⟩
abbrev main_call1_call0_v6 : Ref sig .tc := ⟨.hbm, 77, rfl⟩
abbrev main_call1_call0_v7 : Ref sig .tc := ⟨.hbm, 78, rfl⟩
abbrev main_call1_call0_v8 : Ref sig .tc := ⟨.hbm, 79, rfl⟩
abbrev main_call1_call0_v9 : Ref sig .tc := ⟨.hbm, 80, rfl⟩
abbrev main_call1_call0_v10 : Ref sig .tc := ⟨.hbm, 81, rfl⟩
abbrev main_call1_call0_v11 : Ref sig .tc := ⟨.hbm, 82, rfl⟩
abbrev main_call1_v1 : Ref sig .tc := ⟨.hbm, 83, rfl⟩
abbrev main_v52 : Ref sig .tc := ⟨.hbm, 84, rfl⟩
abbrev main_v53 : Ref sig .tc := ⟨.hbm, 85, rfl⟩
abbrev main_call2_call0_cst : Ref sig .tc := ⟨.hbm, 86, rfl⟩
abbrev main_call2_call0_v0 : Ref sig .tc := ⟨.hbm, 87, rfl⟩
abbrev main_v54 : Ref sig .tc := ⟨.hbm, 88, rfl⟩
abbrev main_v55 : Ref sig .tc := ⟨.hbm, 89, rfl⟩
abbrev main_cst_8 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_9 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩

abbrev nD : Nat := 1
abbrev τ : Topo := Topo.v7x

variable {F : FTy → Type} [FloatOps F]
-- ==== Pool.lean ====
abbrev S8192x2048 : Shape := ⟨2, ![8192, 2048]⟩
abbrev S2048 : Shape := ⟨1, ![2048]⟩
abbrev S4x512x512 : Shape := ⟨3, ![4, 512, 512]⟩
abbrev S1x2048 : Shape := ⟨2, ![1, 2048]⟩
abbrev S4x15x2048 : Shape := ⟨3, ![4, 15, 2048]⟩
abbrev S512x2048 : Shape := ⟨2, ![512, 2048]⟩
abbrev S1x15x2048 : Shape := ⟨3, ![1, 15, 2048]⟩
abbrev S544x2048 : Shape := ⟨2, ![544, 2048]⟩
abbrev S3x544x512 : Shape := ⟨3, ![3, 544, 512]⟩
abbrev S32x2048 : Shape := ⟨2, ![32, 2048]⟩
abbrev S512 : Shape := ⟨1, ![512]⟩
abbrev S512x1 : Shape := ⟨2, ![512, 1]⟩
abbrev S536x512 : Shape := ⟨2, ![536, 512]⟩
abbrev S512x512 : Shape := ⟨2, ![512, 512]⟩
abbrev S1x512x512 : Shape := ⟨3, ![1, 512, 512]⟩
abbrev S1x512 : Shape := ⟨2, ![1, 512]⟩
abbrev S1x536x512 : Shape := ⟨3, ![1, 536, 512]⟩
abbrev S1x528x512 : Shape := ⟨3, ![1, 528, 512]⟩
abbrev S528x512 : Shape := ⟨2, ![528, 512]⟩
abbrev S1x520x512 : Shape := ⟨3, ![1, 520, 512]⟩
abbrev S520x512 : Shape := ⟨2, ![520, 512]⟩
abbrev S15x2048 : Shape := ⟨2, ![15, 2048]⟩

abbrev nBuf : Space → Nat
  | .hbm => 9
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S4x512x512, .f32⟩
  | .hbm, ⟨3, _⟩ => ⟨S2048, .f32⟩
  | .hbm, ⟨4, _⟩ => ⟨S1x2048, .f32⟩
  | .hbm, ⟨5, _⟩ => ⟨S4x512x512, .bf16⟩
  | .hbm, ⟨6, _⟩ => ⟨S1x2048, .f32⟩
  | .hbm, ⟨7, _⟩ => ⟨S8192x2048, .f32⟩
  | .hbm, ⟨8, _⟩ => ⟨S4x15x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S4x512x512, .bf16⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S1x15x2048, .f32⟩
  | .local _ .vmem, ⟨8, _⟩ => ⟨S1x15x2048, .f32⟩
  | .local _ .vmem, ⟨9, _⟩ => ⟨S544x2048, .f32⟩
  | .local _ .vmem, ⟨10, _⟩ => ⟨S3x544x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x15x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PoolRefIdeal.lean ====
abbrev S8192x2048 : Shape := ⟨2, ![8192, 2048]⟩
abbrev S2048 : Shape := ⟨1, ![2048]⟩
abbrev S4x512x512 : Shape := ⟨3, ![4, 512, 512]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S4x2048x2048 : Shape := ⟨3, ![4, 2048, 2048]⟩
abbrev S4x15x2048 : Shape := ⟨3, ![4, 15, 2048]⟩
abbrev S4x2063x2048 : Shape := ⟨3, ![4, 2063, 2048]⟩
abbrev S4x2064x2048 : Shape := ⟨3, ![4, 2064, 2048]⟩
abbrev S4x2048x512 : Shape := ⟨3, ![4, 2048, 512]⟩
abbrev S1x2048x1 : Shape := ⟨3, ![1, 2048, 1]⟩
abbrev S1x512x512 : Shape := ⟨3, ![1, 512, 512]⟩
abbrev S512x512 : Shape := ⟨2, ![512, 512]⟩
abbrev S1x1x2048 : Shape := ⟨3, ![1, 1, 2048]⟩

abbrev nBuf : Space → Nat
  | .hbm => 111
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S4x512x512, .f32⟩
  | .hbm, ⟨3, _⟩ => ⟨S2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S4x2048x2048, .f32⟩
  | .hbm, ⟨21, _⟩ => ⟨S_, .f32⟩
  | .hbm, ⟨22, _⟩ => ⟨S4x15x2048, .f32⟩
  | .hbm, ⟨23, _⟩ => ⟨S4x2063x2048, .f32⟩
  | .hbm, ⟨24, _⟩ => ⟨S2048, .i32⟩
  | .hbm, ⟨25, _⟩ => ⟨S_, .f32⟩
  | .hbm, ⟨26, _⟩ => ⟨S_, .f32⟩
  | .hbm, ⟨27, _⟩ => ⟨S4x2063x2048, .f32⟩
  | .hbm, ⟨28, _⟩ => ⟨S_, .i32⟩
  | .hbm, ⟨29, _⟩ => ⟨S_, .f32⟩
  | .hbm, ⟨30, _⟩ => ⟨S4x2064x2048, .f32⟩
  | .hbm, ⟨31, _⟩ => ⟨S4x2048x2048, .f32⟩
  | .hbm, ⟨32, _⟩ => ⟨S4x2048x512, .f32⟩
  | .hbm, ⟨33, _⟩ => ⟨S4x2048x512, .f32⟩
  | .hbm, ⟨34, _⟩ => ⟨S_, .i32⟩
  | .hbm, ⟨35, _⟩ => ⟨S2048, .i32⟩
  | .hbm, ⟨36, _⟩ => ⟨S2048, .i32⟩
  | .hbm, ⟨37, _⟩ => ⟨S_, .i32⟩
  | .hbm, ⟨38, _⟩ => ⟨S2048, .i32⟩
  | .hbm, ⟨39, _⟩ => ⟨S2048, .i32⟩
  | .hbm, ⟨40, _⟩ => ⟨S2048, .f32⟩
  | .hbm, ⟨41, _⟩ => ⟨S1x2048x1, .f32⟩
  | .hbm, ⟨42, _⟩ => ⟨S4x2048x512, .f32⟩
  | .hbm, ⟨43, _⟩ => ⟨S4x2048x512, .f32⟩
  | .hbm, ⟨44, _⟩ => ⟨S4x2048x512, .f32⟩
  | .hbm, ⟨45, _⟩ => ⟨S4x2048x512, .f32⟩
  | .hbm, ⟨46, _⟩ => ⟨S4x2048x512, .f32⟩
  | .hbm, ⟨47, _⟩ => ⟨S1x512x512, .f32⟩
  | .hbm, ⟨48, _⟩ => ⟨S512x512, .f32⟩
  | .hbm, ⟨49, _⟩ => ⟨S4x2048x512, .f32⟩
  | .hbm, ⟨50, _⟩ => ⟨S4x2048x512, .f32⟩
  | .hbm, ⟨51, _⟩ => ⟨S4x2048x512, .f32⟩
  | .hbm, ⟨52, _⟩ => ⟨S_, .i32⟩
  | .hbm, ⟨53, _⟩ => ⟨S2048, .i32⟩
  | .hbm, ⟨54, _⟩ => ⟨S2048, .i32⟩
  | .hbm, ⟨55, _⟩ => ⟨S_, .i32⟩
  | .hbm, ⟨56, _⟩ => ⟨S2048, .i32⟩
  | .hbm, ⟨57, _⟩ => ⟨S2048, .i32⟩
  | .hbm, ⟨58, _⟩ => ⟨S2048, .f32⟩
  | .hbm, ⟨59, _⟩ => ⟨S1x2048x1, .f32⟩
  | .hbm, ⟨60, _⟩ => ⟨S4x2048x512, .f32⟩
  | .hbm, ⟨61, _⟩ => ⟨S4x2048x512, .f32⟩
  | .hbm, ⟨62, _⟩ => ⟨S4x2048x512, .f32⟩
  | .hbm, ⟨63, _⟩ => ⟨S4x2048x512, .f32⟩
  | .hbm, ⟨64, _⟩ => ⟨S4x2048x512, .f32⟩
  | .hbm, ⟨65, _⟩ => ⟨S1x512x512, .f32⟩
  | .hbm, ⟨66, _⟩ => ⟨S512x512, .f32⟩
  | .hbm, ⟨67, _⟩ => ⟨S4x2048x512, .f32⟩
  | .hbm, ⟨68, _⟩ => ⟨S4x2048x512, .f32⟩
  | .hbm, ⟨69, _⟩ => ⟨S4x2048x512, .f32⟩
  | .hbm, ⟨70, _⟩ => ⟨S_, .i32⟩
  | .hbm, ⟨71, _⟩ => ⟨S2048, .i32⟩
  | .hbm, ⟨72, _⟩ => ⟨S2048, .i32⟩
  | .hbm, ⟨73, _⟩ => ⟨S_, .i32⟩
  | .hbm, ⟨74, _⟩ => ⟨S2048, .i32⟩
  | .hbm, ⟨75, _⟩ => ⟨S2048, .i32⟩
  | .hbm, ⟨76, _⟩ => ⟨S2048, .f32⟩
  | .hbm, ⟨77, _⟩ => ⟨S1x2048x1, .f32⟩
  | .hbm, ⟨78, _⟩ => ⟨S4x2048x512, .f32⟩
  | .hbm, ⟨79, _⟩ => ⟨S4x2048x512, .f32⟩
  | .hbm, ⟨80, _⟩ => ⟨S4x2048x512, .f32⟩
  | .hbm, ⟨81, _⟩ => ⟨S4x2048x512, .f32⟩
  | .hbm, ⟨82, _⟩ => ⟨S4x2048x512, .f32⟩
  | .hbm, ⟨83, _⟩ => ⟨S1x512x512, .f32⟩
  | .hbm, ⟨84, _⟩ => ⟨S512x512, .f32⟩
  | .hbm, ⟨85, _⟩ => ⟨S4x2048x512, .f32⟩
  | .hbm, ⟨86, _⟩ => ⟨S4x2048x512, .f32⟩
  | .hbm, ⟨87, _⟩ => ⟨S4x2048x512, .f32⟩
  | .hbm, ⟨88, _⟩ => ⟨S_, .i32⟩
  | .hbm, ⟨89, _⟩ => ⟨S2048, .i32⟩
  | .hbm, ⟨90, _⟩ => ⟨S2048, .i32⟩
  | .hbm, ⟨91, _⟩ => ⟨S_, .i32⟩
  | .hbm, ⟨92, _⟩ => ⟨S2048, .i32⟩
  | .hbm, ⟨93, _⟩ => ⟨S2048, .i32⟩
  | .hbm, ⟨94, _⟩ => ⟨S2048, .f32⟩
  | .hbm, ⟨95, _⟩ => ⟨S1x2048x1, .f32⟩
  | .hbm, ⟨96, _⟩ => ⟨S4x2048x512, .f32⟩
  | .hbm, ⟨97, _⟩ => ⟨S4x2048x512, .f32⟩
  | .hbm, ⟨98, _⟩ => ⟨S4x2048x512, .f32⟩
  | .hbm, ⟨99, _⟩ => ⟨S4x2048x512, .f32⟩
  | .hbm, ⟨100, _⟩ => ⟨S4x2048x512, .f32⟩
  | .hbm, ⟨101, _⟩ => ⟨S1x512x512, .f32⟩
  | .hbm, ⟨102, _⟩ => ⟨S512x512, .f32⟩
  | .hbm, ⟨103, _⟩ => ⟨S4x2048x512, .f32⟩
  | .hbm, ⟨104, _⟩ => ⟨S4x2048x2048, .f32⟩
  | .hbm, ⟨105, _⟩ => ⟨S1x1x2048, .f32⟩
  | .hbm, ⟨106, _⟩ => ⟨S4x2048x2048, .f32⟩
  | .hbm, ⟨107, _⟩ => ⟨S4x2048x2048, .f32⟩
  | .hbm, ⟨108, _⟩ => ⟨S8192x2048, .f32⟩
  | .hbm, ⟨109, _⟩ => ⟨S8192x2048, .f32⟩
  | .hbm, ⟨110, _⟩ => ⟨S4x15x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_call0_cst : Ref sig .tc := ⟨.hbm, 25, rfl⟩
abbrev main_call0_call0_v0 : Ref sig .tc := ⟨.hbm, 26, rfl⟩
abbrev main_v17 : Ref sig .tc := ⟨.hbm, 27, rfl⟩
abbrev main_c : Ref sig .tc := ⟨.hbm, 28, rfl⟩
abbrev main_call1_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_5 : Ref sig .tc := ⟨.hbm, 52, rfl⟩
abbrev main_v38 : Ref sig .tc := ⟨.hbm, 53, rfl⟩
abbrev main_v39 : Ref sig .tc := ⟨.hbm, 54, rfl⟩
abbrev main_c_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_c_7 : Ref sig .tc := ⟨.hbm, 70, rfl⟩
abbrev main_v54 : Ref sig .tc := ⟨.hbm, 71, rfl⟩
abbrev main_v55 : Ref sig .tc := ⟨.hbm, 72, rfl⟩
abbrev main_c_8 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_c_9 : Ref sig .tc := ⟨.hbm, 88, rfl⟩
abbrev main_v70 : Ref sig .tc := ⟨.hbm, 89, rfl⟩
abbrev main_v71 : Ref sig .tc := ⟨.hbm, 90, rfl⟩
abbrev main_c_10 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩

abbrev nD : Nat := 1
abbrev τ : Topo := Topo.v7x

variable {F : FTy → Type} [FloatOps F]
-- ==== Proof.Row.lean ====
/- Sums of extended reals with real weights, and a softmax row accumulated tile by tile: plain mathematics, no program. -/
module

public import Idealize.ShloMosaic.PureOps.Ideal.Laws

@[expose] public section

noncomputable section

namespace Cert.Row

open Idealize.ShloMosaic

/-- A real factor moves into a finite sum of extended reals when it is not negative. -/
theorem coe_mul_sum {ι : Type*} (s : Finset ι) (f : ι → EReal) (c : ℝ) (hc : 0 ≤ c) :
    (c : EReal) * ∑ i ∈ s, f i = ∑ i ∈ s, (c : EReal) * f i := by
  classical
  induction s using Finset.induction_on with
  | empty => simp
  | insert a s ha ih =>
    rw [Finset.sum_insert ha, Finset.sum_insert ha, ← ih,
      EReal.left_distrib_of_nonneg_of_ne_top (EReal.coe_nonneg.2 hc) (EReal.coe_ne_top c)]

/-- The same with the factor on the right. -/
theorem sum_mul_coe {ι : Type*} (s : Finset ι) (f : ι → EReal) (c : ℝ) (hc : 0 ≤ c) :
    (∑ i ∈ s, f i) * (c : EReal) = ∑ i ∈ s, f i * (c : EReal) := by
  rw [mul_comm, coe_mul_sum s f c hc]
  exact Finset.sum_congr rfl fun i _ => mul_comm _ _

/-- A sum of reals, read as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of reals is real. -/
theorem sum_real {ι : Type*} (s : Finset ι) (f : ι → EReal) (h : ∀ i ∈ s, ∃ x : ℝ, f i = x) : ∃ x : ℝ, ∑ i ∈ s, f i = x := by
  classical
  induction s using Finset.induction_on with
  | empty => exact ⟨0, by simp⟩
  | insert a s ha ih =>
    obtain ⟨x, hx⟩ := ih fun i hi => h i (Finset.mem_insert_of_mem hi)
    obtain ⟨y, hy⟩ := h a (Finset.mem_insert_self a s)
    exact ⟨y + x, by rw [Finset.sum_insert ha, hx, hy, EReal.coe_add]⟩

/-- The maximum over a finite family of numbers and `−∞`s, one of them a number, is a number. -/
theorem fold_max_real {ι : Type*} [Fintype ι] (f : ι → EReal) (hlt : ∀ j, f j ≠ ⊤) (j₀ : ι) (h₀ : f j₀ ≠ ⊥) :
    ∃ x : ℝ, (Finset.univ : Finset ι).fold max ⊥ f = x := by
  have e : (Finset.univ : Finset ι).fold max ⊥ f = Finset.univ.sup f := rfl
  rw [e]
  have h1 : Finset.univ.sup f < ⊤ := (Finset.sup_lt_iff bot_lt_top).2 fun j _ => lt_top_iff_ne_top.2 (hlt j)
  have h2 : ⊥ < Finset.univ.sup f := (bot_lt_iff_ne_bot.2 h₀).trans_le (Finset.le_sup (Finset.mem_univ j₀))
  exact ⟨_, (EReal.coe_toReal h1.ne h2.ne').symm⟩

/-! ## Weights of a row -/

/-- The weight of key `k` of a row against the running maximum `m`: two to the score less `m`, nothing where masked. -/
def w (keep : ℕ → Prop) [DecidablePred keep] (s : ℕ → ℝ) (m : ℝ) (k : ℕ) : ℝ := if keep k then (2 : ℝ) ^ (s k - m) else 0

variable (keep : ℕ → Prop) [DecidablePred keep] (s : ℕ → ℝ)

theorem w_nonneg (m : ℝ) (k : ℕ) : 0 ≤ w keep s m k := by
  unfold w; split
  · positivity
  · exact le_rfl

/-- Weights against one maximum are weights against another times two to the difference. -/
theorem w_rescale (m m' : ℝ) (k : ℕ) : (2 : ℝ) ^ (m - m') * w keep s m k = w keep s m' k := by
  unfold w; split
  · rw [← Real.rpow_add two_pos]; congr 1; ring
  · exact mul_zero _

/-- What a weight is in the kernel: `exp2` of the masked score less the maximum. -/
theorem exp2_eq_w (m cq : ℝ) (k : ℕ) (t : EReal) (ht : t = if keep k then ((s k - cq : ℝ) : EReal) else ⊥) :
    Ideal.exp2 (t - ((m : EReal) - (cq : EReal))) = ((w keep s m k : ℝ) : EReal) := by
  subst ht
  rw [← EReal.coe_sub]
  unfold w
  split
  · rw [← EReal.coe_sub]
    show ((Real.rpow 2 _ : ℝ) : EReal) = _
    congr 2
    ring_nf
  · rw [EReal.bot_sub]; rfl

/-- What a row's state says of its first `n` keys: some real `m`, the sum of weights against it, the weighted sum of values. -/
def Inv {D : Type*} (v : ℕ → D → EReal) (n : ℕ) (M L : EReal) (A : D → EReal) : Prop :=
  ∃ m : ℝ, M = m ∧ L = ((∑ k ∈ Finset.range n, w keep s m k : ℝ) : EReal)
    ∧ ∀ d, A d = ∑ k ∈ Finset.range n, ((w keep s m k : ℝ) : EReal) * v k d

/-- A tile's sum of weights. -/
theorem tile_sum (m cq : ℝ) (n T : ℕ) (t : Fin T → EReal)
    (ht : ∀ j : Fin T, t j = if keep (n + j) then ((s (n + j) - cq : ℝ) : EReal) else ⊥) :
    ∑ j : Fin T, Ideal.exp2 (t j - ((m : EReal) - (cq : EReal))) = ((∑ j ∈ Finset.range T, w keep s m (n + j) : ℝ) : EReal) := by
  rw [coe_sum, Finset.sum_range]
  exact Finset.sum_congr rfl fun j _ => exp2_eq_w keep s m cq (n + j) (t j) (ht j)

/-- A tile's weighted sum of values. -/
theorem tile_dot {D : Type*} (v : ℕ → D → EReal) (m cq : ℝ) (n T : ℕ) (t : Fin T → EReal)
    (ht : ∀ j : Fin T, t j = if keep (n + j) then ((s (n + j) - cq : ℝ) : EReal) else ⊥) (d : D) :
    ∑ j : Fin T, Ideal.exp2 (t j - ((m : EReal) - (cq : EReal))) * v (n + j) d
      = ∑ j ∈ Finset.range T, ((w keep s m (n + j) : ℝ) : EReal) * v (n + j) d := by
  rw [Finset.sum_range]
  exact Finset.sum_congr rfl fun j _ => by rw [exp2_eq_w keep s m cq (n + j) (t j) (ht j)]

/-- The maximum of a tile with a key in it is a number. -/
theorem tile_max (cq : ℝ) (n T : ℕ) (t : Fin T → EReal)
    (ht : ∀ j : Fin T, t j = if keep (n + j) then ((s (n + j) - cq : ℝ) : EReal) else ⊥) (j₀ : Fin T) (h₀ : keep (n + j₀)) :
    ∃ x : ℝ, (Finset.univ : Finset (Fin T)).fold max ⊥ t + (cq : EReal) = x := by
  obtain ⟨x, hx⟩ := fold_max_real t (fun j => by
      rw [ht j]; split
      · exact EReal.coe_ne_top _
      · exact bot_ne_top) j₀ (by rw [ht j₀, if_pos h₀]; exact EReal.coe_ne_bot _)
  exact ⟨x + cq, by rw [hx, EReal.coe_add]⟩

/-- The first tile establishes the invariant. -/
theorem inv_init {D : Type*} (v : ℕ → D → EReal) (cq : ℝ) (T : ℕ) (t : Fin T → EReal)
    (ht : ∀ j : Fin T, t j = if keep j then ((s j - cq : ℝ) : EReal) else ⊥) (j₀ : Fin T) (h₀ : keep j₀)
    (M : EReal) (hM : M = (Finset.univ : Finset (Fin T)).fold max ⊥ t + (cq : EReal)) (L : EReal)
    (hL : L = ∑ j : Fin T, Ideal.exp2 (t j - (M - (cq : EReal)))) (A : D → EReal)
    (hA : ∀ d, A d = ∑ j : Fin T, Ideal.exp2 (t j - (M - (cq : EReal))) * v j d) :
    Inv keep s v T M L A := by
  have ht' : ∀ j : Fin T, t j = if keep (0 + j) then ((s (0 + j) - cq : ℝ) : EReal) else ⊥ := by simpa using ht
  obtain ⟨m, hm⟩ := tile_max keep s cq 0 T t ht' j₀ (by simpa using h₀)
  rw [← hM] at hm
  refine ⟨m, hm, ?_, fun d => ?_⟩
  · rw [hL, hm, tile_sum keep s m cq 0 T t ht']; simp
  · rw [hA d, hm]
    have := tile_dot keep s v m cq 0 T t ht' d
    simpa using this

/-- A further tile keeps it. -/
theorem inv_step {D : Type*} (v : ℕ → D → EReal) (cq : ℝ) (n T : ℕ) (t : Fin T → EReal)
    (ht : ∀ j : Fin T, t j = if keep (n + j) then ((s (n + j) - cq : ℝ) : EReal) else ⊥) (j₀ : Fin T) (h₀ : keep (n + j₀))
    (M L : EReal) (A : D → EReal) (h : Inv keep s v n M L A)
    (M' : EReal) (hM : M' = max M ((Finset.univ : Finset (Fin T)).fold max ⊥ t + (cq : EReal))) (L' : EReal)
    (hL : L' = Ideal.exp2 (M - M') * L + ∑ j : Fin T, Ideal.exp2 (t j - (M' - (cq : EReal)))) (A' : D → EReal)
    (hA : ∀ d, A' d = Ideal.exp2 (M - M') * A d + ∑ j : Fin T, Ideal.exp2 (t j - (M' - (cq : EReal))) * v (n + j) d) :
    Inv keep s v (n + T) M' L' A' := by
  obtain ⟨m, rfl, rfl, hA0⟩ := h
  obtain ⟨x, hx⟩ := tile_max keep s cq n T t ht j₀ h₀
  obtain ⟨m', hm'⟩ : ∃ m' : ℝ, M' = m' := ⟨max m x, by rw [hM, hx]; exact (EReal.coe_strictMono.monotone.map_max).symm⟩
  subst hm'
  have e : Ideal.exp2 ((m : EReal) - (m' : EReal)) = (((2 : ℝ) ^ (m - m') : ℝ) : EReal) := by rw [← EReal.coe_sub]; rfl
  refine ⟨m', rfl, ?_, fun d => ?_⟩
  · rw [hL, tile_sum keep s m' cq n T t ht, e, ← EReal.coe_mul, ← EReal.coe_add, Finset.sum_range_add, Finset.mul_sum]
    congr 2
    exact Finset.sum_congr rfl fun k _ => w_rescale keep s m m' k
  · rw [hA d, tile_dot keep s v m' cq n T t ht d, e, hA0 d, Finset.sum_range_add, coe_mul_sum _ _ _ (by positivity)]
    congr 1
    refine Finset.sum_congr rfl fun k _ => ?_
    rw [← mul_assoc, ← EReal.coe_mul, w_rescale]

/-- Dividing by a positive real is multiplying by its inverse. -/
theorem div_coe (x : EReal) (y : ℝ) (hy : y ≠ 0) : Ideal.div x (y : EReal) = x * ((y⁻¹ : ℝ) : EReal) := by
  unfold Ideal.div
  rw [if_neg (by exact_mod_cast hy), EReal.coe_inv]

/-- The accumulated quotient is the softmax sum: weights `exp (ρ k − R)` with `s k · log 2 = ρ k`, normalised one by one,
    over all `N` keys, those from `n` on masked. -/
theorem quotient_eq {D : Type*} (v : ℕ → D → EReal) (n N : ℕ) (hn : n ≤ N) (M L : EReal) (A : D → EReal)
    (h : Inv keep s v n M L A) (hlate : ∀ k, n ≤ k → ¬ keep k) (ρ : ℕ → ℝ) (hρ : ∀ k, s k * Real.log 2 = ρ k)
    (R : ℝ) (k₀ : ℕ) (hk : k₀ < n) (h₀ : keep k₀) (d : D) :
    Ideal.div (A d) L = ∑ k ∈ Finset.range N, v k d * Ideal.div (if keep k then ((Real.exp (ρ k - R) : ℝ) : EReal) else 0)
        ((∑ j ∈ Finset.range N, if keep j then Real.exp (ρ j - R) else 0 : ℝ) : EReal) := by
  obtain ⟨m, rfl, rfl, hA⟩ := h
  set e : ℕ → ℝ := fun k => if keep k then Real.exp (ρ k - R) else 0 with he
  have hC : ∀ k, w keep s m k = e k * Real.exp (R - m * Real.log 2) := fun k => by
    simp only [w, he]
    split
    · rw [← Real.exp_add, ← hρ k, Real.rpow_def_of_pos two_pos]; congr 1; ring
    · rw [zero_mul]
  have e0 : ∀ k, 0 ≤ e k := fun k => by simp only [he]; split <;> positivity
  have hs : ∀ (g : ℕ → EReal), (∀ k, n ≤ k → g k = 0) → ∑ k ∈ Finset.range N, g k = ∑ k ∈ Finset.range n, g k := fun g hg =>
    (Finset.sum_subset (Finset.range_mono hn) fun k _ hk' => hg k (by simpa using hk')).symm
  have hS : (∑ j ∈ Finset.range N, e j) = ∑ j ∈ Finset.range n, e j :=
    (Finset.sum_subset (Finset.range_mono hn) fun k _ hk' => by
      simp only [he]; rw [if_neg (hlate k (by simpa using hk'))]).symm
  have hpos : 0 < ∑ j ∈ Finset.range n, e j :=
    Finset.sum_pos' (fun k _ => e0 k) ⟨k₀, Finset.mem_range.2 hk, by simp only [he]; rw [if_pos h₀]; positivity⟩
  rw [hS]
  set S := ∑ j ∈ Finset.range n, e j with hSdef
  have hL : (∑ k ∈ Finset.range n, w keep s m k) = S * Real.exp (R - m * Real.log 2) := by
    rw [hSdef, Finset.sum_mul]; exact Finset.sum_congr rfl fun k _ => hC k
  have hcast : ∀ k, (if keep k then ((Real.exp (ρ k - R) : ℝ) : EReal) else 0) = ((e k : ℝ) : EReal) := fun k => by
    simp only [he]; split
    · rfl
    · exact EReal.coe_zero.symm
  have hE : 0 < Real.exp (R - m * Real.log 2) := Real.exp_pos _
  rw [hs _ (fun k hk' => by rw [if_neg (hlate k hk'), div_coe _ _ hpos.ne', zero_mul, mul_zero]), hL, hA d,
    div_coe _ _ (mul_pos hpos hE).ne', sum_mul_coe _ _ _ (inv_nonneg.2 (mul_pos hpos hE).le)]
  refine Finset.sum_congr rfl fun k _ => ?_
  rw [hcast, div_coe _ _ hpos.ne', hC k, ← EReal.coe_mul, mul_right_comm, ← EReal.coe_mul, mul_comm]
  congr 2
  field_simp

end Cert.Row

end
-- ==== Proof.AttnTile.lean ====
/- The operations one query tile of the attention kernel is made of, on tiles of 512 rows, each read at an index. -/
module

public import proofs.«01_k».proof.Proof.Row
public import proofs.«01_k».proof.Proof.Gen.AttnIdeal.Value
public import Idealize.ShloMosaic.Lib.Pointwise

@[expose] public section

noncomputable section

namespace Cert.AttnTile

open Cert.AttnIdeal Cert.AttnIdeal.Gen Idealize.ShloMosaic Idealize.SL.Sem

/-- log2(e), the named constant. -/
def log2e : ℝ := (Real.log 2)⁻¹

/-- Its value. -/
theorem named_log2e : (Named.named (F := Ideal) (φ := .f32) κ "log2e" 0x3FB8AA3B#32 : EReal) = ((log2e : ℝ) : EReal) :=
  IdealRules.named_const.ideal_named_scalar _ _ _ _ rfl

/-- Minus infinity, the mask's fill and the maximum's start. -/
theorem neg_inf : Ideal.ofBits .f32 0xFF800000#32 = ⊥ := by simp [Ideal.ofBits, Ideal.ieee]

/-- The scores of a query tile against a key tile, without the query's own log forget. -/
def sc (q k : FVec Ideal S512x128 .bf16) (ck : FVec Ideal S1x1x1x512 .f32) : FVec Ideal S512x512 .f32 :=
  subf (matmul dot_S512x128_S512x128_S512x512_1_1_0_0_n_n none q k (constant S512x512 .f32 0x00000000#32))
    (broadcastTo S512x512 (mulf (shapeCast S1x512 ck shapeCasts_S1x1x1x512_S1x512)
      (broadcast S1x512 (Named.named κ "log2e" 0x3FB8AA3B#32))) broadcasts_S1x512_S512x512)

/-- The causal mask of a diagonal tile. -/
def msk (t : FVec Ideal S512x512 .f32) : FVec Ideal S512x512 .f32 :=
  select (cmpi .sle (iota .tc S512x512 32 [1] iota_S512x512_d1_w32) (iota .tc S512x512 32 [0] iota_S512x512_d0_w32)) t
    (broadcast S512x512 (Scalar.ofBits .f32 0xFF800000#32))

/-- The queries' own cumulative log forget, in base two: the lane of the head, picked out of the 128. -/
def cq (i : grid0.Coords) (c : FVec Ideal S512x128 .f32) : FVec Ideal S512x1 .f32 :=
  mulf (shapeCast S512x1 (multiReduction .add [1] S512 (select (k0_pay2 i) c (broadcast S512x128 (Scalar.ofBits .f32 0x00000000#32)))
      0x00000000#32 reduces_S512x128_S512 (.inl rfl) rfl) shapeCasts_S512_S512x1)
    (broadcast S512x1 (Named.named κ "log2e" 0x3FB8AA3B#32))

/-- A tile's row maxima, with the queries' log forget put back. -/
def mx (t : FVec Ideal S512x512 .f32) (b : FVec Ideal S512x1 .f32) : FVec Ideal S512x1 .f32 :=
  addf (shapeCast S512x1 (multiReduction .maximumf [1] S512 t 0xFF800000#32 reduces_S512x512_S512 (.inl rfl) rfl) shapeCasts_S512_S512x1) b

/-- A tile's weights against the maxima `m`. -/
def pr (t : FVec Ideal S512x512 .f32) (m b : FVec Ideal S512x1 .f32) : FVec Ideal S512x512 .f32 :=
  exp2 (subf t (broadcastTo S512x512 (subf m b) broadcasts_S512x1_S512x512))

/-- Row sums. -/
def rs (p : FVec Ideal S512x512 .f32) : FVec Ideal S512x1 .f32 :=
  shapeCast S512x1 (multiReduction .add [1] S512 p 0x00000000#32 reduces_S512x512_S512 (.inl rfl) rfl) shapeCasts_S512_S512x1

/-- Weights times values. -/
def pv (p : FVec Ideal S512x512 .f32) (v : FVec Ideal S512x128 .bf16) : FVec Ideal S512x128 .f32 :=
  matmul dot_S512x512_S512x128_S512x128_1_0_0_1_n_n none (truncf .bf16 p bitsLt_bf16_f32) v (constant S512x128 .f32 0x00000000#32)

/-- The running maximum, sum of weights and weighted sum of values of a query tile. -/
structure St where
  m : FVec Ideal S512x1 .f32
  l : FVec Ideal S512x1 .f32
  a : FVec Ideal S512x128 .f32

/-- The state after the first key tile. -/
def ini (t : FVec Ideal S512x512 .f32) (b : FVec Ideal S512x1 .f32) (v : FVec Ideal S512x128 .bf16) : St where
  m := mx t b
  l := rs (pr t (mx t b) b)
  a := pv (pr t (mx t b) b) v

/-- The state after one more. -/
def stp (s : St) (t : FVec Ideal S512x512 .f32) (b : FVec Ideal S512x1 .f32) (v : FVec Ideal S512x128 .bf16) : St where
  m := maximumf s.m (mx t b)
  l := addf (mulf (exp2 (subf s.m (maximumf s.m (mx t b)))) s.l) (rs (pr t (maximumf s.m (mx t b)) b))
  a := addf (mulf (broadcastTo S512x128 (exp2 (subf s.m (maximumf s.m (mx t b)))) broadcasts_S512x1_S512x128) s.a)
    (pv (pr t (maximumf s.m (mx t b)) b) v)

/-- What is stored: the weighted sum over the sum of weights. -/
def fin (s : St) : FVec Ideal S512x128 .bf16 :=
  truncf .bf16 (divf s.a (broadcastTo S512x128 s.l broadcasts_S512x1_S512x128)) bitsLt_bf16_f32

theorem sc_apply (q k : FVec Ideal S512x128 .bf16) (ck : FVec Ideal S1x1x1x512 .f32) (r j : Fin 512) :
    sc q k ck (ix2 r j) = (∑ d : Fin 128, (q (ix2 r d) : EReal) * (k (ix2 j d) : EReal)) - (ck (ix4 0 0 0 j) : EReal) * ((log2e : ℝ) : EReal) := by
  pointwise [sc, named_log2e]

theorem msk_apply (t : FVec Ideal S512x512 .f32) (r j : Fin 512) :
    msk t (ix2 r j) = if j.val ≤ r.val then (t (ix2 r j) : EReal) else ⊥ := by
  pointwise [msk]
  rw [WordCmp.cmpi_sle_ofNat (by omega) (by omega), neg_inf]
  by_cases h : j.val ≤ r.val <;> simp [h, Scalar.select]

theorem cq_apply (i : grid0.Coords) (c : FVec Ideal S512x128 .f32) (r : Fin 512) :
    cq i c (ix2 r 0) = (c (ix2 r ⟨(i 1).val, by have : (i 1).val < 8 := (i 1).isLt; omega⟩) : EReal) * ((log2e : ℝ) : EReal) := by
  have h8 : (i 1).val < 8 := (i 1).isLt
  pointwise [cq, named_log2e, k0_pay2]
  congr 1
  rw [Finset.sum_eq_single ⟨(i 1).val, by omega⟩]
  · rw [WordCmp.cmpi_eq_ofNat (by simp; omega) (by omega)]; simp [Scalar.select]
  · intro b _ hb
    have hne : ¬ b.val = (i 1).val := fun h => hb (Fin.ext h)
    have := b.isLt
    rw [WordCmp.cmpi_eq_ofNat (by omega) (by omega)]; simp [hne, Scalar.select]
  · exact fun h => absurd (Finset.mem_univ _) h

theorem mx_apply (t : FVec Ideal S512x512 .f32) (b : FVec Ideal S512x1 .f32) (r : Fin 512) :
    mx t b (ix2 r 0) = (Finset.univ : Finset (Fin 512)).fold max ⊥ (fun j => (t (ix2 r j) : EReal)) + (b (ix2 r 0) : EReal) := by
  pointwise [mx, neg_inf]

theorem pr_apply (t : FVec Ideal S512x512 .f32) (m b : FVec Ideal S512x1 .f32) (r j : Fin 512) :
    pr t m b (ix2 r j) = Ideal.exp2 ((t (ix2 r j) : EReal) - ((m (ix2 r 0) : EReal) - (b (ix2 r 0) : EReal))) := by
  pointwise [pr]
  rfl

theorem rs_apply (p : FVec Ideal S512x512 .f32) (r : Fin 512) : rs p (ix2 r 0) = ∑ j : Fin 512, (p (ix2 r j) : EReal) := by
  pointwise [rs]

theorem pv_apply (p : FVec Ideal S512x512 .f32) (v : FVec Ideal S512x128 .bf16) (r : Fin 512) (d : Fin 128) :
    pv p v (ix2 r d) = ∑ j : Fin 512, (p (ix2 r j) : EReal) * (v (ix2 j d) : EReal) := by
  pointwise [pv]

theorem fin_apply (s : St) (r : Fin 512) (d : Fin 128) :
    fin s (ix2 r d) = Ideal.div (s.a (ix2 r d) : EReal) (s.l (ix2 r 0) : EReal) := by
  pointwise [fin]

end Cert.AttnTile

end
-- ==== Proof.AttnPieces.lean ====
/- What the attention kernel's body stores, in four pieces of 512 rows: each the running state of the causal key tiles. -/
module

public import proofs.«01_k».proof.Proof.AttnTile

@[expose] public section

noncomputable section

namespace Cert.AttnTile

open Cert.AttnIdeal Cert.AttnIdeal.Gen Idealize.ShloMosaic Idealize.SL.Sem

variable (i : grid0.Coords) (x0 x1 x2 : Vec Ideal S2048x128 .bf16) (x3 : Vec Ideal S2048x128 .f32) (x4 : Vec Ideal S1x1x1x2048 .f32)

/-- The first query tile: the diagonal key tile alone. -/
def st0 : St := ini (msk (sc (View.ld x0 r0_0) (View.ld x1 r0_0) (View.ld x4 r0_1))) (cq i (View.ld x3 r0_0)) (View.ld x2 r0_0)

/-- The second query tile. -/
def st1 : St := stp (ini (sc (View.ld x0 r0_2) (View.ld x1 r0_0) (View.ld x4 r0_1)) (cq i (View.ld x3 r0_2)) (View.ld x2 r0_0))
  (msk (sc (View.ld x0 r0_2) (View.ld x1 r0_2) (View.ld x4 r0_3))) (cq i (View.ld x3 r0_2)) (View.ld x2 r0_2)

/-- The third query tile. -/
def st2 : St := stp (stp (ini (sc (View.ld x0 r0_4) (View.ld x1 r0_0) (View.ld x4 r0_1)) (cq i (View.ld x3 r0_4)) (View.ld x2 r0_0))
  (sc (View.ld x0 r0_4) (View.ld x1 r0_2) (View.ld x4 r0_3)) (cq i (View.ld x3 r0_4)) (View.ld x2 r0_2))
  (msk (sc (View.ld x0 r0_4) (View.ld x1 r0_4) (View.ld x4 r0_5))) (cq i (View.ld x3 r0_4)) (View.ld x2 r0_4)

/-- The fourth query tile. -/
def st3 : St := stp (stp (stp (ini (sc (View.ld x0 r0_6) (View.ld x1 r0_0) (View.ld x4 r0_1)) (cq i (View.ld x3 r0_6)) (View.ld x2 r0_0))
  (sc (View.ld x0 r0_6) (View.ld x1 r0_2) (View.ld x4 r0_3)) (cq i (View.ld x3 r0_6)) (View.ld x2 r0_2))
  (sc (View.ld x0 r0_6) (View.ld x1 r0_4) (View.ld x4 r0_5)) (cq i (View.ld x3 r0_6)) (View.ld x2 r0_4))
  (msk (sc (View.ld x0 r0_6) (View.ld x1 r0_6) (View.ld x4 r0_7))) (cq i (View.ld x3 r0_6)) (View.ld x2 r0_6)

/-- What the body stores, as the four states' quotients. -/
theorem out_eq : out0_5 i x0 x1 x2 x3 x4 = View.canon [⟨r0_6, fin (st3 i x0 x1 x2 x3 x4)⟩, ⟨r0_4, fin (st2 i x0 x1 x2 x3 x4)⟩,
    ⟨r0_2, fin (st1 i x0 x1 x2 x3 x4)⟩, ⟨r0_0, fin (st0 i x0 x1 x2 x3 x4)⟩] := rfl

end Cert.AttnTile

end
-- ==== Proof.AttnRow.lean ====
/- One row of the attention kernel's block: the running state of its query tile is that row's softmax over the keys up to it. -/
module

public import proofs.«01_k».proof.Proof.AttnPieces
public import Idealize.ShloMosaic.Lib.Pipeline.ValueKit

@[expose] public section

noncomputable section

namespace Cert.AttnTile

open Cert.AttnIdeal Cert.AttnIdeal.Gen Idealize.ShloMosaic Idealize.SL.Sem

section step

variable (keep : ℕ → Prop) [DecidablePred keep] (s : ℕ → ℝ) (V : ℕ → Fin 128 → EReal) (cqr : ℝ)
  (t : FVec Ideal S512x512 .f32) (b : FVec Ideal S512x1 .f32) (v : FVec Ideal S512x128 .bf16) (r : Fin 512)

/-- After the first key tile. -/
theorem ini_inv (ht : ∀ j : Fin 512, t (ix2 r j) = if keep j then ((s j - cqr : ℝ) : EReal) else ⊥)
    (hb : b (ix2 r 0) = (cqr : EReal)) (hv : ∀ (j : Fin 512) d, v (ix2 j d) = V j d) (j₀ : Fin 512) (h₀ : keep j₀) :
    Row.Inv keep s V 512 ((ini t b v).m (ix2 r 0)) ((ini t b v).l (ix2 r 0)) (fun d => (ini t b v).a (ix2 r d)) := by
  refine Row.inv_init keep s V cqr 512 (fun j => t (ix2 r j)) ht j₀ h₀ _ ?_ _ ?_ _ fun d => ?_
  · show mx t b (ix2 r 0) = _
    rw [mx_apply, hb]
  · show rs (pr t (mx t b) b) (ix2 r 0) = ∑ j : Fin 512, Ideal.exp2 (t (ix2 r j) - (mx t b (ix2 r 0) - _))
    rw [rs_apply]
    exact Finset.sum_congr rfl fun j _ => by rw [pr_apply, hb]
  · show pv (pr t (mx t b) b) v (ix2 r d) = ∑ j : Fin 512, Ideal.exp2 (t (ix2 r j) - (mx t b (ix2 r 0) - _)) * _
    rw [pv_apply]
    exact Finset.sum_congr rfl fun j _ => by rw [pr_apply, hb, hv]

theorem stp_m (S : St) : (stp S t b v).m (ix2 r 0) = max (S.m (ix2 r 0) : EReal) (mx t b (ix2 r 0)) := rfl

theorem stp_l (S : St) : (stp S t b v).l (ix2 r 0) =
    Ideal.exp2 ((S.m (ix2 r 0) : EReal) - (stp S t b v).m (ix2 r 0)) * (S.l (ix2 r 0) : EReal) + rs (pr t (stp S t b v).m b) (ix2 r 0) := rfl

theorem stp_a (S : St) (d : Fin 128) : (stp S t b v).a (ix2 r d) =
    Ideal.exp2 ((S.m (ix2 r 0) : EReal) - (stp S t b v).m (ix2 r 0)) * (S.a (ix2 r d) : EReal) + pv (pr t (stp S t b v).m b) v (ix2 r d) := by
  pointwise [stp]
  rfl

/-- After one more key tile. -/
theorem stp_inv (n : ℕ) (S : St) (h : Row.Inv keep s V n (S.m (ix2 r 0)) (S.l (ix2 r 0)) (fun d => S.a (ix2 r d)))
    (ht : ∀ j : Fin 512, t (ix2 r j) = if keep (n + j) then ((s (n + j) - cqr : ℝ) : EReal) else ⊥)
    (hb : b (ix2 r 0) = (cqr : EReal)) (hv : ∀ (j : Fin 512) d, v (ix2 j d) = V (n + j) d) (j₀ : Fin 512) (h₀ : keep (n + j₀)) :
    Row.Inv keep s V (n + 512) ((stp S t b v).m (ix2 r 0)) ((stp S t b v).l (ix2 r 0)) (fun d => (stp S t b v).a (ix2 r d)) := by
  refine Row.inv_step keep s V cqr n 512 (fun j => t (ix2 r j)) ht j₀ h₀ _ _ _ h _ ?_ _ ?_ _ fun d => ?_
  · rw [stp_m, mx_apply, hb]
  · rw [stp_l, rs_apply]
    exact congrArg _ (Finset.sum_congr rfl fun j _ => by rw [pr_apply, hb])
  · show (stp S t b v).a (ix2 r d) = _
    rw [stp_a, pv_apply]
    exact congrArg _ (Finset.sum_congr rfl fun j _ => by rw [pr_apply, hb, hv])

end step

section row

/-- The score of a query row against a key, in base two. -/
def score (Q K : ℕ → Fin 128 → ℝ) (C : ℕ → ℝ) (ρ k : ℕ) : ℝ :=
  ∑ d, Q ρ d * K k d - C k * log2e + C ρ * log2e

/-- The values as a function of the key's number. -/
def vals (x2 : Vec Ideal S2048x128 .bf16) (k : ℕ) (d : Fin 128) : EReal := if h : k < 2048 then x2 (ix2 ⟨k, h⟩ d) else 0

theorem vals_of (x2 : Vec Ideal S2048x128 .bf16) (k : Fin 2048) (d : Fin 128) : vals x2 k d = x2 (ix2 k d) := dif_pos k.isLt

variable (Q K : ℕ → Fin 128 → ℝ) (C : ℕ → ℝ)

/-- A tile's scores, the query's own log forget taken off. -/
theorem sc_row (q k : FVec Ideal S512x128 .bf16) (ck : FVec Ideal S1x1x1x512 .f32) (o n : ℕ) (r j : Fin 512)
    (hq : ∀ d, q (ix2 r d) = ((Q (o + r) d : ℝ) : EReal)) (hk : ∀ d, k (ix2 j d) = ((K (n + j) d : ℝ) : EReal))
    (hc : ck (ix4 0 0 0 j) = ((C (n + j) : ℝ) : EReal)) :
    sc q k ck (ix2 r j) = ((score Q K C (o + r) (n + j) - C (o + r) * log2e : ℝ) : EReal) := by
  rw [sc_apply, hc]
  simp only [hq, hk]
  unfold score
  rw [add_sub_cancel_right, EReal.coe_sub, Row.coe_sum, EReal.coe_mul]
  simp only [EReal.coe_mul]

variable (i : grid0.Coords) (x0 x1 x2 : Vec Ideal S2048x128 .bf16) (x3 : Vec Ideal S2048x128 .f32) (x4 : Vec Ideal S1x1x1x2048 .f32)

/-- What is known of a block's inputs: queries, keys and the head's log forgets are reals. -/
structure Known : Prop where
  q : ∀ (r : Fin 2048) d, x0 (ix2 r d) = ((Q r d : ℝ) : EReal)
  k : ∀ (r : Fin 2048) d, x1 (ix2 r d) = ((K r d : ℝ) : EReal)
  c : ∀ (r : Fin 2048), x3 (ix2 r ⟨(i 1).val, by have : (i 1).val < 8 := (i 1).isLt; omega⟩) = ((C r : ℝ) : EReal)
  ck : ∀ (r : Fin 2048), x4 (ix4 0 0 0 r) = ((C r : ℝ) : EReal)

variable {Q K C i x0 x1 x2 x3 x4}

theorem ld0 {φ : EltTy} (x : Vec Ideal S2048x128 φ) (r : Fin 512) (d : Fin 128) : View.ld x r0_0 (ix2 r d) = x (ix2 ⟨0 + r, by omega⟩ d) := by pointwise
theorem ld1 {φ : EltTy} (x : Vec Ideal S2048x128 φ) (r : Fin 512) (d : Fin 128) : View.ld x r0_2 (ix2 r d) = x (ix2 ⟨512 + r, by omega⟩ d) := by pointwise
theorem ld2 {φ : EltTy} (x : Vec Ideal S2048x128 φ) (r : Fin 512) (d : Fin 128) : View.ld x r0_4 (ix2 r d) = x (ix2 ⟨1024 + r, by omega⟩ d) := by pointwise
theorem ld3 {φ : EltTy} (x : Vec Ideal S2048x128 φ) (r : Fin 512) (d : Fin 128) : View.ld x r0_6 (ix2 r d) = x (ix2 ⟨1536 + r, by omega⟩ d) := by pointwise
theorem lc0 (x : Vec Ideal S1x1x1x2048 .f32) (r : Fin 512) : View.ld x r0_1 (ix4 0 0 0 r) = x (ix4 0 0 0 ⟨0 + r, by omega⟩) := by pointwise
theorem lc1 (x : Vec Ideal S1x1x1x2048 .f32) (r : Fin 512) : View.ld x r0_3 (ix4 0 0 0 r) = x (ix4 0 0 0 ⟨512 + r, by omega⟩) := by pointwise
theorem lc2 (x : Vec Ideal S1x1x1x2048 .f32) (r : Fin 512) : View.ld x r0_5 (ix4 0 0 0 r) = x (ix4 0 0 0 ⟨1024 + r, by omega⟩) := by pointwise
theorem lc3 (x : Vec Ideal S1x1x1x2048 .f32) (r : Fin 512) : View.ld x r0_7 (ix4 0 0 0 r) = x (ix4 0 0 0 ⟨1536 + r, by omega⟩) := by pointwise

/-- What a query row meets in one key tile: masked scores, its own log forget, and the tile's values. -/
structure Tile (Q K : ℕ → Fin 128 → ℝ) (C : ℕ → ℝ) (x2 : Vec Ideal S2048x128 .bf16) (o n : ℕ) (t : FVec Ideal S512x512 .f32)
    (b : FVec Ideal S512x1 .f32) (v : FVec Ideal S512x128 .bf16) (r : Fin 512) : Prop where
  ht : ∀ j : Fin 512, t (ix2 r j) = if n + j ≤ o + r then ((score Q K C (o + r) (n + j) - C (o + r) * log2e : ℝ) : EReal) else ⊥
  hb : b (ix2 r 0) = ((C (o + r) * log2e : ℝ) : EReal)
  hv : ∀ (j : Fin 512) d, v (ix2 j d) = vals x2 (n + j) d

/-- A key tile that lies wholly before the query tile. -/
theorem tile_off {o n : ℕ} (hn : n + 512 ≤ o) {q k : FVec Ideal S512x128 .bf16} {ck : FVec Ideal S1x1x1x512 .f32}
    {c : FVec Ideal S512x128 .f32} {v : FVec Ideal S512x128 .bf16} (r : Fin 512)
    (hq : ∀ d, q (ix2 r d) = ((Q (o + r) d : ℝ) : EReal)) (hk : ∀ j : Fin 512, ∀ d, k (ix2 j d) = ((K (n + j) d : ℝ) : EReal))
    (hck : ∀ j : Fin 512, ck (ix4 0 0 0 j) = ((C (n + j) : ℝ) : EReal))
    (hc : c (ix2 r ⟨(i 1).val, by have : (i 1).val < 8 := (i 1).isLt; omega⟩) = ((C (o + r) : ℝ) : EReal))
    (hv : ∀ (j : Fin 512) d, v (ix2 j d) = vals x2 (n + j) d) : Tile Q K C x2 o n (sc q k ck) (cq i c) v r where
  ht j := by
    rw [if_pos (by omega)]
    exact sc_row Q K C q k ck o n r j hq (hk j) (hck j)
  hb := by rw [cq_apply, hc, EReal.coe_mul]
  hv := hv

/-- The key tile on the diagonal. -/
theorem tile_diag {o : ℕ} {q k : FVec Ideal S512x128 .bf16} {ck : FVec Ideal S1x1x1x512 .f32}
    {c : FVec Ideal S512x128 .f32} {v : FVec Ideal S512x128 .bf16} (r : Fin 512)
    (hq : ∀ d, q (ix2 r d) = ((Q (o + r) d : ℝ) : EReal)) (hk : ∀ j : Fin 512, ∀ d, k (ix2 j d) = ((K (o + j) d : ℝ) : EReal))
    (hck : ∀ j : Fin 512, ck (ix4 0 0 0 j) = ((C (o + j) : ℝ) : EReal))
    (hc : c (ix2 r ⟨(i 1).val, by have : (i 1).val < 8 := (i 1).isLt; omega⟩) = ((C (o + r) : ℝ) : EReal))
    (hv : ∀ (j : Fin 512) d, v (ix2 j d) = vals x2 (o + j) d) : Tile Q K C x2 o o (msk (sc q k ck)) (cq i c) v r where
  ht j := by
    rw [msk_apply, sc_row Q K C q k ck o o r j hq (hk j) (hck j)]
    simp only [Nat.add_le_add_iff_left]
  hb := by rw [cq_apply, hc, EReal.coe_mul]
  hv := hv

/-- The state of row `o + r` after its first `n` keys. -/
def RowInv (Q K : ℕ → Fin 128 → ℝ) (C : ℕ → ℝ) (x2 : Vec Ideal S2048x128 .bf16) (o n : ℕ) (S : St) (r : Fin 512) : Prop :=
  Row.Inv (fun k => k ≤ o + r) (score Q K C (o + r)) (vals x2) n (S.m (ix2 r 0)) (S.l (ix2 r 0)) (fun d => S.a (ix2 r d))

theorem row_ini {o : ℕ} {t b v} {r : Fin 512} (T : Tile Q K C x2 o 0 t b v r) : RowInv Q K C x2 o 512 (ini t b v) r :=
  ini_inv _ _ _ _ t b v r (fun j => by simpa using T.ht j) T.hb (fun j d => by simpa using T.hv j d) 0 (Nat.zero_le _)

theorem row_stp {o n : ℕ} (hn : n ≤ o) {t b v} {r : Fin 512} {S : St} (h : RowInv Q K C x2 o n S r) (T : Tile Q K C x2 o n t b v r) :
    RowInv Q K C x2 o (n + 512) (stp S t b v) r :=
  stp_inv _ _ _ _ t b v r n S h T.ht T.hb T.hv 0 (by simp; omega)

theorem row0 (h : Known Q K C i x0 x1 x3 x4) (r : Fin 512) : RowInv Q K C x2 0 512 (st0 i x0 x1 x2 x3 x4) r :=
  row_ini (tile_diag r (fun d => (ld0 x0 r d).trans (h.q _ d)) (fun j d => (ld0 x1 j d).trans (h.k _ d))
    (fun j => (lc0 x4 j).trans (h.ck _)) ((ld0 x3 r _).trans (h.c _)) fun j d => (ld0 x2 j d).trans (vals_of x2 _ d).symm)

theorem row1 (h : Known Q K C i x0 x1 x3 x4) (r : Fin 512) : RowInv Q K C x2 512 1024 (st1 i x0 x1 x2 x3 x4) r :=
  row_stp (n := 512) le_rfl (row_ini (tile_off (n := 0) (by norm_num) r (fun d => (ld1 x0 r d).trans (h.q _ d)) (fun j d => (ld0 x1 j d).trans (h.k _ d))
    (fun j => (lc0 x4 j).trans (h.ck _)) ((ld1 x3 r _).trans (h.c _)) fun j d => (ld0 x2 j d).trans (vals_of x2 _ d).symm))
  (tile_diag r (fun d => (ld1 x0 r d).trans (h.q _ d)) (fun j d => (ld1 x1 j d).trans (h.k _ d))
    (fun j => (lc1 x4 j).trans (h.ck _)) ((ld1 x3 r _).trans (h.c _)) fun j d => (ld1 x2 j d).trans (vals_of x2 _ d).symm)

theorem row2 (h : Known Q K C i x0 x1 x3 x4) (r : Fin 512) : RowInv Q K C x2 1024 1536 (st2 i x0 x1 x2 x3 x4) r :=
  row_stp (n := 1024) le_rfl (row_stp (n := 512) (by norm_num) (row_ini (tile_off (n := 0) (by norm_num) r (fun d => (ld2 x0 r d).trans (h.q _ d)) (fun j d => (ld0 x1 j d).trans (h.k _ d))
    (fun j => (lc0 x4 j).trans (h.ck _)) ((ld2 x3 r _).trans (h.c _)) fun j d => (ld0 x2 j d).trans (vals_of x2 _ d).symm))
  (tile_off (n := 512) (by norm_num) r (fun d => (ld2 x0 r d).trans (h.q _ d)) (fun j d => (ld1 x1 j d).trans (h.k _ d))
    (fun j => (lc1 x4 j).trans (h.ck _)) ((ld2 x3 r _).trans (h.c _)) fun j d => (ld1 x2 j d).trans (vals_of x2 _ d).symm))
  (tile_diag r (fun d => (ld2 x0 r d).trans (h.q _ d)) (fun j d => (ld2 x1 j d).trans (h.k _ d))
    (fun j => (lc2 x4 j).trans (h.ck _)) ((ld2 x3 r _).trans (h.c _)) fun j d => (ld2 x2 j d).trans (vals_of x2 _ d).symm)

theorem row3 (h : Known Q K C i x0 x1 x3 x4) (r : Fin 512) : RowInv Q K C x2 1536 2048 (st3 i x0 x1 x2 x3 x4) r :=
  row_stp (n := 1536) le_rfl (row_stp (n := 1024) (by norm_num) (row_stp (n := 512) (by norm_num)
    (row_ini (tile_off (n := 0) (by norm_num) r (fun d => (ld3 x0 r d).trans (h.q _ d)) (fun j d => (ld0 x1 j d).trans (h.k _ d))
    (fun j => (lc0 x4 j).trans (h.ck _)) ((ld3 x3 r _).trans (h.c _)) fun j d => (ld0 x2 j d).trans (vals_of x2 _ d).symm))
  (tile_off (n := 512) (by norm_num) r (fun d => (ld3 x0 r d).trans (h.q _ d)) (fun j d => (ld1 x1 j d).trans (h.k _ d))
    (fun j => (lc1 x4 j).trans (h.ck _)) ((ld3 x3 r _).trans (h.c _)) fun j d => (ld1 x2 j d).trans (vals_of x2 _ d).symm))
  (tile_off (n := 1024) (by norm_num) r (fun d => (ld3 x0 r d).trans (h.q _ d)) (fun j d => (ld2 x1 j d).trans (h.k _ d))
    (fun j => (lc2 x4 j).trans (h.ck _)) ((ld3 x3 r _).trans (h.c _)) fun j d => (ld2 x2 j d).trans (vals_of x2 _ d).symm))
  (tile_diag r (fun d => (ld3 x0 r d).trans (h.q _ d)) (fun j d => (ld3 x1 j d).trans (h.k _ d))
    (fun j => (lc3 x4 j).trans (h.ck _)) ((ld3 x3 r _).trans (h.c _)) fun j d => (ld3 x2 j d).trans (vals_of x2 _ d).symm)

/-- The natural-base score of a query row against a key. -/
def logit (Q K : ℕ → Fin 128 → ℝ) (C : ℕ → ℝ) (ρ k : ℕ) : ℝ := (∑ d, Q ρ d * K k d) * Real.log 2 + (C ρ - C k)

theorem score_log (ρ k : ℕ) : score Q K C ρ k * Real.log 2 = logit Q K C ρ k := by
  have : Real.log 2 ≠ 0 := (Real.log_pos one_lt_two).ne'
  unfold score logit log2e
  field_simp
  ring

/-- Row `ρ`'s causal softmax of the values, every weight taken against a number `R`. -/
def soft (Q K : ℕ → Fin 128 → ℝ) (C : ℕ → ℝ) (x2 : Vec Ideal S2048x128 .bf16) (R : ℝ) (ρ : ℕ) (d : Fin 128) : EReal :=
  ∑ k ∈ Finset.range 2048, vals x2 k d * Ideal.div (if k ≤ ρ then ((Real.exp (logit Q K C ρ k - R) : ℝ) : EReal) else 0)
    ((∑ j ∈ Finset.range 2048, if j ≤ ρ then Real.exp (logit Q K C ρ j - R) else 0 : ℝ) : EReal)

/-- A state's quotient is the softmax. -/
theorem fin_soft {o n : ℕ} (hn : n ≤ 2048) (hon : n = o + 512) {S : St} {r : Fin 512} (h : RowInv Q K C x2 o n S r) (R : ℝ) (d : Fin 128) :
    fin S (ix2 r d) = soft Q K C x2 R (o + r) d := by
  rw [fin_apply]
  exact Row.quotient_eq _ _ (vals x2) n 2048 hn _ _ _ h (fun k hk => by have := r.isLt; omega) (logit Q K C (o + r)) (score_log _) R 0
    (by omega) (Nat.zero_le _) d

/-- The same at an index of the piece. -/
theorem fin_at {o n : ℕ} (hn : n ≤ 2048) (hon : n = o + 512) {S : St} (h : ∀ r, RowInv Q K C x2 o n S r) (R : ℝ)
    (x : S512x128.Idx) {ρ : Fin 2048} {d : Fin 128} (h0 : ρ.val = o + (x 0).val) (h1 : d.val = (x 1).val) :
    fin S x = soft Q K C x2 R ρ d := by
  obtain rfl : d = x 1 := Fin.ext h1
  rw [h0, eq_ix2 x]
  exact fin_soft hn hon (h (x 0)) R (x 1)

/-- The block the kernel's body stores, row by row. -/
theorem out_soft (h : Known Q K C i x0 x1 x3 x4) (R : ℝ) (ρ : Fin 2048) (d : Fin 128) :
    out0_5 i x0 x1 x2 x3 x4 (ix2 ρ d) = soft Q K C x2 R ρ d := by
  rw [out_eq]
  canon_tiles x h'
  · exact fin_at (by norm_num) rfl (row3 h) R x h'0 h'1
  · exact fin_at (by norm_num) rfl (row2 h) R x h'0 h'1
  · exact fin_at (by norm_num) rfl (row1 h) R x h'0 h'1
  · exact fin_at (by norm_num) rfl (row0 h) R x (h'0.trans (Nat.zero_add _).symm) h'1

end row

end Cert.AttnTile

end
-- ==== Proof.AttnRef.lean ====
/- The attention reference, read at an index. -/
module

public import proofs.«01_k».proof.Proof.AttnRow
public import proofs.«01_k».proof.Proof.Gen.AttnRefIdeal.Read
public import Idealize.ShloMosaic.Lib.Pointwise

@[expose] public section

noncomputable section

namespace Cert.AttnRefRead

open Cert.AttnRefIdeal Cert.AttnRefIdeal.Gen Cert.AttnRefIdeal.Read Idealize.ShloMosaic Idealize.SL.Sem

/-- Row `r` of batch `b`. -/
abbrev row (b : Fin 4) (r : Fin 2048) : Fin 8192 := ⟨b * 2048 + r, by omega⟩
/-- Lane `d` of head `h`. -/
abbrev col (h : Fin 8) (d : Fin 128) : Fin 1024 := ⟨h * 128 + d, by omega⟩
/-- Head `h` among the log forget's lanes. -/
abbrev lane (h : Fin 8) : Fin 128 := ⟨h, by omega⟩

variable (x0 x1 x2 : FVec Ideal S8192x1024 .bf16) (x3 : FVec Ideal S8192x128 .f32)

/-- The queries, a head at a time. -/
theorem v1_apply (b : Fin 4) (r : Fin 2048) (h : Fin 8) (d : Fin 128) :
    val_main_v1 (F := Ideal) x0 (ix4 b r h d) = x0 (ix2 (row b r) (col h d)) := by
  pointwise [val_main_v1, val_main_v0]

theorem v3_apply (b : Fin 4) (r : Fin 2048) (h : Fin 8) (d : Fin 128) :
    val_main_v3 (F := Ideal) x1 (ix4 b r h d) = x1 (ix2 (row b r) (col h d)) := by
  pointwise [val_main_v3, val_main_v2]

theorem v5_apply (b : Fin 4) (r : Fin 2048) (h : Fin 8) (d : Fin 128) :
    val_main_v5 (F := Ideal) x2 (ix4 b r h d) = x2 (ix2 (row b r) (col h d)) := by
  pointwise [val_main_v5, val_main_v4]

theorem v8_apply (b : Fin 4) (r : Fin 2048) (h : Fin 8)  :
    val_main_v8 (F := Ideal) x3 (ix3 b h r) = x3 (ix2 (row b r) (lane h)) := by
  pointwise [val_main_v8, val_main_v7, val_main_v6]

/-- The logarithm of the constant two. -/
theorem log_two : Ideal.log (Ideal.ofBits .f32 1073741824#32) = ((Real.log 2 : ℝ) : EReal) := by
  have e : Ideal.ofBits .f32 1073741824#32 = ((2 : ℝ) : EReal) := by
    simp [Ideal.ofBits, Ideal.ieee]
    rw [← EReal.coe_mul]; norm_num
  rw [e]
  show (if (2 : ℝ) ≤ 0 then ⊥ else ((Real.log 2 : ℝ) : EReal)) = _
  rw [if_neg (by norm_num)]

theorem v19_apply (b : Fin 4) (h : Fin 8) (r k : Fin 2048) :
    val_main_v19 (F := Ideal) x0 x1 x3 (ix4 b h r k) =
      (∑ d : Fin 128, (x0 (ix2 (row b r) (col h d)) : EReal) * (x1 (ix2 (row b k) (col h d)) : EReal)) * ((Real.log 2 : ℝ) : EReal)
        + ((x3 (ix2 (row b r) (lane h)) : EReal) - (x3 (ix2 (row b k) (lane h)) : EReal)) := by
  pointwise [val_main_v19, val_main_v18, val_main_v17,val_main_v16, val_main_v15, val_main_v14, val_main_v13, val_main_v12, val_main_v11, val_main_cst, val_main_v10, v1_apply, v3_apply, v8_apply, log_two]

theorem v25_apply (b : Fin 4) (h : Fin 8) (r k : Fin 2048) :
    val_main_v25 (F := Ideal) x0 x1 x3 (ix4 b h r k) = if k.val ≤ r.val then (val_main_v19 (F := Ideal) x0 x1 x3 (ix4 b h r k) : EReal) else ⊥ := by
  have e : (id (constant S_ FTy.f32 4286578688#32) : FVec Ideal S_ .f32) ix0 = (⊥ : EReal) := AttnTile.neg_inf
  pointwise [val_main_v25, val_main_call0_v1, val_main_call0_v2, val_main_v24, val_main_v23, val_main_v22, val_main_v21, val_main_v20, val_main_v9, val_main_call0_v0, val_main_cst_0]
  rw [WordCmp.cmpi_sle_ofNat (by omega) (by omega), e]
  by_cases hk : k.val ≤ r.val <;> simp [hk, Scalar.select]

/-- A row maximum as a fold. -/
theorem foldRow {p q n N : ℕ} (y : FVec Ideal ⟨4, ![p, q, n, N]⟩ .f32) (c : FVec Ideal ⟨0, ![]⟩ .f32)
    (hT : (⟨4, ![p, q, n, N]⟩ : Shape).ReducesTo [3] ⟨3, ![p, q, n]⟩) (hR : (⟨4, ![p, q, n, N]⟩ : Shape).Reduces [3] ⟨3, ![p, q, n]⟩)
    (hu : 0 < (⟨0, ![]⟩ : Shape).numel) (e0 : c ix0 = (⊥ : EReal)) (b : Fin p) (h : Fin q) (r : Fin n) :
    Host.reduce FloatOps.maximumf y c hT hu (ix3 b h r)
      = (Finset.univ : Finset (Fin N)).fold max ⊥ (fun k => (y (ix4 b h r k) : EReal)) := by
  rw [Host.reduce_eq_fold_single FloatOps.maximumf y c hT hR hu]
  have e : (y ∘ hR.lift (ix3 b h r)) = fun k : Fin N => y (ix4 b h r k) := by
    funext k
    exact congrArg y (funext fun a => Fin.ext (by match a with | ⟨0, _⟩ => rfl | ⟨1, _⟩ => rfl | ⟨2, _⟩ => rfl | ⟨3, _⟩ => rfl))
  have e0 : c (Shape.Idx.first hu) = (⊥ : EReal) := (congrArg c (funext fun a => absurd a.isLt (Nat.not_lt_zero _))).trans e0
  rw [e0]
  exact congrArg (fun g => (Finset.univ : Finset (Fin N)).fold max (⊥ : EReal) g) e

theorem cst_1 : val_main_cst_1 (F := Ideal) ix0 = (⊥ : EReal) := AttnTile.neg_inf
theorem red4 : S4x8x2048x2048.Reduces [3] S4x8x2048 := by decide

theorem v26_apply (b : Fin 4) (h : Fin 8) (r : Fin 2048) :
    val_main_v26 (F := Ideal) x0 x1 x3 (ix3 b h r) = (Finset.univ : Finset (Fin 2048)).fold max ⊥ (fun k => (val_main_v25 (F := Ideal) x0 x1 x3 (ix4 b h r k) : EReal)) :=
  foldRow (val_main_v25 (F := Ideal) x0 x1 x3) (val_main_cst_1 (F := Ideal)) reducesTo_S4x8x2048x2048_S4x8x2048_d3 red4 h_S_ cst_1 b h r

theorem v28_eq (b : Fin 4) (h : Fin 8) (r : Fin 2048) : val_main_v28 (F := Ideal) x0 x1 x3 (ix3 b h r) = val_main_v26 (F := Ideal) x0 x1 x3 (ix3 b h r) := by
  rw [val_main_v28_apply, val_main_v27_apply]
  have e : val_main_cst_2 (F := Ideal) (idx_main_v27 (ix3 b h r)) = (⊥ : EReal) := AttnTile.neg_inf
  rw [e]
  generalize val_main_v26 (F := Ideal) x0 x1 x3 (ix3 b h r) = y
  exact max_eq_right bot_le

theorem v28_apply (b : Fin 4) (h : Fin 8) (r : Fin 2048) :
    val_main_v28 (F := Ideal) x0 x1 x3 (ix3 b h r)
      = (Finset.univ : Finset (Fin 2048)).fold max ⊥ (fun k => (val_main_v25 (F := Ideal) x0 x1 x3 (ix4 b h r k) : EReal)) :=
  (v28_eq x0 x1 x3 b h r).trans (v26_apply x0 x1 x3 b h r)

theorem v32_apply (b : Fin 4) (h : Fin 8) (r k : Fin 2048) :
    val_main_v32 (F := Ideal) x0 x1 x3 (ix4 b h r k) =
      Ideal.exp ((val_main_v25 (F := Ideal) x0 x1 x3 (ix4 b h r k) : EReal) - (val_main_v28 (F := Ideal) x0 x1 x3 (ix3 b h r) : EReal)) := by
  pointwise [val_main_v32, val_main_v31, val_main_v30, val_main_v29]

theorem v40_apply (b : Fin 4) (h : Fin 8) (r : Fin 2048) (d : Fin 128) :
    val_main_v40 (F := Ideal) x0 x1 x2 x3 (ix2 (row b r) (col h d)) = val_main_v38 (F := Ideal) x0 x1 x2 x3 (ix4 b r h d) := by
  pointwise [val_main_v40, val_main_v39]
  congr 2 <;> exact Fin.ext (by first | omega | (simp; done) | (simp; omega))

theorem v38_apply (b : Fin 4) (h : Fin 8) (r : Fin 2048) (d : Fin 128) :
    val_main_v38 (F := Ideal) x0 x1 x2 x3 (ix4 b r h d) = ∑ k : Fin 2048, (x2 (ix2 (row b k) (col h d)) : EReal) *
      Ideal.div (val_main_v32 (F := Ideal) x0 x1 x3 (ix4 b h r k)) (∑ j : Fin 2048, (val_main_v32 (F := Ideal) x0 x1 x3 (ix4 b h r j) : EReal)) := by
  pointwise [val_main_v38, val_main_v37, val_main_v36, val_main_v35, val_main_v34, val_main_v33, val_main_cst_3, v5_apply]

/-! ## The same in reals -/

/-- The head's rows as reals. -/
def reals (x : FVec Ideal S8192x1024 .bf16) (b : Fin 4) (h : Fin 8) (r : ℕ) (d : Fin 128) : ℝ :=
  if hr : r < 2048 then (x (ix2 (row b ⟨r, hr⟩) (col h d)) : EReal).toReal else 0

/-- The head's cumulative log forgets as reals. -/
def forgets (x : FVec Ideal S8192x128 .f32) (b : Fin 4) (h : Fin 8) (r : ℕ) : ℝ :=
  if hr : r < 2048 then (x (ix2 (row b ⟨r, hr⟩) (lane h)) : EReal).toReal else 0

/-- The head's block of the values. -/
def headBlk (x : FVec Ideal S8192x1024 .bf16) (b : Fin 4) (h : Fin 8) : FVec Ideal Cert.AttnIdeal.S2048x128 .bf16 :=
  fun i => x (ix2 (row b (i 0)) (col h (i 1)))

theorem reals_of (x : FVec Ideal S8192x1024 .bf16) (hx : ∀ i, x i = ((x i : EReal).toReal : EReal)) (b : Fin 4) (h : Fin 8) (r : Fin 2048)
    (d : Fin 128) : x (ix2 (row b r) (col h d)) = ((reals x b h r d : ℝ) : EReal) := by
  unfold reals
  rw [dif_pos r.isLt]
  exact hx _

theorem forgets_of (x : FVec Ideal S8192x128 .f32) (hx : ∀ r h, x (ix2 r (lane h)) = ((x (ix2 r (lane h)) : EReal).toReal : EReal)) (b : Fin 4) (h : Fin 8) (r : Fin 2048) :
    x (ix2 (row b r) (lane h)) = ((forgets x b h r : ℝ) : EReal) := by
  unfold forgets
  rw [dif_pos r.isLt]
  exact hx _ _

section finite

variable {x0 x1 x2 x3}
variable (h0 : ∀ i, x0 i = ((x0 i : EReal).toReal : EReal)) (h1 : ∀ i, x1 i = ((x1 i : EReal).toReal : EReal))
  (h3 : ∀ r h, x3 (ix2 r (lane h)) = ((x3 (ix2 r (lane h)) : EReal).toReal : EReal))
include h0 h1 h3

theorem v19_real (b : Fin 4) (h : Fin 8) (r k : Fin 2048) : val_main_v19 (F := Ideal) x0 x1 x3 (ix4 b h r k)
    = ((AttnTile.logit (reals x0 b h) (reals x1 b h) (forgets x3 b h) r k : ℝ) : EReal) := by
  rw [v19_apply, forgets_of x3 h3, forgets_of x3 h3]
  simp only [reals_of x0 h0, reals_of x1 h1]
  unfold AttnTile.logit
  simp only [EReal.coe_add, EReal.coe_mul, EReal.coe_sub, Row.coe_sum]

theorem v28_real (b : Fin 4) (h : Fin 8) (r : Fin 2048) : ∃ R : ℝ, val_main_v28 (F := Ideal) x0 x1 x3 (ix3 b h r) = (R : EReal) := by
  obtain ⟨R, hR⟩ := Row.fold_max_real (fun k => (val_main_v25 (F := Ideal) x0 x1 x3 (ix4 b h r k) : EReal)) (fun k => by
    show (val_main_v25 (F := Ideal) x0 x1 x3 (ix4 b h r k) : EReal) ≠ ⊤
    rw [v25_apply, v19_real h0 h1 h3]; split
    · exact EReal.coe_ne_top _
    · exact bot_ne_top) 0 (by
    show (val_main_v25 (F := Ideal) x0 x1 x3 (ix4 b h r 0) : EReal) ≠ ⊥
    rw [v25_apply, v19_real h0 h1 h3, if_pos (show ((0 : Fin 2048) : ℕ) ≤ r.val from Nat.zero_le _)]; exact EReal.coe_ne_bot _)
  exact ⟨R, (v28_apply x0 x1 x3 b h r).trans hR⟩

theorem v32_real (b : Fin 4) (h : Fin 8) (r : Fin 2048) (R : ℝ) (hR : val_main_v28 (F := Ideal) x0 x1 x3 (ix3 b h r) = (R : EReal)) (k : Fin 2048) :
    val_main_v32 (F := Ideal) x0 x1 x3 (ix4 b h r k) = (((if k.val ≤ r.val then
      Real.exp (AttnTile.logit (reals x0 b h) (reals x1 b h) (forgets x3 b h) r k - R) else 0 : ℝ) : ℝ) : EReal) := by
  rw [v32_apply, hR, v25_apply, v19_real h0 h1 h3]
  split
  · rw [← EReal.coe_sub]; rfl
  · rw [EReal.bot_sub]; rfl

/-- The reference's result is every row's softmax. -/
theorem ref_soft (b : Fin 4) (h : Fin 8) (r : Fin 2048) : ∃ R : ℝ, ∀ d, val_main_v40 (F := Ideal) x0 x1 x2 x3 (ix2 (row b r) (col h d))
    = AttnTile.soft (reals x0 b h) (reals x1 b h) (forgets x3 b h) (headBlk x2 b h) R r d := by
  obtain ⟨R, hR⟩ := v28_real h0 h1 h3 b h r
  refine ⟨R, fun d => ?_⟩
  rw [v40_apply, v38_apply]
  simp only [v32_real h0 h1 h3 b h r R hR]
  rw [← Row.coe_sum]
  unfold AttnTile.soft
  rw [Finset.sum_range, Finset.sum_range]
  refine Finset.sum_congr rfl fun k _ => ?_
  rw [AttnTile.vals_of]
  refine congrArg₂ (· * ·) rfl (congrArg₂ Ideal.div ?_ rfl)
  split <;> rfl

end finite

end Cert.AttnRefRead

end
-- ==== Proof.AttnClaim.lean ====
/- The attention kernel's result array is the reference's. -/
module

public import proofs.«01_k».proof.Proof.AttnRef
public import proofs.«01_k».proof.Proof.Gen.AttnIdeal.Value
public import proofs.«01_k».proof.Proof.Gen.AttnRefIdeal.Run
public import Idealize.ShloMosaic.Lib.Pipeline.ValueKit
public import Idealize.ShloMosaic.Lib.Pipeline.Value
public import Idealize.ShloMosaic.Lib.Quiescent
public import proofs.«01_k».proof.Defs
public import proofs.«01_k».proof.Proof.Gen.Pre_attn_finite

@[expose] public section

noncomputable section

namespace Cert.AttnClaim

open Cert.AttnIdeal Cert.AttnIdeal.Gen Idealize.ShloMosaic Idealize.ShloMosaic.TcCoe Idealize.SL.Sem
open Idealize.ShloMosaic.Pipeline (Dat)
open Cert.AttnRefRead (row col lane)

variable (m : (ℓ : Loc nD τ sig) → Buf (Elt Ideal) ℓ)

/-- The index maps over the grid: batch and head. -/
theorem idx : ∀ t : Fin grid0.N, win0_0.index t = ![(grid0.coords t 0).val, (grid0.coords t 1).val]
    ∧ win0_1.index t = ![(grid0.coords t 0).val, (grid0.coords t 1).val] ∧ win0_2.index t = ![(grid0.coords t 0).val, (grid0.coords t 1).val]
    ∧ win0_3.index t = ![(grid0.coords t 0).val, 0] ∧ win0_4.index t = ![(grid0.coords t 0).val, (grid0.coords t 1).val, 0, 0]
    ∧ win0_5.index t = ![(grid0.coords t 0).val, (grid0.coords t 1).val] := by decide +kernel

/-- The batch of a grid point. -/
def bat (t : Fin cfg0.N) : Fin 4 := ⟨(grid0.coords t 0).val, (grid0.coords t 0).isLt⟩
/-- The head of a grid point. -/
def hd (t : Fin cfg0.N) : Fin 8 := ⟨(grid0.coords t 1).val, (grid0.coords t 1).isLt⟩

theorem blk0 (c : Dev nD) (t : Fin cfg0.N) (r : Fin 2048) (d : Fin 128) :
    iblk m c 0 t (ix2 r d) = m ((c : Thread nD τ).loc main_arg0) (ix2 (row (bat t) r) (col (hd t) d)) := by
  blk_ext [iblk, V, idx t, bat, hd]
theorem blk1 (c : Dev nD) (t : Fin cfg0.N) (r : Fin 2048) (d : Fin 128) :
    iblk m c 1 t (ix2 r d) = m ((c : Thread nD τ).loc main_arg1) (ix2 (row (bat t) r) (col (hd t) d)) := by
  blk_ext [iblk, V, idx t, bat, hd]
theorem blk2 (c : Dev nD) (t : Fin cfg0.N) (r : Fin 2048) (d : Fin 128) :
    iblk m c 2 t (ix2 r d) = m ((c : Thread nD τ).loc main_arg2) (ix2 (row (bat t) r) (col (hd t) d)) := by
  blk_ext [iblk, V, idx t, bat, hd]
theorem blk3 (c : Dev nD) (t : Fin cfg0.N) (r : Fin 2048) (d : Fin 128) :
    iblk m c 3 t (ix2 r d) = m ((c : Thread nD τ).loc main_arg3) (ix2 (row (bat t) r) d) := by
  blk_ext [iblk, V, idx t, bat, hd]
theorem blk4 (c : Dev nD) (t : Fin cfg0.N) (r : Fin 2048) :
    iblk m c 4 t (ix4 0 0 0 r) = m ((c : Thread nD τ).loc main_arg3) (ix2 (row (bat t) r) (lane (hd t))) := by
  have e : iblk m c 4 t (ix4 0 0 0 r) = V m c main_v3 (ix4 (bat t) (hd t) 0 r) := by
    blk_ext [iblk, idx t, bat, hd]
  rw [e]
  entry_read
  pointwise

/-- A number below plus infinity in magnitude is a real. -/
theorem real_of_abs (x : EReal) (h : FloatOps.cmpf (F := Ideal) (φ := .f32) .olt (FloatOps.hostAbsf (F := Ideal) (φ := .f32) x) (FloatOps.ofBits .f32 0x7F800000#32) = 1#1) :
    x = (x.toReal : EReal) := by
  have e : (FloatOps.ofBits .f32 0x7F800000#32 : Ideal .f32) = (⊤ : EReal) := by
    show Ideal.ofBits .f32 0x7F800000#32 = ⊤
    simp [Ideal.ofBits, Ideal.ieee]
  rw [e] at h
  have h1 : Ideal.cmp .olt (max x (-x)) ⊤ = 1#1 := h
  have h' : max x (-x) < ⊤ := by
    by_contra hn
    simp [Ideal.cmp, hn] at h1
  refine (EReal.coe_toReal ?_ ?_).symm
  · rintro rfl; simp at h'
  · rintro rfl; simp at h'

/-- The block of the result a grid point writes, placed. -/
theorem place (t : Fin cfg0.N) (y : S2048x128.Idx) :
    ((cfg0.win 5).blk t).view.emb y = ix2 (row (bat t) (y 0)) (col (hd t) (y 1)) := by
  blk_ext [idx t, bat, hd]

section

variable (h0 : ∀ (c : Dev nD) (i : S8192x1024.Idx), m ((c : Thread nD τ).loc main_arg0) i = ((m ((c : Thread nD τ).loc main_arg0) i : EReal).toReal : EReal))
  (h1 : ∀ (c : Dev nD) (i : S8192x1024.Idx), m ((c : Thread nD τ).loc main_arg1) i = ((m ((c : Thread nD τ).loc main_arg1) i : EReal).toReal : EReal))
  (h3 : ∀ (c : Dev nD) (r : Fin 8192) (h : Fin 8), m ((c : Thread nD τ).loc main_arg3) (ix2 r (lane h)) = ((m ((c : Thread nD τ).loc main_arg3) (ix2 r (lane h)) : EReal).toReal : EReal))
include h0 h1 h3

/-- The kernel's result array is the reference's value of its arguments. -/
theorem final (c : Dev nD) : (dats m 0 c).arrAt 5 cfg0.N = Cert.AttnRefIdeal.Read.val_main_v40 (F := Ideal)
    (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5, place]
  obtain ⟨R, hR⟩ := Cert.AttnRefRead.ref_soft (x2 := m ((c : Thread nD τ).loc main_arg2)) (h0 c) (h1 c) (h3 c) (bat t) (hd t) (y 0)
  rw [hR (y 1)]
  have hK : AttnTile.Known (Cert.AttnRefRead.reals (m ((c : Thread nD τ).loc main_arg0)) (bat t) (hd t))
      (Cert.AttnRefRead.reals (m ((c : Thread nD τ).loc main_arg1)) (bat t) (hd t))
      (Cert.AttnRefRead.forgets (m ((c : Thread nD τ).loc main_arg3)) (bat t) (hd t)) (grid0.coords t)
      (iblk m c 0 t) (iblk m c 1 t) (iblk m c 3 t) (iblk m c 4 t) :=
    ⟨fun r d => (blk0 m c t r d).trans (Cert.AttnRefRead.reals_of _ (h0 c) _ _ r d),
     fun r d => (blk1 m c t r d).trans (Cert.AttnRefRead.reals_of _ (h1 c) _ _ r d),
     fun r => (blk3 m c t r _).trans (Cert.AttnRefRead.forgets_of _ (h3 c) _ _ r),
     fun r => (blk4 m c t r).trans (Cert.AttnRefRead.forgets_of _ (h3 c) _ _ r)⟩
  have e2 : iblk m c 2 t = Cert.AttnRefRead.headBlk (m ((c : Thread nD τ).loc main_arg2)) (bat t) (hd t) :=
    funext fun (y : S2048x128.Idx) => (congrArg (iblk m c 2 t) (eq_ix2 y)).trans (blk2 m c t (y 0) (y 1))
  rw [e2]
  exact (congrArg _ (eq_ix2 y)).trans (AttnTile.out_soft hK R (y 0) (y 1))

end

/-- What the precondition says: queries, keys and the heads' cumulative log forgets are reals. -/
theorem decode (h : Cert.Pre_AttnIdeal_attn_finite m) :
    (∀ (c : Dev nD) (i : S8192x1024.Idx), m ((c : Thread nD τ).loc main_arg0) i = ((m ((c : Thread nD τ).loc main_arg0) i : EReal).toReal : EReal))
    ∧ (∀ (c : Dev nD) (i : S8192x1024.Idx), m ((c : Thread nD τ).loc main_arg1) i = ((m ((c : Thread nD τ).loc main_arg1) i : EReal).toReal : EReal))
    ∧ ∀ (c : Dev nD) (r : Fin 8192) (h : Fin 8), m ((c : Thread nD τ).loc main_arg3) (ix2 r (lane h)) = ((m ((c : Thread nD τ).loc main_arg3) (ix2 r (lane h)) : EReal).toReal : EReal) := by
  refine ⟨fun c i => real_of_abs _ ?_, fun c i => real_of_abs _ ?_, fun c r k => real_of_abs _ ?_⟩
  · exact congrFun (h c).1 i
  · exact congrFun (h c).2.1 i
  · have e := congrFun (h c).2.2 (ix2 r k)
    refine Eq.trans ?_ e
    show _ = FloatOps.cmpf (F := Ideal) (φ := .f32) .olt (FloatOps.hostAbsf (F := Ideal) (φ := .f32) (m ((c : Thread nD τ).loc main_arg3) _)) _
    refine congrArg₂ (FloatOps.cmpf (F := Ideal) (φ := .f32) .olt) (congrArg _ (congrArg _ ?_)) rfl
    exact funext fun a => Fin.ext (by match a with | ⟨0, _⟩ => exact (Nat.zero_add _).symm | ⟨1, _⟩ => exact (Nat.zero_add _).symm)

/-- The kernel and its idealization name the same constant: log2(e). -/
theorem preserves : Cert.preserves_Attn_AttnIdeal := by
  exact IdealRules.named_const.statement Cert.AttnIdeal.κ "log2e" .f32 0x3FB8AA3B#32 (((Real.log 2)⁻¹ : ℝ) : EReal) rfl

/-- The reference runs and leaves its arguments. -/
theorem frame_ref : Cert.quiescent_AttnRefIdeal := fun m ρ _ =>
  (θ_run Cert.AttnRefIdeal.defs _ _).mono (fun r h => ⟨fun c => ⟨(h c).2.1, (h c).2.2.1, (h c).2.2.2.1, (h c).2.2.2.2⟩,
      Idealize.ShloMosaic.sem_eq_zero_of_no_sems (by decide) r.2⟩)
    (Cert.AttnRefIdeal.Value.run (F := Ideal) m ρ)

/-- On finite queries, keys and log forgets the kernel's result is the reference's. -/
theorem algebraic : Cert.algebraic_AttnIdeal_AttnRefIdeal_pre_attn_finite := by
  intro m ρ m' ρ' hpre hagree
  obtain ⟨h0, h1, h3⟩ := decode m hpre
  refine ⟨fun c => Cert.AttnRefIdeal.Read.val_main_v40 (F := Ideal) (m ((c : Thread nD τ).loc main_arg0)) (m ((c : Thread nD τ).loc main_arg1))
    (m ((c : Thread nD τ).loc main_arg2)) (m ((c : Thread nD τ).loc main_arg3)), ?_, ?_⟩
  · exact (θ_run Cert.AttnIdeal.defs _ _).mono (fun _ h c => ⟨(h c).1.trans (final m h0 h1 h3 c), (h c).2⟩)
      (Cert.AttnIdeal.Value.run_blocks (F := Ideal) m ρ)
  · refine (θ_run Cert.AttnRefIdeal.defs _ _).mono (fun _ h c => ⟨(h c).1.trans ?_, (h c).2⟩) (Cert.AttnRefIdeal.Value.run (F := Ideal) m' ρ')
    refine (Cert.AttnRefIdeal.Read.val_main_v40_eq m' c).trans ?_
    rw [(hagree c).1, (hagree c).2.1, (hagree c).2.2.1, (hagree c).2.2.2]

end Cert.AttnClaim

end
-- ==== Proof.FfnTile.lean ====
/- The feed-forward kernel's body read at an index: the normalised rows, and one chunk of hidden columns added. -/
module

public import proofs.«01_k».proof.Proof.Gen.FfnIdeal.Value
public import Idealize.ShloMosaic.Lib.Pointwise
public import Idealize.ShloMosaic.Lib.Pipeline.ValueKit
public import Idealize.ShloMosaic.Lib.Pipeline.ReadBack

@[expose] public section

noncomputable section

namespace Cert.FfnTile

open Cert.FfnIdeal Cert.FfnIdeal.Gen Idealize.ShloMosaic Idealize.ShloMosaic.TcCoe Idealize.SL.Sem

/-- The gated unit: `a` times its sigmoid, times `b`. -/
def glu (a b : EReal) : EReal := a * Ideal.div 1 (1 + Ideal.exp (0 - a)) * b

/-- One entry of a row normalised by its root mean square: the row, the entry's column, its weight. -/
def nrm (x : Fin 2048 → EReal) (l : Fin 2048) (w : EReal) : EReal :=
  x l * Ideal.rsqrt (Ideal.div (∑ k : Fin 2048, x k * x k) (Ideal.ofBits .f32 0x45000000#32) + Ideal.ofBits .f32 0x358637BD#32) * w

/-- The word of the literal one. -/
theorem one : Ideal.ofBits .f32 0x3F800000#32 = 1 := by
  simp [Ideal.ofBits, Ideal.ieee]
  rw [← EReal.coe_mul]
  norm_num

/-- What the scratch is filled with: the normalised rows. -/
theorem pay2_apply (x : Vec Ideal S1024x2048 .f32) (w : Vec Ideal S1x2048 .f32) (r : Fin 1024) (l : Fin 2048) :
    k0_pay2 x w (ix2 r l) = nrm (fun k => x (ix2 r k)) l (w (ix2 0 l)) := by
  pointwise [k0_pay2]
  simp only [nrm]

/-- One chunk of 256 hidden columns added onto the output block. -/
theorem pay3_apply (h : Vec Ideal S1024x2048 .bf16) (w1 w3 : Vec Ideal S1x2048x256 .f32) (o : Vec Ideal S1024x2048 .f32) (w2 : Vec Ideal S1x256x2048 .f32)
    (r : Fin 1024) (d : Fin 2048) :
    k0_pay3 h w1 w3 o w2 (ix2 r d) = (o (ix2 r d) : EReal) + ∑ k : Fin 256,
      glu (∑ l : Fin 2048, (h (ix2 r l) : EReal) * (w1 (ix3 0 l k) : EReal)) (∑ l : Fin 2048, (h (ix2 r l) : EReal) * (w3 (ix3 0 l k) : EReal))
        * (w2 (ix3 0 k d) : EReal) := by
  pointwise [k0_pay3]
  simp only [glu, one]

/-- The second chunk is computed as the first. -/
theorem pay1_eq : k0_pay1 (F := Ideal) = k0_pay3 := rfl

variable (m : (ℓ : Loc nD τ sig) → Buf (Elt Ideal) ℓ)

/-- The index maps over the grid: the row block, and the stretch of hidden columns. -/
theorem idx : ∀ t : Fin grid0.N, win0_0.index t = ![1, 0, t.val % 11] ∧ win0_1.index t = ![t.val / 11, 0]
    ∧ win0_2.index t = ![0, 0] ∧ win0_3.index t = ![1, 0, t.val % 11] ∧ win0_4.index t = ![1, t.val % 11, 0]
    ∧ win0_5.index t = ![t.val / 11, 0] := by decide +kernel

/-- Row `r` of row block `q`. -/
def row (q : ℕ) (hq : q < 8) (r : Fin 1024) : Fin 8192 := ⟨q * 1024 + r.val, by omega⟩
/-- Hidden column `k` of chunk `e` of stretch `f`. -/
def hid (f : ℕ) (hf : f < 11) (e : Fin 2) (k : Fin 256) : Fin 5632 := ⟨f * 512 + (e.val * 256 + k.val), by omega⟩

theorem q_lt (t : Fin cfg0.N) : t.val / 11 < 8 := by have := t.isLt; have h : cfg0.N = 88 := N_0; omega
theorem f_lt (t : Fin cfg0.N) : t.val % 11 < 11 := Nat.mod_lt _ (by decide)

theorem blk1 (c : Dev nD) (t : Fin cfg0.N) (r : Fin 1024) (l : Fin 2048) :
    iblk m c 1 t (ix2 r l) = m ((c : Thread nD τ).loc main_arg0) (ix2 (row (t.val / 11) (q_lt t) r) l) := by
  blk_ext [iblk, V, idx t, row]
theorem blk2 (c : Dev nD) (t : Fin cfg0.N) (l : Fin 2048) :
    iblk m c 2 t (ix2 0 l) = m ((c : Thread nD τ).loc main_arg1) (ix1 l) := by
  have e : iblk m c 2 t (ix2 0 l) = V m c main_v0 (ix2 0 l) := by
    blk_ext [iblk, idx t]
  rw [e]
  entry_read
  pointwise
theorem blk0 (c : Dev nD) (t : Fin cfg0.N) (l : Fin 2048) (e : Fin 2) (k : Fin 256) (h : e.val * 256 + k.val < 512) :
    iblk m c 0 t (ix3 0 l ⟨e.val * 256 + k.val, h⟩) = m ((c : Thread nD τ).loc main_arg2) (ix3 1 l (hid (t.val % 11) (f_lt t) e k)) := by
  blk_ext [iblk, V, idx t, hid]
theorem blk3 (c : Dev nD) (t : Fin cfg0.N) (l : Fin 2048) (e : Fin 2) (k : Fin 256) (h : e.val * 256 + k.val < 512) :
    iblk m c 3 t (ix3 0 l ⟨e.val * 256 + k.val, h⟩) = m ((c : Thread nD τ).loc main_arg3) (ix3 1 l (hid (t.val % 11) (f_lt t) e k)) := by
  blk_ext [iblk, V, idx t, hid]
theorem blk4 (c : Dev nD) (t : Fin cfg0.N) (l : Fin 2048) (e : Fin 2) (k : Fin 256) (h : e.val * 256 + k.val < 512) :
    iblk m c 4 t (ix3 0 ⟨e.val * 256 + k.val, h⟩ l) = m ((c : Thread nD τ).loc main_arg4) (ix3 1 (hid (t.val % 11) (f_lt t) e k) l) := by
  blk_ext [iblk, V, idx t, hid]

/-- One stretch of 512 hidden columns, a chunk at a time. -/
def body (h : Vec Ideal S1024x2048 .bf16) (w1 w3 : Vec Ideal S1x2048x512 .f32) (o : Vec Ideal S1024x2048 .f32) (w2 : Vec Ideal S1x512x2048 .f32) :
    Vec Ideal S1024x2048 .f32 :=
  k0_pay3 h (View.ld w1 (Rect.unit ![0, 0, 256] ![1, 2048, 256] inb_S1x2048x512_S1x2048x256_0_0_256))
    (View.ld w3 (Rect.unit ![0, 0, 256] ![1, 2048, 256] inb_S1x2048x512_S1x2048x256_0_0_256))
    (k0_pay3 h (View.ld w1 (Rect.unit ![0, 0, 0] ![1, 2048, 256] inb_S1x2048x512_S1x2048x256_0_0_0))
      (View.ld w3 (Rect.unit ![0, 0, 0] ![1, 2048, 256] inb_S1x2048x512_S1x2048x256_0_0_0)) o
      (View.ld w2 (Rect.unit ![0, 0, 0] ![1, 256, 2048] inb_S1x512x2048_S1x256x2048_0_0_0)))
    (View.ld w2 (Rect.unit ![0, 256, 0] ![1, 256, 2048] inb_S1x512x2048_S1x256x2048_0_256_0))

/-- A hidden column of a chunk, inside its stretch. -/
def sub (e : Fin 2) (k : Fin 256) : Fin 512 := ⟨e.val * 256 + k.val, by omega⟩

theorem ld_a (w : Vec Ideal S1x2048x512 .f32) (l : Fin 2048) (k : Fin 256) :
    View.ld w (Rect.unit ![0, 0, 0] ![1, 2048, 256] inb_S1x2048x512_S1x2048x256_0_0_0) (ix3 0 l k) = w (ix3 0 l (sub 0 k)) :=
  congrArg w (funext fun a => Fin.ext (by match a with
    | ⟨0, _⟩ => rfl
    | ⟨1, _⟩ => show 0 + 1 * l.val = l.val; omega
    | ⟨2, _⟩ => show 0 + 1 * k.val = 0 * 256 + k.val; omega))
theorem ld_b (w : Vec Ideal S1x2048x512 .f32) (l : Fin 2048) (k : Fin 256) :
    View.ld w (Rect.unit ![0, 0, 256] ![1, 2048, 256] inb_S1x2048x512_S1x2048x256_0_0_256) (ix3 0 l k) = w (ix3 0 l (sub 1 k)) :=
  congrArg w (funext fun a => Fin.ext (by match a with
    | ⟨0, _⟩ => rfl
    | ⟨1, _⟩ => show 0 + 1 * l.val = l.val; omega
    | ⟨2, _⟩ => show 256 + 1 * k.val = 1 * 256 + k.val; omega))
theorem ld_c (w : Vec Ideal S1x512x2048 .f32) (k : Fin 256) (d : Fin 2048) :
    View.ld w (Rect.unit ![0, 0, 0] ![1, 256, 2048] inb_S1x512x2048_S1x256x2048_0_0_0) (ix3 0 k d) = w (ix3 0 (sub 0 k) d) :=
  congrArg w (funext fun a => Fin.ext (by match a with
    | ⟨0, _⟩ => rfl
    | ⟨1, _⟩ => show 0 + 1 * k.val = 0 * 256 + k.val; omega
    | ⟨2, _⟩ => show 0 + 1 * d.val = d.val; omega))
theorem ld_d (w : Vec Ideal S1x512x2048 .f32) (k : Fin 256) (d : Fin 2048) :
    View.ld w (Rect.unit ![0, 256, 0] ![1, 256, 2048] inb_S1x512x2048_S1x256x2048_0_256_0) (ix3 0 k d) = w (ix3 0 (sub 1 k) d) :=
  congrArg w (funext fun a => Fin.ext (by match a with
    | ⟨0, _⟩ => rfl
    | ⟨1, _⟩ => show 256 + 1 * k.val = 1 * 256 + k.val; omega
    | ⟨2, _⟩ => show 0 + 1 * d.val = d.val; omega))

/-- A stretch's two chunks added onto the output block. -/
theorem body_apply (h : Vec Ideal S1024x2048 .bf16) (w1 w3 : Vec Ideal S1x2048x512 .f32) (o : Vec Ideal S1024x2048 .f32) (w2 : Vec Ideal S1x512x2048 .f32)
    (r : Fin 1024) (d : Fin 2048) :
    body h w1 w3 o w2 (ix2 r d) = (o (ix2 r d) : EReal) + ∑ e : Fin 2, ∑ k : Fin 256,
      glu (∑ l : Fin 2048, (h (ix2 r l) : EReal) * (w1 (ix3 0 l (sub e k)) : EReal)) (∑ l : Fin 2048, (h (ix2 r l) : EReal) * (w3 (ix3 0 l (sub e k)) : EReal))
        * (w2 (ix3 0 (sub e k) d) : EReal) := by
  unfold body
  rw [pay3_apply, pay3_apply, Fin.sum_univ_two, add_assoc]
  refine congrArg₂ (· + ·) rfl (congrArg₂ (· + ·) (Finset.sum_congr rfl fun k _ => ?_) (Finset.sum_congr rfl fun k _ => ?_))
  · exact congrArg₂ (· * ·) (congrArg₂ glu (Finset.sum_congr rfl fun l _ => congrArg (_ * ·) (ld_a w1 l k)) (Finset.sum_congr rfl fun l _ => congrArg (_ * ·) (ld_a w3 l k))) (ld_c w2 k d)
  · exact congrArg₂ (· * ·) (congrArg₂ glu (Finset.sum_congr rfl fun l _ => congrArg (_ * ·) (ld_b w1 l k)) (Finset.sum_congr rfl fun l _ => congrArg (_ * ·) (ld_b w3 l k))) (ld_d w2 k d)

section
variable (c : Dev nD)

theorem outs_A (t : Fin cfg0.N) (h0 : t.val % 11 = 0) : outsAt0 m c t.val t.isLt
    = (body (k0_pay2 (iblk m c 1 t) (iblk m c 2 t)) (iblk m c 0 t) (iblk m c 3 t) (iblk m c 1 t) (iblk m c 4 t), k0_pay2 (iblk m c 1 t) (iblk m c 2 t)) := by
  rw [outsAt0_A m c t h0]; frame_out; rfl
theorem outs_B (t : Fin cfg0.N) (h0 : ¬ t.val % 11 = 0) (hb : t.val - 1 < cfg0.N) : outsAt0 m c t.val t.isLt
    = (body (outsAt0 m c (t.val - 1) hb).2 (iblk m c 0 t) (iblk m c 3 t) (outsAt0 m c (t.val - 1) hb).1 (iblk m c 4 t), (outsAt0 m c (t.val - 1) hb).2) := by
  rw [outsAt0_B m c t h0]; frame_out; rw [read_unread_whole]; rfl

/-- The row block the arguments hold, its normalised rows, and one stretch's share of a result. -/
def X (q : ℕ) (hq : q < 8) (r : Fin 1024) (k : Fin 2048) : EReal := m ((c : Thread nD τ).loc main_arg0) (ix2 (row q hq r) k)
def H (q : ℕ) (hq : q < 8) (r : Fin 1024) (l : Fin 2048) : EReal := nrm (X m c q hq r) l (m ((c : Thread nD τ).loc main_arg1) (ix1 l))
def T (q : ℕ) (hq : q < 8) (r : Fin 1024) (d : Fin 2048) (j : Fin 5632) : EReal :=
  glu (∑ l : Fin 2048, H m c q hq r l * m ((c : Thread nD τ).loc main_arg2) (ix3 1 l j)) (∑ l : Fin 2048, H m c q hq r l * m ((c : Thread nD τ).loc main_arg3) (ix3 1 l j))
    * m ((c : Thread nD τ).loc main_arg4) (ix3 1 j d)

/-- A stretch added at a grid point, the scratch holding the normalised rows. -/
theorem step (t : Fin cfg0.N) (h : Vec Ideal S1024x2048 .bf16) (o : Vec Ideal S1024x2048 .f32) (hh : ∀ r l, h (ix2 r l) = H m c (t.val / 11) (q_lt t) r l)
    (r : Fin 1024) (d : Fin 2048) : body h (iblk m c 0 t) (iblk m c 3 t) o (iblk m c 4 t) (ix2 r d)
      = (o (ix2 r d) : EReal) + ∑ e : Fin 2, ∑ k : Fin 256, T m c (t.val / 11) (q_lt t) r d (hid (t.val % 11) (f_lt t) e k) := by
  rw [body_apply]
  simp only [hh, sub, blk0, blk3, blk4]
  rfl

/-- What the output block and the scratch hold after a grid point: the rows plus the stretches so far, and the normalised rows. -/
theorem held : ∀ (n : ℕ) (hn : n < cfg0.N) (q : ℕ) (hq : q < 8) (f : ℕ) (hf : f < 11), n = 11 * q + f →
    (∀ r l, (outsAt0 m c n hn).2 (ix2 r l) = H m c q hq r l)
    ∧ ∀ r d, (outsAt0 m c n hn).1 (ix2 r d) = X m c q hq r d + ∑ s : Fin (f + 1), ∑ e : Fin 2, ∑ k : Fin 256, T m c q hq r d (hid s.val (by omega) e k) := by
  intro n hn q hq f
  induction f generalizing n with
  | zero =>
    intro hf e
    have hm : n % 11 = 0 := by omega
    have hd : n / 11 = q := by omega
    have hs : ∀ r l, k0_pay2 (iblk m c 1 ⟨n, hn⟩) (iblk m c 2 ⟨n, hn⟩) (ix2 r l) = H m c q hq r l := by
      intro r l
      rw [pay2_apply]
      subst hd
      simp only [blk1, blk2]
      rfl
    have ho := outs_A m c ⟨n, hn⟩ hm
    dsimp only at ho
    rw [ho]
    subst hd
    refine ⟨hs, fun r d => (step m c ⟨n, hn⟩ _ _ hs r d).trans ?_⟩
    rw [blk1, Fin.sum_univ_one]
    simp only [hm]
    rfl
  | succ f ih =>
    intro hf e
    have hm : n % 11 = f + 1 := by omega
    have hd : n / 11 = q := by omega
    obtain ⟨i2, i1⟩ := ih (n - 1) (by omega) (by omega) (by omega)
    have ho := outs_B m c ⟨n, hn⟩ (by dsimp only; omega) (by dsimp only; omega)
    dsimp only at ho
    rw [ho]
    subst hd
    refine ⟨i2, fun r d => (step m c ⟨n, hn⟩ _ _ i2 r d).trans ?_⟩
    rw [i1, Fin.sum_univ_castSucc (n := f + 1), add_assoc]
    simp only [hm]
    rfl

/-- Eleven stretches of two chunks of 256 are the 5632 hidden columns. -/
theorem resum (g : Fin 5632 → EReal) : ∑ s : Fin 11, ∑ e : Fin 2, ∑ k : Fin 256, g (hid s.val s.isLt e k) = ∑ j : Fin 5632, g j := by
  refine (Finset.sum_congr rfl fun s _ => ?_).trans (Fin.sum_mul_add_congr (S := 11) (n := 512) (f := g)
    (F := fun s k => g ⟨s.val * 512 + k.val, by have := s.isLt; have := k.isLt; omega⟩) fun s k hl => rfl)
  exact Fin.sum_mul_add_congr (S := 2) (n := 256) (F := fun e k => g (hid s.val s.isLt e k))
    (f := fun k : Fin 512 => g ⟨s.val * 512 + k.val, by have := s.isLt; have := k.isLt; omega⟩) fun e k hl => rfl

/-- After a row block's last stretch: the rows plus the whole sum over hidden columns. -/
theorem last (n : ℕ) (hn : n < cfg0.N) (q : ℕ) (hq : q < 8) (e : n = 11 * q + 10) (r : Fin 1024) (d : Fin 2048) :
    (outsAt0 m c n hn).1 (ix2 r d) = X m c q hq r d + ∑ j : Fin 5632, T m c q hq r d j :=
  ((held m c n hn q hq 10 (by omega) e).2 r d).trans (congrArg (X m c q hq r d + ·) (resum (T m c q hq r d)))

end

end Cert.FfnTile

end
-- ==== Proof.FfnClaim.lean ====
/- The feed-forward kernel's result array is the reference's. -/
module

public import proofs.«01_k».proof.Proof.FfnTile
public import proofs.«01_k».proof.Proof.Gen.FfnRefIdeal.Read
public import proofs.«01_k».proof.Proof.Gen.FfnRefIdeal.Run
public import Idealize.ShloMosaic.Lib.Pipeline.Value
public import Idealize.ShloMosaic.Lib.Quiescent
public import proofs.«01_k».proof.Defs

@[expose] public section

noncomputable section

namespace Cert.FfnRefRead

open Cert.FfnRefIdeal Cert.FfnRefIdeal.Read Idealize.ShloMosaic Cert.FfnTile

variable (x0 : (⟨S8192x2048, .f32⟩ : BufTy).Contents (Elt Ideal)) (x1 : (⟨S2048, .f32⟩ : BufTy).Contents (Elt Ideal))
  (x2 x3 : (⟨S2x2048x5632, .f32⟩ : BufTy).Contents (Elt Ideal)) (x4 : (⟨S2x5632x2048, .f32⟩ : BufTy).Contents (Elt Ideal))

/-- The reference's normalised rows. -/
theorem norm_apply (r : Fin 8192) (l : Fin 2048) : val_main_v12 x0 x1 (ix2 r l) = nrm (fun k => x0 (ix2 r k)) l (x1 (ix1 l)) := by
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]
  rfl

/-- The reference's first hidden product. -/
theorem up_apply (r : Fin 8192) (j : Fin 5632) : val_main_v15 x0 x1 x2 (ix2 r j)
    = ∑ l : Fin 2048, nrm (fun k => x0 (ix2 r k)) l (x1 (ix1 l)) * (x2 (ix3 1 l j) : EReal) := by
  pointwise [val_main_v15, val_main_v14, val_main_v13, norm_apply]

/-- The reference's second hidden product. -/
theorem gate_apply (r : Fin 8192) (j : Fin 5632) : val_main_v19 x0 x1 x3 (ix2 r j)
    = ∑ l : Fin 2048, nrm (fun k => x0 (ix2 r k)) l (x1 (ix1 l)) * (x3 (ix3 1 l j) : EReal) := by
  pointwise [val_main_v19, val_main_v18, val_main_v17, norm_apply]

/-- The reference's hidden layer. -/
theorem hidden_apply (r : Fin 8192) (j : Fin 5632) : val_main_v20 x0 x1 x2 x3 (ix2 r j)
    = glu (val_main_v15 x0 x1 x2 (ix2 r j)) (val_main_v19 x0 x1 x3 (ix2 r j)) := by
  pointwise [val_main_v20, val_main_v16, val_main_call0_v5, val_main_call0_v4, val_main_call0_v3, val_main_call0_v2, val_main_call0_v1, val_main_call0_v0,
    val_main_call0_cst, val_main_call0_cst_0]
  simp only [glu, one, zero_sub]

/-- The reference's result. -/
theorem result_apply (r : Fin 8192) (d : Fin 2048) : val_main_v24 x0 x1 x2 x3 x4 (ix2 r d)
    = (x0 (ix2 r d) : EReal) + ∑ j : Fin 5632, glu (∑ l : Fin 2048, nrm (fun k => x0 (ix2 r k)) l (x1 (ix1 l)) * (x2 (ix3 1 l j) : EReal))
        (∑ l : Fin 2048, nrm (fun k => x0 (ix2 r k)) l (x1 (ix1 l)) * (x3 (ix3 1 l j) : EReal)) * (x4 (ix3 1 j d) : EReal) := by
  pointwise [val_main_v24, val_main_v23, val_main_v22, val_main_v21, hidden_apply, up_apply, gate_apply]

end Cert.FfnRefRead

namespace Cert.FfnClaim

open Cert.FfnIdeal Cert.FfnIdeal.Gen Idealize.ShloMosaic Idealize.ShloMosaic.TcCoe Idealize.SL.Sem Cert.FfnTile

variable (m : (ℓ : Loc nD τ sig) → Buf (Elt Ideal) ℓ)

/-- The block of the result a grid point writes, placed. -/
theorem place (t : Fin cfg0.N) (y : S1024x2048.Idx) :
    ((cfg0.win 5).blk t).view.emb y = ix2 (row (t.val / 11) (q_lt t) (y 0)) (y 1) := by
  blk_ext [idx t, row]

/-- The kernel's result array is the reference's value of its arguments. -/
theorem final (c : Dev nD) : (dats m 0 c).arrAt 5 cfg0.N = Cert.FfnRefIdeal.Read.val_main_v24 (F := Ideal)
    (m ((c : Thread nD τ).loc main_arg0)) (m ((c : Thread nD τ).loc main_arg1)) (m ((c : Thread nD τ).loc main_arg2)) (m ((c : Thread nD τ).loc main_arg3))
    (m ((c : Thread nD τ).loc main_arg4)) := by
  refine (dats m 0 c).arrAt_eq_of_covers 5 _ (by decide +kernel) fun t hf y => ?_
  have hm : t.val % 11 = 10 := (flush0_5 t).mp hf
  blk_simp
  rw [after0_5, place]
  exact (congrArg _ (eq_ix2 y)).trans ((last m c t.val t.isLt (t.val / 11) (q_lt t) (by omega) (y 0) (y 1)).trans
    (Cert.FfnRefRead.result_apply _ _ _ _ _ _ _).symm)

/-- The reference runs and leaves its arguments. -/
theorem frame_ref : Cert.quiescent_FfnRefIdeal := fun m ρ _ =>
  (θ_run Cert.FfnRefIdeal.defs _ _).mono (fun r h => ⟨fun c => ⟨(h c).2.1, (h c).2.2.1, (h c).2.2.2.1, (h c).2.2.2.2.1, (h c).2.2.2.2.2⟩,
      Idealize.ShloMosaic.sem_eq_zero_of_no_sems (by decide) r.2⟩)
    (Cert.FfnRefIdeal.Value.run (F := Ideal) m ρ)

/-- The kernel's result is the reference's, on every argument. -/
theorem algebraic : Cert.algebraic_FfnIdeal_FfnRefIdeal := by
  intro m ρ m' ρ' _ hagree
  refine ⟨fun c => Cert.FfnRefIdeal.Read.val_main_v24 (F := Ideal) (m ((c : Thread nD τ).loc main_arg0)) (m ((c : Thread nD τ).loc main_arg1))
    (m ((c : Thread nD τ).loc main_arg2)) (m ((c : Thread nD τ).loc main_arg3)) (m ((c : Thread nD τ).loc main_arg4)), ?_, ?_⟩
  · exact (θ_run Cert.FfnIdeal.defs _ _).mono (fun _ h c => ⟨(h c).1.trans (final m c), (h c).2⟩)
      (Cert.FfnIdeal.Value.run_blocks (F := Ideal) m ρ)
  · refine (θ_run Cert.FfnRefIdeal.defs _ _).mono (fun _ h c => ⟨(h c).1.trans ?_, (h c).2⟩) (Cert.FfnRefIdeal.Value.run (F := Ideal) m' ρ')
    refine (Cert.FfnRefIdeal.Read.val_main_v24_eq _ _ _ _ _).trans ?_
    rw [(hagree c).1, (hagree c).2.1, (hagree c).2.2.1, (hagree c).2.2.2.1, (hagree c).2.2.2.2]

end Cert.FfnClaim

end
-- ==== Proof.MixClaim.lean ====
/- The mixer's output kernel: its result array is the reference's. -/
module

public import proofs.«01_k».proof.Proof.Gen.MixIdeal.Value
public import proofs.«01_k».proof.Proof.Gen.MixRefIdeal.Read
public import proofs.«01_k».proof.Proof.Gen.MixRefIdeal.Run
public import Idealize.ShloMosaic.Lib.Pointwise
public import Idealize.ShloMosaic.Lib.Pipeline.ValueKit
public import Idealize.ShloMosaic.Lib.Pipeline.Value
public import Idealize.ShloMosaic.Lib.Quiescent
public import proofs.«01_k».proof.Defs

@[expose] public section

noncomputable section

namespace Cert.MixTile

open Cert.MixIdeal Cert.MixIdeal.Gen Idealize.ShloMosaic Idealize.ShloMosaic.TcCoe Idealize.SL.Sem

/-- The word of the literal one. -/
theorem one : Ideal.ofBits .f32 0x3F800000#32 = 1 := by
  simp [Ideal.ofBits, Ideal.ieee]
  rw [← EReal.coe_mul]
  norm_num

/-- The tanh form of gelu, with the literals both programs carry. -/
def gel (y : EReal) : EReal :=
  Ideal.ofBits .f32 0x3F000000#32 * y * (1 + Ideal.tanh (Ideal.ofBits .f32 0x3F4C422A#32 * (y + Ideal.ofBits .f32 0x3D372713#32 * (y * y * y))))

/-- The gated state-space branch at a column: gelu of the row's entry, times the sigmoid of a product of the whole row. -/
def gat (y : Fin 1024 → EReal) (w : Fin 1024 → EReal) (b : EReal) (j : Fin 1024) : EReal :=
  gel (y j) * Ideal.div 1 (1 + Ideal.exp (0 - ((∑ k : Fin 1024, gel (y k) * w k) + b)))

/-- The gated branch of a block of rows. -/
theorem pay2_apply (y : Vec Ideal S512x1024 .f32) (w : Vec Ideal S1024x1024 .bf16) (b : Vec Ideal S1x1024 .f32) (r : Fin 512) (j : Fin 1024) :
    k0_pay2 y w b (ix2 r j) = gat (fun k => y (ix2 r k)) (fun k => w (ix2 k j)) (b (ix2 0 j)) j := by
  pointwise [k0_pay2]
  simp only [gat, gel, one]

/-- The rows plus the attention branch's product. -/
theorem pay3_apply (x : Vec Ideal S512x2048 .f32) (a : Vec Ideal S512x1024 .bf16) (w : Vec Ideal S1024x2048 .bf16) (r : Fin 512) (d : Fin 2048) :
    k0_pay3 x a w (ix2 r d) = (x (ix2 r d) : EReal) + ∑ k : Fin 1024, (a (ix2 r k) : EReal) * (w (ix2 k d) : EReal) := by
  pointwise [k0_pay3]

/-- That plus the state-space branch's product. -/
theorem pay1_apply (s : FVec Ideal S512x1024 .bf16) (x : FVec Ideal S512x2048 .f32) (w : Vec Ideal S1024x2048 .bf16) (r : Fin 512) (d : Fin 2048) :
    k0_pay1 s x w (ix2 r d) = (x (ix2 r d) : EReal) + ∑ k : Fin 1024, (s (ix2 r k) : EReal) * (w (ix2 k d) : EReal) := by
  pointwise [k0_pay1]

/-- The output weight's first half of rows. -/
def top (k : Fin 1024) : Fin 2048 := ⟨k.val, by omega⟩
/-- Its second half. -/
def bot (k : Fin 1024) : Fin 2048 := ⟨1024 + k.val, by omega⟩

/-- The first half of rows loaded out of the output weight. -/
theorem ld_top (w : Vec Ideal S2048x2048 .bf16) (k : Fin 1024) (d : Fin 2048) : View.ld w r0_4 (ix2 k d) = w (ix2 (top k) d) :=
  congrArg w (funext fun a => Fin.ext (by match a with
    | ⟨0, _⟩ => show 0 + 1 * k.val = k.val; omega
    | ⟨1, _⟩ => show 0 + 1 * d.val = d.val; omega))
/-- The second half. -/
theorem ld_bot (w : Vec Ideal S2048x2048 .bf16) (k : Fin 1024) (d : Fin 2048) : View.ld w r0_5 (ix2 k d) = w (ix2 (bot k) d) :=
  congrArg w (funext fun a => Fin.ext (by match a with
    | ⟨0, _⟩ => show 1024 + 1 * k.val = 1024 + k.val; omega
    | ⟨1, _⟩ => show 0 + 1 * d.val = d.val; omega))

/-- What the body leaves in the output block. -/
theorem out_apply (x0 : Vec Ideal S512x2048 .f32) (x1 : Vec Ideal S512x1024 .bf16) (x2 : Vec Ideal S512x1024 .f32) (x3 : Vec Ideal S1024x1024 .bf16)
    (x4 : Vec Ideal S1x1024 .f32) (x5 : Vec Ideal S2048x2048 .bf16) (r : Fin 512) (d : Fin 2048) :
    out0_6 x0 x1 x2 x3 x4 x5 (ix2 r d) = (x0 (ix2 r d) : EReal) + (∑ k : Fin 1024, (x1 (ix2 r k) : EReal) * (x5 (ix2 (top k) d) : EReal))
      + ∑ k : Fin 1024, gat (fun l => x2 (ix2 r l)) (fun l => x3 (ix2 l k)) (x4 (ix2 0 k)) k * (x5 (ix2 (bot k) d) : EReal) := by
  have e : out0_6 x0 x1 x2 x3 x4 x5 = k0_pay1 (k0_pay2 x2 x3 x4) (k0_pay3 x0 x1 (View.ld x5 r0_4)) (View.ld x5 r0_5) := by frame_out
  rw [e, pay1_apply, pay3_apply]
  refine congrArg₂ (· + ·) (congrArg (_ + ·) (Finset.sum_congr rfl fun k _ => congrArg (_ * ·) (ld_top x5 k d)))
    (Finset.sum_congr rfl fun k _ => congrArg₂ (· * ·) (pay2_apply x2 x3 x4 r k) (ld_bot x5 k d))

/-- One entry of the result: the residual, the attention's part, and the state-space branch's part. -/
noncomputable def mix1 (x : EReal) (a u : Fin 1024 → EReal) (W : Fin 1024 → Fin 1024 → EReal) (b : Fin 1024 → EReal) (o : Fin 2048 → EReal) : EReal :=
  x + (∑ k, a k * o (top k)) + ∑ k, gat u (fun l => W l k) (b k) k * o (bot k)

end Cert.MixTile

namespace Cert.MixRefRead

open Cert.MixRefIdeal Cert.MixRefIdeal.Read Idealize.ShloMosaic Cert.MixTile

variable (x0 : (⟨S8192x2048, .f32⟩ : BufTy).Contents (Elt Ideal)) (x1 : (⟨S8192x1024, .bf16⟩ : BufTy).Contents (Elt Ideal))
  (x2 : (⟨S8192x1024, .f32⟩ : BufTy).Contents (Elt Ideal)) (x3 : (⟨S1024x1024, .f32⟩ : BufTy).Contents (Elt Ideal))
  (x4 : (⟨S1024, .f32⟩ : BufTy).Contents (Elt Ideal)) (x5 : (⟨S2048x2048, .f32⟩ : BufTy).Contents (Elt Ideal))

/-- The reference's gelu. -/
theorem gelu_apply (r : Fin 8192) (j : Fin 1024) : val_main_v12 x2 (ix2 r j) = gel (x2 (ix2 r j)) := by
  pointwise [val_main_v12, val_main_v11, val_main_v10, val_main_v9, val_main_v8, val_main_v7, val_main_v6, val_main_v5, val_main_v4, val_main_v3,
    val_main_v2, val_main_v1, val_main_v0, val_main_cst, val_main_cst_0, val_main_cst_1, val_main_cst_2]
  simp only [gel, one]
  rw [mul_left_comm, ← mul_assoc (Ideal.ofBits .f32 0x3F000000#32) (x2 (ix2 r j))]

/-- The reference's gated branch. -/
theorem ssm_apply (r : Fin 8192) (j : Fin 1024) : val_main_v23 x2 x3 x4 (ix2 r j)
    = gat (fun k => x2 (ix2 r k)) (fun k => x3 (ix2 k j)) (x4 (ix1 j)) j := by
  pointwise [val_main_v23, val_main_v22, val_main_v21, val_main_v20, val_main_v19, val_main_v18, val_main_v17, val_main_v16, val_main_v15, val_main_v14,
    val_main_v13, val_main_cst_3, val_main_cst_4, gelu_apply]
  simp only [gat, one, zero_sub]

/-- The two branches side by side: the attention's columns. -/
theorem cat_top (r : Fin 8192) (k : Fin 1024) : val_main_v25 x1 x2 x3 x4 (ix2 r (top k)) = (x1 (ix2 r k) : EReal) :=
  concatenate_pair_apply_left (1 : Fin S8192x2048.rank) (val_main_v24 x1) (val_main_v23 x2 x3 x4) _ (ix2 r (top k)) rfl (ix2 r k)
    fun b => by match b with | ⟨0, _⟩ => rfl | ⟨1, _⟩ => rfl

/-- The state-space branch's columns. -/
theorem cat_bot (r : Fin 8192) (k : Fin 1024) : val_main_v25 x1 x2 x3 x4 (ix2 r (bot k))
    = gat (fun l => x2 (ix2 r l)) (fun l => x3 (ix2 l k)) (x4 (ix1 k)) k :=
  (concatenate_pair_apply_right (1 : Fin S8192x2048.rank) (val_main_v24 x1) (val_main_v23 x2 x3 x4) _ (ix2 r (bot k)) rfl rfl (ix2 r k)
    (fun b hb => by match b, hb with | ⟨0, _⟩, _ => rfl | ⟨1, _⟩, hb => exact absurd rfl hb) (by show k.val + 1024 = (bot k).val; exact Nat.add_comm _ _)).trans (ssm_apply x2 x3 x4 r k)

/-- The reference's result. -/
theorem result_apply (r : Fin 8192) (d : Fin 2048) : val_main_v27 x0 x1 x2 x3 x4 x5 (ix2 r d)
    = (x0 (ix2 r d) : EReal) + (∑ k : Fin 1024, (x1 (ix2 r k) : EReal) * (x5 (ix2 (top k) d) : EReal))
      + ∑ k : Fin 1024, gat (fun l => x2 (ix2 r l)) (fun l => x3 (ix2 l k)) (x4 (ix1 k)) k * (x5 (ix2 (bot k) d) : EReal) := by
  have e : val_main_v26 x1 x2 x3 x4 x5 (ix2 r d) = ∑ j : Fin (1024 + 1024), (val_main_v25 x1 x2 x3 x4 (ix2 r j) : EReal) * (x5 (ix2 j d) : EReal) := by
    unfold val_main_v26
    generalize val_main_v25 x1 x2 x3 x4 = g
    pointwise
  rw [val_main_v27_apply, e, Fin.sum_univ_add, add_assoc]
  refine congrArg (_ + ·) (congrArg₂ (· + ·) (Finset.sum_congr rfl fun k _ => ?_) (Finset.sum_congr rfl fun k _ => ?_))
  · exact congrArg (· * _) (cat_top x1 x2 x3 x4 r k)
  · exact congrArg (· * _) (cat_bot x1 x2 x3 x4 r k)

end Cert.MixRefRead

namespace Cert.MixClaim

open Cert.MixIdeal Cert.MixIdeal.Gen Idealize.ShloMosaic Idealize.ShloMosaic.TcCoe Idealize.SL.Sem Cert.MixTile

variable (m : (ℓ : Loc nD τ sig) → Buf (Elt Ideal) ℓ)

/-- The index maps over the grid: the row block. -/
theorem idx : ∀ t : Fin grid0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0] := by decide +kernel

/-- Row `r` of a grid point's row block. -/
def row (t : Fin cfg0.N) (r : Fin 512) : Fin 8192 := ⟨t.val * 512 + r.val, by have := t.isLt; have h : cfg0.N = 16 := N_0; omega⟩

theorem blk0 (c : Dev nD) (t : Fin cfg0.N) (r : Fin 512) (d : Fin 2048) :
    iblk m c 0 t (ix2 r d) = m ((c : Thread nD τ).loc main_arg0) (ix2 (row t r) d) := by
  blk_ext [iblk, V, idx t, row]
theorem blk1 (c : Dev nD) (t : Fin cfg0.N) (r : Fin 512) (d : Fin 1024) :
    iblk m c 1 t (ix2 r d) = m ((c : Thread nD τ).loc main_arg1) (ix2 (row t r) d) := by
  blk_ext [iblk, V, idx t, row]
theorem blk2 (c : Dev nD) (t : Fin cfg0.N) (r : Fin 512) (d : Fin 1024) :
    iblk m c 2 t (ix2 r d) = m ((c : Thread nD τ).loc main_arg2) (ix2 (row t r) d) := by
  blk_ext [iblk, V, idx t, row]
theorem blk3 (c : Dev nD) (t : Fin cfg0.N) (k j : Fin 1024) :
    iblk m c 3 t (ix2 k j) = m ((c : Thread nD τ).loc main_arg3) (ix2 k j) := by
  have e : iblk m c 3 t (ix2 k j) = V m c main_v0 (ix2 k j) := by
    blk_ext [iblk, idx t]
  rw [e]
  entry_read
  pointwise
theorem blk4 (c : Dev nD) (t : Fin cfg0.N) (j : Fin 1024) :
    iblk m c 4 t (ix2 0 j) = m ((c : Thread nD τ).loc main_arg4) (ix1 j) := by
  have e : iblk m c 4 t (ix2 0 j) = V m c main_v1 (ix2 0 j) := by
    blk_ext [iblk, idx t]
  rw [e]
  entry_read
  pointwise
theorem blk5 (c : Dev nD) (t : Fin cfg0.N) (k j : Fin 2048) :
    iblk m c 5 t (ix2 k j) = m ((c : Thread nD τ).loc main_arg5) (ix2 k j) := by
  have e : iblk m c 5 t (ix2 k j) = V m c main_v2 (ix2 k j) := by
    blk_ext [iblk, idx t]
  rw [e]
  entry_read
  pointwise

/-- The body's term over a grid point's blocks is that over the arguments' rows. -/
theorem same (c : Dev nD) (t : Fin cfg0.N) (r : Fin 512) (d : Fin 2048) :
    mix1 (iblk m c 0 t (ix2 r d)) (fun k => iblk m c 1 t (ix2 r k)) (fun k => iblk m c 2 t (ix2 r k)) (fun l k => iblk m c 3 t (ix2 l k))
      (fun k => iblk m c 4 t (ix2 0 k)) (fun k => iblk m c 5 t (ix2 k d))
    = mix1 (m ((c : Thread nD τ).loc main_arg0) (ix2 (row t r) d)) (fun k => m ((c : Thread nD τ).loc main_arg1) (ix2 (row t r) k))
      (fun k => m ((c : Thread nD τ).loc main_arg2) (ix2 (row t r) k)) (fun l k => m ((c : Thread nD τ).loc main_arg3) (ix2 l k))
      (fun k => m ((c : Thread nD τ).loc main_arg4) (ix1 k)) (fun k => m ((c : Thread nD τ).loc main_arg5) (ix2 k d)) := by
  simp only [blk0, blk1, blk2, blk3, blk4, blk5]

/-- The block of the result a grid point writes, placed. -/
theorem place (t : Fin cfg0.N) (y : S512x2048.Idx) :
    ((cfg0.win 6).blk t).view.emb y = ix2 (row t (y 0)) (y 1) := by
  blk_ext [idx t, row]

/-- The kernel's result array is the reference's value of its arguments. -/
theorem final (c : Dev nD) : (dats m 0 c).arrAt 6 cfg0.N = Cert.MixRefIdeal.Read.val_main_v27 (F := Ideal)
    (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) := by
  refine (dats m 0 c).arrAt_eq_of_covers 6 _ (by decide +kernel) fun t hf y => ?_
  blk_simp
  rw [after0_6, place]
  refine (congrArg _ (eq_ix2 y)).trans ((out_apply _ _ _ _ _ _ (y 0) (y 1)).trans ?_)
  refine Eq.trans ?_ (Cert.MixRefRead.result_apply _ _ _ _ _ _ _ _).symm
  exact same m c t (y 0) (y 1)

/-- The reference runs and leaves its arguments. -/
theorem frame_ref : Cert.quiescent_MixRefIdeal := fun m ρ _ =>
  (θ_run Cert.MixRefIdeal.defs _ _).mono (fun r h => ⟨fun c => ⟨(h c).2.1, (h c).2.2.1, (h c).2.2.2.1, (h c).2.2.2.2.1, (h c).2.2.2.2.2.1, (h c).2.2.2.2.2.2⟩,
      Idealize.ShloMosaic.sem_eq_zero_of_no_sems (by decide) r.2⟩)
    (Cert.MixRefIdeal.Value.run (F := Ideal) m ρ)

/-- The kernel's result is the reference's, on every argument. -/
theorem algebraic : Cert.algebraic_MixIdeal_MixRefIdeal := by
  intro m ρ m' ρ' _ hagree
  refine ⟨fun c => Cert.MixRefIdeal.Read.val_main_v27 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)), ?_, ?_⟩
  · exact (θ_run Cert.MixIdeal.defs _ _).mono (fun _ h c => ⟨(h c).1.trans (final m c), (h c).2⟩)
      (Cert.MixIdeal.Value.run_blocks (F := Ideal) m ρ)
  · refine (θ_run Cert.MixRefIdeal.defs _ _).mono (fun _ h c => ⟨(h c).1.trans ?_, (h c).2⟩) (Cert.MixRefIdeal.Value.run (F := Ideal) m' ρ')
    refine (Cert.MixRefIdeal.Read.val_main_v27_eq _ _ _ _ _ _).trans ?_
    rw [(hagree c).1, (hagree c).2.1, (hagree c).2.2.1, (hagree c).2.2.2.1, (hagree c).2.2.2.2.1, (hagree c).2.2.2.2.2]

end Cert.MixClaim

end
-- ==== Proof.InpTile.lean ====
/- The input projection's body. -/
module

public import proofs.«01_k».proof.Proof.Gen.InpIdeal.Value
public import Idealize.ShloMosaic.Lib.Pointwise
public import Idealize.ShloMosaic.Lib.Pipeline.ValueKit
public import Idealize.ShloMosaic.Lib.Pipeline.ReadBack

@[expose] public section

noncomputable section

namespace Cert.InpTile

open Cert.InpIdeal Cert.InpIdeal.Gen Idealize.ShloMosaic Idealize.ShloMosaic.TcCoe Idealize.SL.Sem

/-- One entry of a row normalised by its root mean square: the row, the entry's column, its weight. -/
def nrm (x : Fin 2048 → EReal) (l : Fin 2048) (w : EReal) : EReal :=
  x l * Ideal.rsqrt (Ideal.div (∑ k : Fin 2048, x k * x k) (Ideal.ofBits .f32 0x45000000#32) + Ideal.ofBits .f32 0x358637BD#32) * w

/-- A head's column of a wide row. -/
def col (k : Fin 1024) (d : Fin 128) : Fin 1024 := ⟨k.val / 128 * 128 + d.val, by omega⟩

/-- One entry of a row normalised head by head: heads are 128 columns wide. -/
def hd (z : Fin 1024 → EReal) (k : Fin 1024) (w : EReal) : EReal :=
  z k * Ideal.rsqrt (Ideal.div (∑ d : Fin 128, z (col k d) * z (col k d)) (Ideal.ofBits .f32 0x43000000#32) + Ideal.ofBits .f32 0x358637BD#32) * w

variable (h : FVec Ideal S512x2048 .bf16) (v : Vec Ideal S256x2048 .bf16) (w : Vec Ideal S1024x2048 .bf16) (g : Vec Ideal S1x128 .f32)

/-- The normalised rows against 256 weight rows. -/
def prj : FVec Ideal S512x256 .f32 := k0_pay16 h v
def prjb : FVec Ideal S512x256 .bf16 := k0_pay15 (prj h v)
/-- A query head's piece: the left of two heads, and the right. -/
def ql : FVec Ideal S512x128 .bf16 := k0_pay21 h (k0_pay17 v) (constant S512x256 .f32 0x00000000#32) g
def qr : FVec Ideal S512x128 .bf16 := k0_pay26 (prj h v) g
/-- A key head's piece: the left of two heads, and the right. -/
def kl : FVec Ideal S512x128 .f32 := k0_pay9 (prj h v) g
def kr : FVec Ideal S512x128 .f32 := k0_pay13 (prj h v) g
def bl : FVec Ideal S512x128 .bf16 := k0_pay10 (prj h v) g
def br : FVec Ideal S512x128 .bf16 := k0_pay14 (prj h v) g

/-- The carried row at a sequence's start. -/
def zrow : Vec Ideal S1x128 .f32 := k0_pay62 (F := Ideal)

/-- What the body stores for the queries, the keys (twice) and the plain projections (in two types). -/
def qOut : Vec Ideal S512x1024 .bf16 := View.canon [
    ⟨Rect.unit ![0, 896] ![512, 128] inb_S512x1024_S512x128_0_896, qr h (View.ld w (Rect.unit ![768, 0] ![256, 2048] inb_S1024x2048_S256x2048_768_0)) g⟩,
    ⟨Rect.unit ![0, 768] ![512, 128] inb_S512x1024_S512x128_0_768, ql h (View.ld w (Rect.unit ![768, 0] ![256, 2048] inb_S1024x2048_S256x2048_768_0)) g⟩,
    ⟨Rect.unit ![0, 640] ![512, 128] inb_S512x1024_S512x128_0_640, qr h (View.ld w (Rect.unit ![512, 0] ![256, 2048] inb_S1024x2048_S256x2048_512_0)) g⟩,
    ⟨Rect.unit ![0, 512] ![512, 128] inb_S512x1024_S512x128_0_512, ql h (View.ld w (Rect.unit ![512, 0] ![256, 2048] inb_S1024x2048_S256x2048_512_0)) g⟩,
    ⟨Rect.unit ![0, 384] ![512, 128] inb_S512x1024_S512x128_0_384, qr h (View.ld w (Rect.unit ![256, 0] ![256, 2048] inb_S1024x2048_S256x2048_256_0)) g⟩,
    ⟨Rect.unit ![0, 256] ![512, 128] inb_S512x1024_S512x128_0_256, ql h (View.ld w (Rect.unit ![256, 0] ![256, 2048] inb_S1024x2048_S256x2048_256_0)) g⟩,
    ⟨Rect.unit ![0, 128] ![512, 128] inb_S512x1024_S512x128_0_128, qr h (View.ld w (Rect.unit ![0, 0] ![256, 2048] inb_S1024x2048_S256x2048_0_0)) g⟩,
    ⟨Rect.unit ![0, 0] ![512, 128] inb_S512x1024_S512x128_0_0, ql h (View.ld w (Rect.unit ![0, 0] ![256, 2048] inb_S1024x2048_S256x2048_0_0)) g⟩]
def kOut : Vec Ideal S512x1024 .f32 := View.canon [
    ⟨Rect.unit ![0, 896] ![512, 128] inb_S512x1024_S512x128_0_896, kr h (View.ld w (Rect.unit ![768, 0] ![256, 2048] inb_S1024x2048_S256x2048_768_0)) g⟩,
    ⟨Rect.unit ![0, 768] ![512, 128] inb_S512x1024_S512x128_0_768, kl h (View.ld w (Rect.unit ![768, 0] ![256, 2048] inb_S1024x2048_S256x2048_768_0)) g⟩,
    ⟨Rect.unit ![0, 640] ![512, 128] inb_S512x1024_S512x128_0_640, kr h (View.ld w (Rect.unit ![512, 0] ![256, 2048] inb_S1024x2048_S256x2048_512_0)) g⟩,
    ⟨Rect.unit ![0, 512] ![512, 128] inb_S512x1024_S512x128_0_512, kl h (View.ld w (Rect.unit ![512, 0] ![256, 2048] inb_S1024x2048_S256x2048_512_0)) g⟩,
    ⟨Rect.unit ![0, 384] ![512, 128] inb_S512x1024_S512x128_0_384, kr h (View.ld w (Rect.unit ![256, 0] ![256, 2048] inb_S1024x2048_S256x2048_256_0)) g⟩,
    ⟨Rect.unit ![0, 256] ![512, 128] inb_S512x1024_S512x128_0_256, kl h (View.ld w (Rect.unit ![256, 0] ![256, 2048] inb_S1024x2048_S256x2048_256_0)) g⟩,
    ⟨Rect.unit ![0, 128] ![512, 128] inb_S512x1024_S512x128_0_128, kr h (View.ld w (Rect.unit ![0, 0] ![256, 2048] inb_S1024x2048_S256x2048_0_0)) g⟩,
    ⟨Rect.unit ![0, 0] ![512, 128] inb_S512x1024_S512x128_0_0, kl h (View.ld w (Rect.unit ![0, 0] ![256, 2048] inb_S1024x2048_S256x2048_0_0)) g⟩]
def bOut : Vec Ideal S512x1024 .bf16 := View.canon [
    ⟨Rect.unit ![0, 896] ![512, 128] inb_S512x1024_S512x128_0_896, br h (View.ld w (Rect.unit ![768, 0] ![256, 2048] inb_S1024x2048_S256x2048_768_0)) g⟩,
    ⟨Rect.unit ![0, 768] ![512, 128] inb_S512x1024_S512x128_0_768, bl h (View.ld w (Rect.unit ![768, 0] ![256, 2048] inb_S1024x2048_S256x2048_768_0)) g⟩,
    ⟨Rect.unit ![0, 640] ![512, 128] inb_S512x1024_S512x128_0_640, br h (View.ld w (Rect.unit ![512, 0] ![256, 2048] inb_S1024x2048_S256x2048_512_0)) g⟩,
    ⟨Rect.unit ![0, 512] ![512, 128] inb_S512x1024_S512x128_0_512, bl h (View.ld w (Rect.unit ![512, 0] ![256, 2048] inb_S1024x2048_S256x2048_512_0)) g⟩,
    ⟨Rect.unit ![0, 384] ![512, 128] inb_S512x1024_S512x128_0_384, br h (View.ld w (Rect.unit ![256, 0] ![256, 2048] inb_S1024x2048_S256x2048_256_0)) g⟩,
    ⟨Rect.unit ![0, 256] ![512, 128] inb_S512x1024_S512x128_0_256, bl h (View.ld w (Rect.unit ![256, 0] ![256, 2048] inb_S1024x2048_S256x2048_256_0)) g⟩,
    ⟨Rect.unit ![0, 128] ![512, 128] inb_S512x1024_S512x128_0_128, br h (View.ld w (Rect.unit ![0, 0] ![256, 2048] inb_S1024x2048_S256x2048_0_0)) g⟩,
    ⟨Rect.unit ![0, 0] ![512, 128] inb_S512x1024_S512x128_0_0, bl h (View.ld w (Rect.unit ![0, 0] ![256, 2048] inb_S1024x2048_S256x2048_0_0)) g⟩]
def vOut : Vec Ideal S512x1024 .f32 := View.canon [
    ⟨Rect.unit ![0, 768] ![512, 256] inb_S512x1024_S512x256_0_768, prj h (View.ld w (Rect.unit ![768, 0] ![256, 2048] inb_S1024x2048_S256x2048_768_0))⟩,
    ⟨Rect.unit ![0, 512] ![512, 256] inb_S512x1024_S512x256_0_512, prj h (View.ld w (Rect.unit ![512, 0] ![256, 2048] inb_S1024x2048_S256x2048_512_0))⟩,
    ⟨Rect.unit ![0, 256] ![512, 256] inb_S512x1024_S512x256_0_256, prj h (View.ld w (Rect.unit ![256, 0] ![256, 2048] inb_S1024x2048_S256x2048_256_0))⟩,
    ⟨Rect.unit ![0, 0] ![512, 256] inb_S512x1024_S512x256_0_0, prj h (View.ld w (Rect.unit ![0, 0] ![256, 2048] inb_S1024x2048_S256x2048_0_0))⟩]
def wOut : Vec Ideal S512x1024 .bf16 := View.canon [
    ⟨Rect.unit ![0, 768] ![512, 256] inb_S512x1024_S512x256_0_768, prjb h (View.ld w (Rect.unit ![768, 0] ![256, 2048] inb_S1024x2048_S256x2048_768_0))⟩,
    ⟨Rect.unit ![0, 512] ![512, 256] inb_S512x1024_S512x256_0_512, prjb h (View.ld w (Rect.unit ![512, 0] ![256, 2048] inb_S1024x2048_S256x2048_512_0))⟩,
    ⟨Rect.unit ![0, 256] ![512, 256] inb_S512x1024_S512x256_0_256, prjb h (View.ld w (Rect.unit ![256, 0] ![256, 2048] inb_S1024x2048_S256x2048_256_0))⟩,
    ⟨Rect.unit ![0, 0] ![512, 256] inb_S512x1024_S512x256_0_0, prjb h (View.ld w (Rect.unit ![0, 0] ![256, 2048] inb_S1024x2048_S256x2048_0_0))⟩]

variable (m : (ℓ : Loc nD τ sig) → Buf (Elt Ideal) ℓ)
section
variable (c : Dev nD)

theorem q_A (t : Fin cfg0.N) (h0 : t.val % 4 = 0) : (outsAt0 m c t.val t.isLt).1 = qOut (k0_pay2 (iblk m c 0 t) (iblk m c 1 t)) (iblk m c 2 t) (iblk m c 8 t) := by
  obtain ⟨h, hh⟩ : ∃ h, h = k0_pay2 (iblk m c 0 t) (iblk m c 1 t) := ⟨_, rfl⟩
  rw [← hh]
  simp only [k0_pay2] at hh
  rw [outsAt0_A m c t h0]; frame_out
  simp only [qOut, ql, qr, prj, k0_pay2, ← hh, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60]
  try rfl
theorem k_A (t : Fin cfg0.N) (h0 : t.val % 4 = 0) : (outsAt0 m c t.val t.isLt).2.1 = kOut (k0_pay2 (iblk m c 0 t) (iblk m c 1 t)) (iblk m c 3 t) (iblk m c 9 t) := by
  obtain ⟨h, hh⟩ : ∃ h, h = k0_pay2 (iblk m c 0 t) (iblk m c 1 t) := ⟨_, rfl⟩
  rw [← hh]
  simp only [k0_pay2] at hh
  rw [outsAt0_A m c t h0]; frame_out
  simp only [kOut, kl, kr, prj, k0_pay2, ← hh, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60]
  try rfl
theorem b_A (t : Fin cfg0.N) (h0 : t.val % 4 = 0) : (outsAt0 m c t.val t.isLt).2.2.1 = bOut (k0_pay2 (iblk m c 0 t) (iblk m c 1 t)) (iblk m c 3 t) (iblk m c 9 t) := by
  obtain ⟨h, hh⟩ : ∃ h, h = k0_pay2 (iblk m c 0 t) (iblk m c 1 t) := ⟨_, rfl⟩
  rw [← hh]
  simp only [k0_pay2] at hh
  rw [outsAt0_A m c t h0]; frame_out
  simp only [bOut, bl, br, prj, k0_pay2, ← hh, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60]
  try rfl
theorem v_A (t : Fin cfg0.N) (h0 : t.val % 4 = 0) : (outsAt0 m c t.val t.isLt).2.2.2.1 = vOut (k0_pay2 (iblk m c 0 t) (iblk m c 1 t)) (iblk m c 4 t) := by
  obtain ⟨h, hh⟩ : ∃ h, h = k0_pay2 (iblk m c 0 t) (iblk m c 1 t) := ⟨_, rfl⟩
  rw [← hh]
  simp only [k0_pay2] at hh
  rw [outsAt0_A m c t h0]; frame_out
  simp only [vOut, prj, k0_pay2, ← hh, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60]
  try rfl
theorem w_A (t : Fin cfg0.N) (h0 : t.val % 4 = 0) : (outsAt0 m c t.val t.isLt).2.2.2.2.1 = wOut (k0_pay2 (iblk m c 0 t) (iblk m c 1 t)) (iblk m c 4 t) := by
  obtain ⟨h, hh⟩ : ∃ h, h = k0_pay2 (iblk m c 0 t) (iblk m c 1 t) := ⟨_, rfl⟩
  rw [← hh]
  simp only [k0_pay2] at hh
  rw [outsAt0_A m c t h0]; frame_out
  simp only [wOut, prjb, prj, k0_pay2, ← hh, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60]
  try rfl
theorem u_A (t : Fin cfg0.N) (h0 : t.val % 4 = 0) : (outsAt0 m c t.val t.isLt).2.2.2.2.2.1 = vOut (k0_pay2 (iblk m c 0 t) (iblk m c 1 t)) (iblk m c 5 t) := by
  obtain ⟨h, hh⟩ : ∃ h, h = k0_pay2 (iblk m c 0 t) (iblk m c 1 t) := ⟨_, rfl⟩
  rw [← hh]
  simp only [k0_pay2] at hh
  rw [outsAt0_A m c t h0]; frame_out
  simp only [vOut, prj, k0_pay2, ← hh, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60]
  try rfl
theorem l_A (t : Fin cfg0.N) (h0 : t.val % 4 = 0) : (outsAt0 m c t.val t.isLt).2.2.2.2.2.2.1 = (k0_pay61 (k0_pay2 (iblk m c 0 t) (iblk m c 1 t)) (iblk m c 6 t) (iblk m c 7 t)) := by
  obtain ⟨h, hh⟩ : ∃ h, h = k0_pay2 (iblk m c 0 t) (iblk m c 1 t) := ⟨_, rfl⟩
  rw [← hh]
  simp only [k0_pay2] at hh
  rw [outsAt0_A m c t h0]; frame_out
  simp only [k0_pay61, k0_pay2, ← hh, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60]
  try rfl
theorem c_A (t : Fin cfg0.N) (h0 : t.val % 4 = 0) : (outsAt0 m c t.val t.isLt).2.2.2.2.2.2.2.1 = k0_pay63 (k0_pay61 (k0_pay2 (iblk m c 0 t) (iblk m c 1 t)) (iblk m c 6 t) (iblk m c 7 t)) zrow := by
  obtain ⟨h, hh⟩ : ∃ h, h = k0_pay2 (iblk m c 0 t) (iblk m c 1 t) := ⟨_, rfl⟩
  rw [← hh]
  obtain ⟨L, hL⟩ : ∃ L, L = k0_pay61 h (iblk m c 6 t) (iblk m c 7 t) := ⟨_, rfl⟩
  rw [← hL]
  simp only [k0_pay2] at hh
  simp only [k0_pay61] at hL
  rw [outsAt0_A m c t h0]; frame_out
  simp only [k0_pay61, zrow, k0_pay62, k0_pay2, ← hh, ← hL, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60]
  try rfl
theorem s_A (t : Fin cfg0.N) (h0 : t.val % 4 = 0) : (outsAt0 m c t.val t.isLt).2.2.2.2.2.2.2.2 = k0_pay1 (k0_pay64 (k0_pay61 (k0_pay2 (iblk m c 0 t) (iblk m c 1 t)) (iblk m c 6 t) (iblk m c 7 t)) zrow) := by
  obtain ⟨h, hh⟩ : ∃ h, h = k0_pay2 (iblk m c 0 t) (iblk m c 1 t) := ⟨_, rfl⟩
  rw [← hh]
  obtain ⟨L, hL⟩ : ∃ L, L = k0_pay61 h (iblk m c 6 t) (iblk m c 7 t) := ⟨_, rfl⟩
  rw [← hL]
  simp only [k0_pay2] at hh
  simp only [k0_pay61] at hL
  rw [outsAt0_A m c t h0]; frame_out
  simp only [k0_pay61, zrow, k0_pay62, k0_pay2, ← hh, ← hL, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60]
  try rfl
theorem q_B (t : Fin cfg0.N) (h0 : ¬ t.val % 4 = 0) (hb : t.val - 1 < cfg0.N) : (outsAt0 m c t.val t.isLt).1 = qOut (k0_pay2 (iblk m c 0 t) (iblk m c 1 t)) (iblk m c 2 t) (iblk m c 8 t) := by
  obtain ⟨h, hh⟩ : ∃ h, h = k0_pay2 (iblk m c 0 t) (iblk m c 1 t) := ⟨_, rfl⟩
  rw [← hh]
  simp only [k0_pay2] at hh
  rw [outsAt0_B m c t h0]; frame_out
  simp only [qOut, ql, qr, prj, k0_pay2, ← hh, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60]
  try rfl
theorem k_B (t : Fin cfg0.N) (h0 : ¬ t.val % 4 = 0) (hb : t.val - 1 < cfg0.N) : (outsAt0 m c t.val t.isLt).2.1 = kOut (k0_pay2 (iblk m c 0 t) (iblk m c 1 t)) (iblk m c 3 t) (iblk m c 9 t) := by
  obtain ⟨h, hh⟩ : ∃ h, h = k0_pay2 (iblk m c 0 t) (iblk m c 1 t) := ⟨_, rfl⟩
  rw [← hh]
  simp only [k0_pay2] at hh
  rw [outsAt0_B m c t h0]; frame_out
  simp only [kOut, kl, kr, prj, k0_pay2, ← hh, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60]
  try rfl
theorem b_B (t : Fin cfg0.N) (h0 : ¬ t.val % 4 = 0) (hb : t.val - 1 < cfg0.N) : (outsAt0 m c t.val t.isLt).2.2.1 = bOut (k0_pay2 (iblk m c 0 t) (iblk m c 1 t)) (iblk m c 3 t) (iblk m c 9 t) := by
  obtain ⟨h, hh⟩ : ∃ h, h = k0_pay2 (iblk m c 0 t) (iblk m c 1 t) := ⟨_, rfl⟩
  rw [← hh]
  simp only [k0_pay2] at hh
  rw [outsAt0_B m c t h0]; frame_out
  simp only [bOut, bl, br, prj, k0_pay2, ← hh, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60]
  try rfl
theorem v_B (t : Fin cfg0.N) (h0 : ¬ t.val % 4 = 0) (hb : t.val - 1 < cfg0.N) : (outsAt0 m c t.val t.isLt).2.2.2.1 = vOut (k0_pay2 (iblk m c 0 t) (iblk m c 1 t)) (iblk m c 4 t) := by
  obtain ⟨h, hh⟩ : ∃ h, h = k0_pay2 (iblk m c 0 t) (iblk m c 1 t) := ⟨_, rfl⟩
  rw [← hh]
  simp only [k0_pay2] at hh
  rw [outsAt0_B m c t h0]; frame_out
  simp only [vOut, prj, k0_pay2, ← hh, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60]
  try rfl
theorem w_B (t : Fin cfg0.N) (h0 : ¬ t.val % 4 = 0) (hb : t.val - 1 < cfg0.N) : (outsAt0 m c t.val t.isLt).2.2.2.2.1 = wOut (k0_pay2 (iblk m c 0 t) (iblk m c 1 t)) (iblk m c 4 t) := by
  obtain ⟨h, hh⟩ : ∃ h, h = k0_pay2 (iblk m c 0 t) (iblk m c 1 t) := ⟨_, rfl⟩
  rw [← hh]
  simp only [k0_pay2] at hh
  rw [outsAt0_B m c t h0]; frame_out
  simp only [wOut, prjb, prj, k0_pay2, ← hh, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60]
  try rfl
theorem u_B (t : Fin cfg0.N) (h0 : ¬ t.val % 4 = 0) (hb : t.val - 1 < cfg0.N) : (outsAt0 m c t.val t.isLt).2.2.2.2.2.1 = vOut (k0_pay2 (iblk m c 0 t) (iblk m c 1 t)) (iblk m c 5 t) := by
  obtain ⟨h, hh⟩ : ∃ h, h = k0_pay2 (iblk m c 0 t) (iblk m c 1 t) := ⟨_, rfl⟩
  rw [← hh]
  simp only [k0_pay2] at hh
  rw [outsAt0_B m c t h0]; frame_out
  simp only [vOut, prj, k0_pay2, ← hh, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60]
  try rfl
theorem l_B (t : Fin cfg0.N) (h0 : ¬ t.val % 4 = 0) (hb : t.val - 1 < cfg0.N) : (outsAt0 m c t.val t.isLt).2.2.2.2.2.2.1 = (k0_pay61 (k0_pay2 (iblk m c 0 t) (iblk m c 1 t)) (iblk m c 6 t) (iblk m c 7 t)) := by
  obtain ⟨h, hh⟩ : ∃ h, h = k0_pay2 (iblk m c 0 t) (iblk m c 1 t) := ⟨_, rfl⟩
  rw [← hh]
  simp only [k0_pay2] at hh
  rw [outsAt0_B m c t h0]; frame_out
  simp only [k0_pay61, k0_pay2, ← hh, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60]
  try rfl
theorem c_B (t : Fin cfg0.N) (h0 : ¬ t.val % 4 = 0) (hb : t.val - 1 < cfg0.N) : (outsAt0 m c t.val t.isLt).2.2.2.2.2.2.2.1 = k0_pay63 (k0_pay61 (k0_pay2 (iblk m c 0 t) (iblk m c 1 t)) (iblk m c 6 t) (iblk m c 7 t)) (outsAt0 m c (t.val - 1) hb).2.2.2.2.2.2.2.2 := by
  obtain ⟨h, hh⟩ : ∃ h, h = k0_pay2 (iblk m c 0 t) (iblk m c 1 t) := ⟨_, rfl⟩
  rw [← hh]
  obtain ⟨L, hL⟩ : ∃ L, L = k0_pay61 h (iblk m c 6 t) (iblk m c 7 t) := ⟨_, rfl⟩
  rw [← hL]
  simp only [k0_pay2] at hh
  simp only [k0_pay61] at hL
  rw [outsAt0_B m c t h0]; frame_out
  try rw [read_unread_whole]
  simp only [k0_pay61, k0_pay2, ← hh, ← hL, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60]
  try rfl
theorem s_B (t : Fin cfg0.N) (h0 : ¬ t.val % 4 = 0) (hb : t.val - 1 < cfg0.N) : (outsAt0 m c t.val t.isLt).2.2.2.2.2.2.2.2 = k0_pay1 (k0_pay64 (k0_pay61 (k0_pay2 (iblk m c 0 t) (iblk m c 1 t)) (iblk m c 6 t) (iblk m c 7 t)) (outsAt0 m c (t.val - 1) hb).2.2.2.2.2.2.2.2) := by
  obtain ⟨h, hh⟩ : ∃ h, h = k0_pay2 (iblk m c 0 t) (iblk m c 1 t) := ⟨_, rfl⟩
  rw [← hh]
  obtain ⟨L, hL⟩ : ∃ L, L = k0_pay61 h (iblk m c 6 t) (iblk m c 7 t) := ⟨_, rfl⟩
  rw [← hL]
  simp only [k0_pay2] at hh
  simp only [k0_pay61] at hL
  rw [outsAt0_B m c t h0]; frame_out
  try rw [read_unread_whole]
  simp only [k0_pay61, k0_pay2, ← hh, ← hL, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60]
  try rfl

end
end Cert.InpTile
end
-- ==== Proof.InpRows.lean ====
/- The input projection's stores, entry by entry. -/
module

public import proofs.«01_k».proof.Proof.InpTile

@[expose] public section

noncomputable section

namespace Cert.InpTile

open Cert.InpIdeal Cert.InpIdeal.Gen Idealize.ShloMosaic Idealize.ShloMosaic.TcCoe Idealize.SL.Sem

/-- The queries' scale: one over the root of 128, over the logarithm of two. -/
def qs : EReal := (((Real.sqrt 128)⁻¹ * (Real.log 2)⁻¹ : ℝ) : EReal)

/-- The left column of a head pair, and the right. -/
def lo (d : Fin 128) : Fin 256 := ⟨d.val, by omega⟩
def hi (d : Fin 128) : Fin 256 := ⟨128 + d.val, by omega⟩

/-- One entry of a row of 128 normalised by its root mean square. -/
def h1 (z : Fin 128 → EReal) (d : Fin 128) (w : EReal) : EReal :=
  z d * Ideal.rsqrt (Ideal.div (∑ d : Fin 128, z d * z d) (Ideal.ofBits .f32 0x43000000#32) + Ideal.ofBits .f32 0x358637BD#32) * w

variable (h : FVec Ideal S512x2048 .bf16) (v : Vec Ideal S256x2048 .bf16) (w : Vec Ideal S1024x2048 .bf16) (g : Vec Ideal S1x128 .f32)
variable (z : FVec Ideal S512x256 .f32) (r : Fin 512) (d : Fin 128)

/-- The body normalises its rows. -/
theorem hrow (x : Vec Ideal S512x2048 .f32) (n : Vec Ideal S1x2048 .f32) (l : Fin 2048) :
    k0_pay2 x n (ix2 r l) = nrm (fun k => x (ix2 r k)) l (n (ix2 0 l)) := by
  unfold nrm; pointwise [k0_pay2]

/-- The product with 256 weight rows. -/
theorem prj_at (a : Fin 256) : prj h v (ix2 r a) = ∑ l : Fin 2048, h (ix2 r l) * v (ix2 a l) := by
  pointwise [prj, k0_pay16]

theorem left_at : k0_pay9 z g (ix2 r d) = h1 (fun d => z (ix2 r (lo d))) d (g (ix2 0 d)) := by
  unfold h1; pointwise [k0_pay9, lo]

theorem right_at : k0_pay13 z g (ix2 r d) = h1 (fun d => z (ix2 r (hi d))) d (g (ix2 0 d)) := by
  unfold h1; pointwise [k0_pay13, hi]

theorem ql_at : ql h v g (ix2 r d) = h1 (fun d => prj h v (ix2 r (lo d))) d (g (ix2 0 d)) * qs := by
  have e : ql h v g = k0_pay21 h (k0_pay17 v) (constant S512x256 .f32 0x00000000#32) g := rfl
  rw [e]
  simp only [prj_at]
  unfold h1 qs; pointwise [k0_pay21, k0_pay17, k0_pay18, lo]
  rfl

theorem qr_at : qr h v g (ix2 r d) = h1 (fun d => prj h v (ix2 r (hi d))) d (g (ix2 0 d)) * qs := by
  have e : qr h v g = k0_pay26 (prj h v) g := rfl
  rw [e]
  generalize prj h v = z
  unfold h1 qs; pointwise [k0_pay26, hi]
  rfl

/-- The logarithm of a logistic value, as the body computes it. -/
def lsg (a : EReal) : EReal := min a 0 - Ideal.log1p (Ideal.exp (0 - max a (-a)))

/-- One plus an exponential has a logarithm that is not negative. -/
theorem log_nonneg (a : EReal) : 0 ≤ Ideal.log1p (Ideal.exp a) := by
  have key (x : ℝ) (hx : 0 ≤ x) : (0 : EReal) ≤ Ideal.log (1 + (x : EReal)) := by
    have e : (1 : EReal) + (x : EReal) = ((1 + x : ℝ) : EReal) := by norm_cast
    rw [e]
    show (0 : EReal) ≤ if 1 + x ≤ 0 then ⊥ else ((Real.log (1 + x) : ℝ) : EReal)
    rw [if_neg (by linarith)]
    exact EReal.coe_nonneg.2 (Real.log_nonneg (by linarith))
  induction a using EReal.rec with
  | bot => exact key 0 le_rfl
  | top =>
    show (0 : EReal) ≤ Ideal.log (1 + ⊤)
    rw [show (1 : EReal) + ⊤ = ⊤ from EReal.coe_add_top 1]
    exact le_top
  | coe x => exact key _ (Real.exp_pos x).le

theorem neg_le_zero (a : EReal) (h : 0 ≤ a) : -a ≤ 0 := by rw [EReal.neg_le, neg_zero]; exact h

/-- It is never positive infinity. -/
theorem lsg_ne_top (a : EReal) : lsg a ≠ ⊤ := by
  refine ne_top_of_le_ne_top EReal.zero_ne_top ?_
  unfold lsg
  rw [sub_eq_add_neg]
  exact add_nonpos (min_le_right _ _) (neg_le_zero _ (log_nonneg _))

/-- The reference's form of it. -/
theorem lsg_ref (a : EReal) : -(max (-a) 0 + Ideal.log1p (Ideal.exp (-(max (-a - 0) (-(-a - 0)))))) = lsg a := by
  have hb := log_nonneg (-(max (-a) (- -a)))
  rw [sub_zero, EReal.neg_add (.inl (ne_bot_of_le_ne_bot EReal.zero_ne_bot (le_max_right _ _))) (.inr (ne_bot_of_le_ne_bot EReal.zero_ne_bot hb))]
  unfold lsg
  rw [neg_neg, max_comm (-a) a, sub_eq_add_neg 0, zero_add]
  refine congrArg (· - _) ?_
  rcases le_total a 0 with h | h
  · rw [min_eq_left h, max_eq_left (EReal.neg_nonneg.2 h), neg_neg]
  · rw [min_eq_right h, max_eq_right (neg_le_zero _ h), neg_zero]

theorem lf_at (W : Vec Ideal S128x2048 .bf16) : k0_pay61 h W g (ix2 r d) = lsg ((∑ l : Fin 2048, h (ix2 r l) * W (ix2 d l)) + g (ix2 0 d)) := by
  unfold lsg; pointwise [k0_pay61]
  rfl

theorem zrow_at : zrow (ix2 0 d) = 0 := by
  pointwise [zrow, k0_pay62]

/-- The triangle's entry. -/
theorem tri (x r : Fin 512) : FloatOps.sitofp (F := Ideal) FTy.f32 (BitVec.setWidth 32 (IntOp.cmpi CmpIPredicate.sle (BitVec.ofNat 32 x.val) (BitVec.ofNat 32 r.val)))
    = if x ≤ r then (1 : EReal) else 0 := by
  rw [WordCmp.cmpi_sle_ofNat (by omega) (by omega)]
  by_cases h : x ≤ r
  · rw [if_pos h, decide_eq_true (by exact h)]
    show (((BitVec.setWidth 32 (BitVec.ofBool true)).toInt : ℝ) : EReal) = 1
    rw [show (BitVec.setWidth 32 (BitVec.ofBool true)).toInt = 1 by decide]
    simp
  · rw [if_neg h, decide_eq_false (by exact h)]
    show (((BitVec.setWidth 32 (BitVec.ofBool false)).toInt : ℝ) : EReal) = 0
    rw [show (BitVec.setWidth 32 (BitVec.ofBool false)).toInt = 0 by decide]
    simp

/-- A value that is not positive infinity survives the three-part splitting. -/
theorem split3 (a : EReal) (ha : a ≠ ⊤) : a + (a - a) + (a - a - (a - a)) = a := by
  induction a using EReal.rec with
  | bot => simp
  | top => exact absurd rfl ha
  | coe x => norm_cast; simp

/-- The prefix sums inside a tile, on top of the carried row. -/
theorem c_at (L : FVec Ideal S512x128 .f32) (hL : ∀ x : Fin 512, L (ix2 x d) ≠ (⊤ : EReal)) :
    k0_pay63 L g (ix2 r d) = (∑ x : Fin 512, if x ≤ r then (L (ix2 x d) : EReal) else 0) + (g (ix2 0 d) : EReal) := by
  pointwise [k0_pay63]
  refine congrArg (· + (g (ix2 0 d) : EReal)) ?_
  rw [← Finset.sum_add_distrib, ← Finset.sum_add_distrib]
  refine Finset.sum_congr rfl fun x _ => ?_
  rw [dif_neg (by omega), dif_neg (by omega), tri]
  have e : (⟨256 + d.val - 128 - 128, by omega⟩ : Fin 128) = d := Fin.ext (by show 256 + d.val - 128 - 128 = d.val; omega)
  rw [e]
  by_cases hx : x ≤ r
  · simp only [if_pos hx, one_mul]; exact split3 _ (hL x)
  · simp only [if_neg hx, zero_mul, add_zero]

theorem s_at (L : FVec Ideal S512x128 .f32) : k0_pay1 (k0_pay64 L g) (ix2 0 d) = k0_pay63 L g (ix2 511 d) := by
  have e : k0_pay64 L g = extractStridedSlice S1x128 ![511, 0] (k0_pay63 L g) slices_S512x128_o511_0_S1x128 := rfl
  rw [e]
  generalize k0_pay63 L g = y
  pointwise [k0_pay1]

theorem ld_w (o : ℕ) (f) (a : Fin 256) (l : Fin 2048) (k : Fin 1024) (hk : k.val = o + a.val) :
    View.ld w (Rect.unit ![o, 0] ![256, 2048] f) (ix2 a l) = w (ix2 k l) :=
  congrArg w (funext fun b => Fin.ext (by
    match b with
    | ⟨0, _⟩ => show o + 1 * a.val = k.val; omega
    | ⟨1, _⟩ => show 0 + 1 * l.val = l.val; omega))

/-- A normalised entry inside its head is the normalised entry of the wide row. -/
theorem h1_hd (z : Fin 1024 → EReal) (k : Fin 1024) (d : Fin 128) (f : Fin 128 → Fin 1024) (hf : ∀ e, (f e).val + d.val = k.val + e.val)
    (h0 : k.val % 128 = d.val) (w : EReal) : h1 (fun e => z (f e)) d w = hd z k w := by
  have e : f = col k := funext fun e => Fin.ext (by have := hf e; show (f e).val = k.val / 128 * 128 + e.val; omega)
  have e2 : col k d = k := Fin.ext (by show k.val / 128 * 128 + d.val = k.val; omega)
  unfold h1 hd
  show z (f d) * _ * w = _
  rw [e, e2]

/-- The wide row the rows and a weight give. -/
def wide (k : Fin 1024) : EReal := ∑ l : Fin 2048, (h (ix2 r l) : EReal) * (w (ix2 k l) : EReal)

/-- The product with the weight rows loaded from row `o`. -/
theorem prj_ld (o : ℕ) (f) (a : Fin 256) (k : Fin 1024) (hk : k.val = o + a.val) :
    prj h (View.ld w (Rect.unit ![o, 0] ![256, 2048] f)) (ix2 r a) = wide h w r k := by
  rw [prj_at]
  exact Finset.sum_congr rfl fun l _ => congrArg (_ * ·) (ld_w w o f a l k hk)

/-- A column's place in its head. -/
def inh (k : Fin 1024) : Fin 128 := ⟨k.val % 128, Nat.mod_lt _ (by decide)⟩

theorem kl_ld (o : ℕ) (f) (R : Fin 512) (K : Fin 1024) (ho : o % 128 = 0) (hr : (R.val) = r.val) (hk : K.val = o + d.val) :
    kl h (View.ld w (Rect.unit ![o, 0] ![256, 2048] f)) g (ix2 r d) = hd (wide h w R) K (g (ix2 0 (inh K))) := by
  have e0 : R = r := Fin.ext hr
  have e1 : inh K = d := Fin.ext (by show K.val % 128 = d.val; omega)
  rw [e0, e1]
  refine (left_at _ _ _ _).trans (congrArg (fun u : EReal => u) (.trans (congrArg (fun u => h1 u d (g (ix2 0 d))) (funext fun e => prj_ld h w r o f (lo e) ⟨K.val / 128 * 128 + e.val, by omega⟩ ?_)) (h1_hd (wide h w r) K d _ (fun e => ?_) ?_ _)))
  · show K.val / 128 * 128 + e.val = o + e.val; omega
  · show K.val / 128 * 128 + e.val + d.val = K.val + e.val; omega
  · omega

theorem kr_ld (o : ℕ) (f) (R : Fin 512) (K : Fin 1024) (ho : o % 128 = 0) (hr : (R.val) = r.val) (hk : K.val = o + 128 + d.val) :
    kr h (View.ld w (Rect.unit ![o, 0] ![256, 2048] f)) g (ix2 r d) = hd (wide h w R) K (g (ix2 0 (inh K))) := by
  have e0 : R = r := Fin.ext hr
  have e1 : inh K = d := Fin.ext (by show K.val % 128 = d.val; omega)
  rw [e0, e1]
  refine (right_at _ _ _ _).trans (congrArg (fun u : EReal => u) (.trans (congrArg (fun u => h1 u d (g (ix2 0 d))) (funext fun e => prj_ld h w r o f (hi e) ⟨K.val / 128 * 128 + e.val, by omega⟩ ?_)) (h1_hd (wide h w r) K d _ (fun e => ?_) ?_ _)))
  · show K.val / 128 * 128 + e.val = o + (128 + e.val); omega
  · show K.val / 128 * 128 + e.val + d.val = K.val + e.val; omega
  · omega

theorem bl_ld (o : ℕ) (f) (R : Fin 512) (K : Fin 1024) (ho : o % 128 = 0) (hr : (R.val) = r.val) (hk : K.val = o + d.val) :
    bl h (View.ld w (Rect.unit ![o, 0] ![256, 2048] f)) g (ix2 r d) = hd (wide h w R) K (g (ix2 0 (inh K))) := by
  have e0 : R = r := Fin.ext hr
  have e1 : inh K = d := Fin.ext (by show K.val % 128 = d.val; omega)
  rw [e0, e1]
  refine (left_at _ _ _ _).trans (congrArg (fun u : EReal => u) (.trans (congrArg (fun u => h1 u d (g (ix2 0 d))) (funext fun e => prj_ld h w r o f (lo e) ⟨K.val / 128 * 128 + e.val, by omega⟩ ?_)) (h1_hd (wide h w r) K d _ (fun e => ?_) ?_ _)))
  · show K.val / 128 * 128 + e.val = o + e.val; omega
  · show K.val / 128 * 128 + e.val + d.val = K.val + e.val; omega
  · omega

theorem br_ld (o : ℕ) (f) (R : Fin 512) (K : Fin 1024) (ho : o % 128 = 0) (hr : (R.val) = r.val) (hk : K.val = o + 128 + d.val) :
    br h (View.ld w (Rect.unit ![o, 0] ![256, 2048] f)) g (ix2 r d) = hd (wide h w R) K (g (ix2 0 (inh K))) := by
  have e0 : R = r := Fin.ext hr
  have e1 : inh K = d := Fin.ext (by show K.val % 128 = d.val; omega)
  rw [e0, e1]
  refine (right_at _ _ _ _).trans (congrArg (fun u : EReal => u) (.trans (congrArg (fun u => h1 u d (g (ix2 0 d))) (funext fun e => prj_ld h w r o f (hi e) ⟨K.val / 128 * 128 + e.val, by omega⟩ ?_)) (h1_hd (wide h w r) K d _ (fun e => ?_) ?_ _)))
  · show K.val / 128 * 128 + e.val = o + (128 + e.val); omega
  · show K.val / 128 * 128 + e.val + d.val = K.val + e.val; omega
  · omega

theorem ql_ld (o : ℕ) (f) (R : Fin 512) (K : Fin 1024) (ho : o % 128 = 0) (hr : (R.val) = r.val) (hk : K.val = o + d.val) :
    ql h (View.ld w (Rect.unit ![o, 0] ![256, 2048] f)) g (ix2 r d) = hd (wide h w R) K (g (ix2 0 (inh K))) * qs := by
  have e0 : R = r := Fin.ext hr
  have e1 : inh K = d := Fin.ext (by show K.val % 128 = d.val; omega)
  rw [e0, e1]
  refine (ql_at _ _ _ _ _).trans (congrArg (· * qs) (.trans (congrArg (fun u => h1 u d (g (ix2 0 d))) (funext fun e => prj_ld h w r o f (lo e) ⟨K.val / 128 * 128 + e.val, by omega⟩ ?_)) (h1_hd (wide h w r) K d _ (fun e => ?_) ?_ _)))
  · show K.val / 128 * 128 + e.val = o + e.val; omega
  · show K.val / 128 * 128 + e.val + d.val = K.val + e.val; omega
  · omega

theorem qr_ld (o : ℕ) (f) (R : Fin 512) (K : Fin 1024) (ho : o % 128 = 0) (hr : (R.val) = r.val) (hk : K.val = o + 128 + d.val) :
    qr h (View.ld w (Rect.unit ![o, 0] ![256, 2048] f)) g (ix2 r d) = hd (wide h w R) K (g (ix2 0 (inh K))) * qs := by
  have e0 : R = r := Fin.ext hr
  have e1 : inh K = d := Fin.ext (by show K.val % 128 = d.val; omega)
  rw [e0, e1]
  refine (qr_at _ _ _ _ _).trans (congrArg (· * qs) (.trans (congrArg (fun u => h1 u d (g (ix2 0 d))) (funext fun e => prj_ld h w r o f (hi e) ⟨K.val / 128 * 128 + e.val, by omega⟩ ?_)) (h1_hd (wide h w r) K d _ (fun e => ?_) ?_ _)))
  · show K.val / 128 * 128 + e.val = o + (128 + e.val); omega
  · show K.val / 128 * 128 + e.val + d.val = K.val + e.val; omega
  · omega

theorem kOut_at (y : S512x1024.Idx) : kOut h w g y = hd (wide h w (y 0)) (y 1) (g (ix2 0 (inh (y 1)))) := by
  unfold kOut
  refine View.canon_apply_of_pieces (Val := Elt Ideal) (S := S512x1024) (e := .f32) (fun y : S512x1024.Idx => (hd (wide h w (y 0)) (y 1) (g (ix2 0 (inh (y 1)))) : EReal)) _ (fun p hp x => ?_) y
    (View.cover_of_tiledL _ ![512, 128] (by sl_kernel_rfl) y)
  simp only [List.mem_cons, List.not_mem_nil, or_false] at hp
  rcases hp with rfl | rfl | rfl | rfl | rfl | rfl | rfl | rfl
  all_goals refine (congrArg _ (eq_ix2 x)).trans ?_
  · exact kr_ld h w g (x 0) (x 1) 768 _ _ _ (by decide) (by show 0 + 1 * (x 0).val = _; omega) (by show 896 + 1 * (x 1).val = _; omega)
  · exact kl_ld h w g (x 0) (x 1) 768 _ _ _ (by decide) (by show 0 + 1 * (x 0).val = _; omega) (by show 768 + 1 * (x 1).val = _; omega)
  · exact kr_ld h w g (x 0) (x 1) 512 _ _ _ (by decide) (by show 0 + 1 * (x 0).val = _; omega) (by show 640 + 1 * (x 1).val = _; omega)
  · exact kl_ld h w g (x 0) (x 1) 512 _ _ _ (by decide) (by show 0 + 1 * (x 0).val = _; omega) (by show 512 + 1 * (x 1).val = _; omega)
  · exact kr_ld h w g (x 0) (x 1) 256 _ _ _ (by decide) (by show 0 + 1 * (x 0).val = _; omega) (by show 384 + 1 * (x 1).val = _; omega)
  · exact kl_ld h w g (x 0) (x 1) 256 _ _ _ (by decide) (by show 0 + 1 * (x 0).val = _; omega) (by show 256 + 1 * (x 1).val = _; omega)
  · exact kr_ld h w g (x 0) (x 1) 0 _ _ _ (by decide) (by show 0 + 1 * (x 0).val = _; omega) (by show 128 + 1 * (x 1).val = _; omega)
  · exact kl_ld h w g (x 0) (x 1) 0 _ _ _ (by decide) (by show 0 + 1 * (x 0).val = _; omega) (by show 0 + 1 * (x 1).val = _; omega)

theorem bOut_at (y : S512x1024.Idx) : bOut h w g y = hd (wide h w (y 0)) (y 1) (g (ix2 0 (inh (y 1)))) := by
  unfold bOut
  refine View.canon_apply_of_pieces (Val := Elt Ideal) (S := S512x1024) (e := .bf16) (fun y : S512x1024.Idx => (hd (wide h w (y 0)) (y 1) (g (ix2 0 (inh (y 1)))) : EReal)) _ (fun p hp x => ?_) y
    (View.cover_of_tiledL _ ![512, 128] (by sl_kernel_rfl) y)
  simp only [List.mem_cons, List.not_mem_nil, or_false] at hp
  rcases hp with rfl | rfl | rfl | rfl | rfl | rfl | rfl | rfl
  all_goals refine (congrArg _ (eq_ix2 x)).trans ?_
  · exact br_ld h w g (x 0) (x 1) 768 _ _ _ (by decide) (by show 0 + 1 * (x 0).val = _; omega) (by show 896 + 1 * (x 1).val = _; omega)
  · exact bl_ld h w g (x 0) (x 1) 768 _ _ _ (by decide) (by show 0 + 1 * (x 0).val = _; omega) (by show 768 + 1 * (x 1).val = _; omega)
  · exact br_ld h w g (x 0) (x 1) 512 _ _ _ (by decide) (by show 0 + 1 * (x 0).val = _; omega) (by show 640 + 1 * (x 1).val = _; omega)
  · exact bl_ld h w g (x 0) (x 1) 512 _ _ _ (by decide) (by show 0 + 1 * (x 0).val = _; omega) (by show 512 + 1 * (x 1).val = _; omega)
  · exact br_ld h w g (x 0) (x 1) 256 _ _ _ (by decide) (by show 0 + 1 * (x 0).val = _; omega) (by show 384 + 1 * (x 1).val = _; omega)
  · exact bl_ld h w g (x 0) (x 1) 256 _ _ _ (by decide) (by show 0 + 1 * (x 0).val = _; omega) (by show 256 + 1 * (x 1).val = _; omega)
  · exact br_ld h w g (x 0) (x 1) 0 _ _ _ (by decide) (by show 0 + 1 * (x 0).val = _; omega) (by show 128 + 1 * (x 1).val = _; omega)
  · exact bl_ld h w g (x 0) (x 1) 0 _ _ _ (by decide) (by show 0 + 1 * (x 0).val = _; omega) (by show 0 + 1 * (x 1).val = _; omega)

theorem qOut_at (y : S512x1024.Idx) : qOut h w g y = hd (wide h w (y 0)) (y 1) (g (ix2 0 (inh (y 1)))) * qs := by
  unfold qOut
  refine View.canon_apply_of_pieces (Val := Elt Ideal) (S := S512x1024) (e := .bf16) (fun y : S512x1024.Idx => (hd (wide h w (y 0)) (y 1) (g (ix2 0 (inh (y 1)))) * qs : EReal)) _ (fun p hp x => ?_) y
    (View.cover_of_tiledL _ ![512, 128] (by sl_kernel_rfl) y)
  simp only [List.mem_cons, List.not_mem_nil, or_false] at hp
  rcases hp with rfl | rfl | rfl | rfl | rfl | rfl | rfl | rfl
  all_goals refine (congrArg _ (eq_ix2 x)).trans ?_
  · exact qr_ld h w g (x 0) (x 1) 768 _ _ _ (by decide) (by show 0 + 1 * (x 0).val = _; omega) (by show 896 + 1 * (x 1).val = _; omega)
  · exact ql_ld h w g (x 0) (x 1) 768 _ _ _ (by decide) (by show 0 + 1 * (x 0).val = _; omega) (by show 768 + 1 * (x 1).val = _; omega)
  · exact qr_ld h w g (x 0) (x 1) 512 _ _ _ (by decide) (by show 0 + 1 * (x 0).val = _; omega) (by show 640 + 1 * (x 1).val = _; omega)
  · exact ql_ld h w g (x 0) (x 1) 512 _ _ _ (by decide) (by show 0 + 1 * (x 0).val = _; omega) (by show 512 + 1 * (x 1).val = _; omega)
  · exact qr_ld h w g (x 0) (x 1) 256 _ _ _ (by decide) (by show 0 + 1 * (x 0).val = _; omega) (by show 384 + 1 * (x 1).val = _; omega)
  · exact ql_ld h w g (x 0) (x 1) 256 _ _ _ (by decide) (by show 0 + 1 * (x 0).val = _; omega) (by show 256 + 1 * (x 1).val = _; omega)
  · exact qr_ld h w g (x 0) (x 1) 0 _ _ _ (by decide) (by show 0 + 1 * (x 0).val = _; omega) (by show 128 + 1 * (x 1).val = _; omega)
  · exact ql_ld h w g (x 0) (x 1) 0 _ _ _ (by decide) (by show 0 + 1 * (x 0).val = _; omega) (by show 0 + 1 * (x 1).val = _; omega)

theorem prj_ld' (o : ℕ) (f) (a : Fin 256) (R : Fin 512) (K : Fin 1024) (hr : (R.val) = r.val) (hk : K.val = o + a.val) :
    prj h (View.ld w (Rect.unit ![o, 0] ![256, 2048] f)) (ix2 r a) = wide h w R K := by
  have e0 : R = r := Fin.ext hr
  rw [e0]
  exact prj_ld h w r o f a K hk

theorem vOut_at (y : S512x1024.Idx) : vOut h w y = wide h w (y 0) (y 1) := by
  unfold vOut
  refine View.canon_apply_of_pieces (Val := Elt Ideal) (S := S512x1024) (e := .f32) (fun y : S512x1024.Idx => (wide h w (y 0) (y 1) : EReal)) _ (fun p hp x => ?_) y
    (View.cover_of_tiledL _ ![512, 256] (by sl_kernel_rfl) y)
  simp only [List.mem_cons, List.not_mem_nil, or_false] at hp
  rcases hp with rfl | rfl | rfl | rfl
  all_goals refine (congrArg _ (eq_ix2 x)).trans ?_
  · exact prj_ld' h w (x 0) 768 _ (x 1) _ _ (by show 0 + 1 * (x 0).val = _; omega) (by show 768 + 1 * (x 1).val = _; omega)
  · exact prj_ld' h w (x 0) 512 _ (x 1) _ _ (by show 0 + 1 * (x 0).val = _; omega) (by show 512 + 1 * (x 1).val = _; omega)
  · exact prj_ld' h w (x 0) 256 _ (x 1) _ _ (by show 0 + 1 * (x 0).val = _; omega) (by show 256 + 1 * (x 1).val = _; omega)
  · exact prj_ld' h w (x 0) 0 _ (x 1) _ _ (by show 0 + 1 * (x 0).val = _; omega) (by show 0 + 1 * (x 1).val = _; omega)

theorem wOut_at (y : S512x1024.Idx) : wOut h w y = wide h w (y 0) (y 1) := by
  unfold wOut
  refine View.canon_apply_of_pieces (Val := Elt Ideal) (S := S512x1024) (e := .bf16) (fun y : S512x1024.Idx => (wide h w (y 0) (y 1) : EReal)) _ (fun p hp x => ?_) y
    (View.cover_of_tiledL _ ![512, 256] (by sl_kernel_rfl) y)
  simp only [List.mem_cons, List.not_mem_nil, or_false] at hp
  rcases hp with rfl | rfl | rfl | rfl
  all_goals refine (congrArg _ (eq_ix2 x)).trans ?_
  · exact prj_ld' h w (x 0) 768 _ (x 1) _ _ (by show 0 + 1 * (x 0).val = _; omega) (by show 768 + 1 * (x 1).val = _; omega)
  · exact prj_ld' h w (x 0) 512 _ (x 1) _ _ (by show 0 + 1 * (x 0).val = _; omega) (by show 512 + 1 * (x 1).val = _; omega)
  · exact prj_ld' h w (x 0) 256 _ (x 1) _ _ (by show 0 + 1 * (x 0).val = _; omega) (by show 256 + 1 * (x 1).val = _; omega)
  · exact prj_ld' h w (x 0) 0 _ (x 1) _ _ (by show 0 + 1 * (x 0).val = _; omega) (by show 0 + 1 * (x 1).val = _; omega)

end Cert.InpTile
end
-- ==== Proof.InpArr.lean ====
/- The input projection's blocks over the arguments' rows. -/
module

public import proofs.«01_k».proof.Proof.InpRows

@[expose] public section

noncomputable section

namespace Cert.InpTile

open Cert.InpIdeal Cert.InpIdeal.Gen Idealize.ShloMosaic Idealize.ShloMosaic.TcCoe Idealize.SL.Sem

/-- The wide product's columns of the queries, the keys, the values, the gates and the state-space inputs. -/
def qc (k : Fin 1024) : Fin 4104 := ⟨k.val, by omega⟩
def kc (k : Fin 1024) : Fin 4104 := ⟨1024 + k.val, by omega⟩
def vc (k : Fin 1024) : Fin 4104 := ⟨2048 + k.val, by omega⟩
def fc (a : Fin 8) : Fin 4104 := ⟨3072 + a.val, by omega⟩
def uc (k : Fin 1024) : Fin 4104 := ⟨3080 + k.val, by omega⟩

section
variable (x0 : Vec Ideal S8192x2048 .f32) (x1 : Vec Ideal S2048 .f32) (x2 : Vec Ideal S2048x4104 .f32) (x3 : Vec Ideal S8 .f32)
  (x4 x5 : Vec Ideal S128 .f32)

/-- The normalised rows, and their product with every weight column. -/
def Hn (R : Fin 8192) (l : Fin 2048) : EReal := nrm (fun k => x0 (ix2 R k)) l (x1 (ix1 l))
def zz (R : Fin 8192) (j : Fin 4104) : EReal := ∑ l : Fin 2048, Hn x0 x1 R l * (x2 (ix2 l j) : EReal)
/-- The gates' argument on a lane: a head's product and bias, or zero past the heads. -/
def fz (R : Fin 8192) (a : Fin 128) : EReal := if h : a.val < 8 then zz x0 x1 x2 R (fc ⟨a.val, h⟩) + (x3 (ix1 ⟨a.val, h⟩) : EReal) else 0
/-- A lane's logarithm of its gate, at a row given by its number. -/
def lg (a : Fin 128) (n : ℕ) : EReal := if h : n < 8192 then lsg (fz x0 x1 x2 x3 ⟨n, h⟩ a) else 0
/-- Those summed over the first `n` rows of sequence `b`. -/
def pre (a : Fin 128) (b n : ℕ) : EReal := ∑ s ∈ Finset.range n, lg x0 x1 x2 x3 a (b * 2048 + s)
end

/-- The integer zero turned into a float is zero. -/
theorem pad0 : FloatOps.sitofp (F := Ideal) FTy.f32 0#32 = (0 : EReal) := by
  show (((0#32 : BitVec 32).toInt : ℝ) : EReal) = 0
  simp

/-- The gates' weight rows behind zero rows, and their bias behind zeros, as the host pads them. -/
theorem padW (A : Vec Ideal S2048x4104 .f32) (a : Fin 128) (l : Fin 2048) : pad S128x2048 ![0, 0] ![120, 0] ![0, 0]
      (extractStridedSlice S8x2048 ![3072, 0] (transpose S4104x2048 [1, 0] A transposes_S2048x4104_S4104x2048_1_0) slices_S4104x2048_S8x2048_3072_0)
      (sitofp (F := Ideal) .f32 (constantI S_ 32 0#32)) pads_S8x2048_S128x2048_01200_000 h_S_ (ix2 a l)
    = if h : a.val < 8 then A (ix2 l (fc ⟨a.val, h⟩)) else (0 : EReal) := by
  pointwise [fc]
  rw [pad0]
theorem padB (A : Vec Ideal S8 .f32) (a : Fin 128) : pad S128 ![0] ![120] ![0] A
      (sitofp (F := Ideal) .f32 (constantI S_ 32 0#32)) pads_S8_S128_01200 h_S_ (ix1 a)
    = if h : a.val < 8 then A (ix1 ⟨a.val, h⟩) else (0 : EReal) := by
  pointwise
  rw [pad0]

variable (m : (ℓ : Loc nD τ sig) → Buf (Elt Ideal) ℓ)

/-- The index maps over the grid: the row block. -/
theorem idx : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![t.val, 0] ∧ win0_11.index t = ![t.val, 0]
    ∧ win0_12.index t = ![t.val, 0] ∧ win0_13.index t = ![t.val, 0] ∧ win0_14.index t = ![t.val, 0] ∧ win0_15.index t = ![t.val, 0]
    ∧ win0_16.index t = ![t.val, 0] ∧ win0_17.index t = ![t.val, 0] := by decide +kernel

/-- Row `r` of a grid point's row block. -/
def row (t : Fin cfg0.N) (r : Fin 512) : Fin 8192 := ⟨t.val * 512 + r.val, by have := t.isLt; have h : cfg0.N = 16 := N_0; omega⟩

variable (c : Dev nD) (t : Fin cfg0.N)

theorem blk0 (r : Fin 512) (d : Fin 2048) : iblk m c 0 t (ix2 r d) = m ((c : Thread nD τ).loc main_arg0) (ix2 (row t r) d) := by
  blk_ext [iblk, V, idx t, row]
theorem blk1 (l : Fin 2048) : iblk m c 1 t (ix2 0 l) = m ((c : Thread nD τ).loc main_arg1) (ix1 l) := by
  have e : iblk m c 1 t (ix2 0 l) = V m c main_v16 (ix2 0 l) := by
    blk_ext [iblk, idx t]
  rw [e]
  unfold V
  simp only [hostOps0, hostOps0_1, hostOps0_2, hostOps0_3, hostOps0_4, List.flatten_cons, List.flatten_nil, List.cons_append, List.append_nil, List.nil_append]
  entry_read
  pointwise
theorem blk2 (k : Fin 1024) (l : Fin 2048) : iblk m c 2 t (ix2 k l) = m ((c : Thread nD τ).loc main_arg2) (ix2 l (qc k)) := by
  have e : iblk m c 2 t (ix2 k l) = V m c main_v2 (ix2 k l) := by
    blk_ext [iblk, idx t]
  rw [e]
  unfold V
  simp only [hostOps0, hostOps0_1, hostOps0_2, hostOps0_3, hostOps0_4, List.flatten_cons, List.flatten_nil, List.cons_append, List.append_nil, List.nil_append]
  entry_read
  pointwise [qc]
theorem blk3 (k : Fin 1024) (l : Fin 2048) : iblk m c 3 t (ix2 k l) = m ((c : Thread nD τ).loc main_arg2) (ix2 l (kc k)) := by
  have e : iblk m c 3 t (ix2 k l) = V m c main_v4 (ix2 k l) := by
    blk_ext [iblk, idx t]
  rw [e]
  unfold V
  simp only [hostOps0, hostOps0_1, hostOps0_2, hostOps0_3, hostOps0_4, List.flatten_cons, List.flatten_nil, List.cons_append, List.append_nil, List.nil_append]
  entry_read
  pointwise [kc]
theorem blk4 (k : Fin 1024) (l : Fin 2048) : iblk m c 4 t (ix2 k l) = m ((c : Thread nD τ).loc main_arg2) (ix2 l (vc k)) := by
  have e : iblk m c 4 t (ix2 k l) = V m c main_v6 (ix2 k l) := by
    blk_ext [iblk, idx t]
  rw [e]
  unfold V
  simp only [hostOps0, hostOps0_1, hostOps0_2, hostOps0_3, hostOps0_4, List.flatten_cons, List.flatten_nil, List.cons_append, List.append_nil, List.nil_append]
  entry_read
  pointwise [vc]
theorem blk5 (k : Fin 1024) (l : Fin 2048) : iblk m c 5 t (ix2 k l) = m ((c : Thread nD τ).loc main_arg2) (ix2 l (uc k)) := by
  have e : iblk m c 5 t (ix2 k l) = V m c main_v11 (ix2 k l) := by
    blk_ext [iblk, idx t]
  rw [e]
  unfold V
  simp only [hostOps0, hostOps0_1, hostOps0_2, hostOps0_3, hostOps0_4, List.flatten_cons, List.flatten_nil, List.cons_append, List.append_nil, List.nil_append]
  entry_read
  pointwise [uc]
theorem blk6 (a : Fin 128) (l : Fin 2048) : iblk m c 6 t (ix2 a l) = if h : a.val < 8 then m ((c : Thread nD τ).loc main_arg2) (ix2 l (fc ⟨a.val, h⟩)) else (0 : EReal) := by
  have e : iblk m c 6 t (ix2 a l) = V m c main_v9 (ix2 a l) := by
    blk_ext [iblk, idx t]
  rw [e]
  unfold V
  simp only [hostOps0, hostOps0_1, hostOps0_2, hostOps0_3, hostOps0_4, List.flatten_cons, List.flatten_nil, List.cons_append, List.append_nil, List.nil_append]
  entry_read
  exact padW _ a l
theorem blk7 (a : Fin 128) : iblk m c 7 t (ix2 0 a) = if h : a.val < 8 then m ((c : Thread nD τ).loc main_arg3) (ix1 ⟨a.val, h⟩) else (0 : EReal) := by
  have e : iblk m c 7 t (ix2 0 a) = V m c main_v13 (ix2 0 a) := by
    blk_ext [iblk, idx t]
  rw [e]
  unfold V
  simp only [hostOps0, hostOps0_1, hostOps0_2, hostOps0_3, hostOps0_4, List.flatten_cons, List.flatten_nil, List.cons_append, List.append_nil, List.nil_append]
  entry_read
  pointwise
  exact padB _ a
theorem blk8 (d : Fin 128) : iblk m c 8 t (ix2 0 d) = m ((c : Thread nD τ).loc main_arg4) (ix1 d) := by
  have e : iblk m c 8 t (ix2 0 d) = V m c main_v14 (ix2 0 d) := by
    blk_ext [iblk, idx t]
  rw [e]
  unfold V
  simp only [hostOps0, hostOps0_1, hostOps0_2, hostOps0_3, hostOps0_4, List.flatten_cons, List.flatten_nil, List.cons_append, List.append_nil, List.nil_append]
  entry_read
  pointwise
theorem blk9 (d : Fin 128) : iblk m c 9 t (ix2 0 d) = m ((c : Thread nD τ).loc main_arg5) (ix1 d) := by
  have e : iblk m c 9 t (ix2 0 d) = V m c main_v15 (ix2 0 d) := by
    blk_ext [iblk, idx t]
  rw [e]
  unfold V
  simp only [hostOps0, hostOps0_1, hostOps0_2, hostOps0_3, hostOps0_4, List.flatten_cons, List.flatten_nil, List.cons_append, List.append_nil, List.nil_append]
  entry_read
  pointwise

end Cert.InpTile
end
-- ==== Proof.InpSum.lean ====
/- The input projection's stores over the arguments' rows. -/
module

public import proofs.«01_k».proof.Proof.InpArr

@[expose] public section

noncomputable section

namespace Cert.InpTile

open Cert.InpIdeal Cert.InpIdeal.Gen Idealize.ShloMosaic Idealize.ShloMosaic.TcCoe Idealize.SL.Sem

variable (m : (ℓ : Loc nD τ sig) → Buf (Elt Ideal) ℓ) (c : Dev nD) (t : Fin cfg0.N) (r : Fin 512)

/-- The rows a grid point normalises. -/
theorem hH (l : Fin 2048) : k0_pay2 (iblk m c 0 t) (iblk m c 1 t) (ix2 r l) = Hn (m ((c : Thread nD τ).loc main_arg0)) (m ((c : Thread nD τ).loc main_arg1)) (row t r) l := by
  rw [hrow]
  unfold Hn
  simp only [blk0, blk1]

/-- The wide row of a grid point's queries. -/
theorem wq : wide (k0_pay2 (iblk m c 0 t) (iblk m c 1 t)) (iblk m c 2 t) r = fun k => zz (m ((c : Thread nD τ).loc main_arg0)) (m ((c : Thread nD τ).loc main_arg1)) (m ((c : Thread nD τ).loc main_arg2)) (row t r) (qc k) := by
  funext k
  unfold wide zz
  simp only [hH, blk2]

/-- The wide row of a grid point's keys. -/
theorem wk : wide (k0_pay2 (iblk m c 0 t) (iblk m c 1 t)) (iblk m c 3 t) r = fun k => zz (m ((c : Thread nD τ).loc main_arg0)) (m ((c : Thread nD τ).loc main_arg1)) (m ((c : Thread nD τ).loc main_arg2)) (row t r) (kc k) := by
  funext k
  unfold wide zz
  simp only [hH, blk3]

/-- The wide row of a grid point's values. -/
theorem wv : wide (k0_pay2 (iblk m c 0 t) (iblk m c 1 t)) (iblk m c 4 t) r = fun k => zz (m ((c : Thread nD τ).loc main_arg0)) (m ((c : Thread nD τ).loc main_arg1)) (m ((c : Thread nD τ).loc main_arg2)) (row t r) (vc k) := by
  funext k
  unfold wide zz
  simp only [hH, blk4]

/-- The wide row of a grid point's state-space inputs. -/
theorem wu : wide (k0_pay2 (iblk m c 0 t) (iblk m c 1 t)) (iblk m c 5 t) r = fun k => zz (m ((c : Thread nD τ).loc main_arg0)) (m ((c : Thread nD τ).loc main_arg1)) (m ((c : Thread nD τ).loc main_arg2)) (row t r) (uc k) := by
  funext k
  unfold wide zz
  simp only [hH, blk5]

/-- The logarithms of a grid point's gates. -/
theorem lfH (a : Fin 128) : k0_pay61 (k0_pay2 (iblk m c 0 t) (iblk m c 1 t)) (iblk m c 6 t) (iblk m c 7 t) (ix2 r a) = lg (m ((c : Thread nD τ).loc main_arg0)) (m ((c : Thread nD τ).loc main_arg1)) (m ((c : Thread nD τ).loc main_arg2)) (m ((c : Thread nD τ).loc main_arg3)) a (t.val * 512 + r.val) := by
  rw [lf_at]
  unfold lg
  refine Eq.trans ?_ (dif_pos (row t r).isLt).symm
  refine congrArg lsg ?_
  unfold fz
  simp only [hH, blk6, blk7]
  by_cases h : a.val < 8
  · simp only [dif_pos h]
    rfl
  · simp only [dif_neg h, mul_zero, Finset.sum_const_zero, add_zero]

/-- They are never positive infinity. -/
theorem lg_ne_top (x0 : Vec Ideal S8192x2048 .f32) (x1 : Vec Ideal S2048 .f32) (x2 : Vec Ideal S2048x4104 .f32) (x3 : Vec Ideal S8 .f32) (a : Fin 128) (n : ℕ) :
    lg x0 x1 x2 x3 a n ≠ ⊤ := by
  unfold lg
  split
  · exact lsg_ne_top _
  · exact EReal.zero_ne_top

/-- The masked sum over a tile's rows is the sum of its first rows. -/
theorem tile_sum (f : ℕ → EReal) : (∑ x : Fin 512, if x ≤ r then f x.val else 0) = ∑ s ∈ Finset.range (r.val + 1), f s := by
  obtain ⟨r, hr⟩ := r
  refine (Fin.sum_univ_eq_sum_range (fun n => if n ≤ r then f n else 0) 512).trans ?_
  show _ = ∑ s ∈ Finset.range (r + 1), f s
  have h5 : 512 = (r + 1) + (511 - r) := by omega
  have hs : (∑ n ∈ Finset.range 512, if n ≤ r then f n else 0) = ∑ n ∈ Finset.range ((r + 1) + (511 - r)), if n ≤ r then f n else 0 :=
    congrArg (fun N => ∑ n ∈ Finset.range N, if n ≤ r then f n else 0) h5
  rw [hs, Finset.sum_range_add, Finset.sum_eq_zero (s := Finset.range (511 - r)) fun n _ => if_neg (by omega), add_zero]
  exact Finset.sum_congr rfl fun s hs => if_pos (by have := Finset.mem_range.1 hs; omega)

/-- A tile's prefix sums go on from the rows before it. -/
theorem step (f q : ℕ) (ht : t.val = 4 * q + f) (g : Vec Ideal S1x128 .f32) (d : Fin 128) (hg : g (ix2 0 d) = pre (m ((c : Thread nD τ).loc main_arg0)) (m ((c : Thread nD τ).loc main_arg1)) (m ((c : Thread nD τ).loc main_arg2)) (m ((c : Thread nD τ).loc main_arg3)) d q (512 * f)) :
    k0_pay63 (k0_pay61 (k0_pay2 (iblk m c 0 t) (iblk m c 1 t)) (iblk m c 6 t) (iblk m c 7 t)) g (ix2 r d) = pre (m ((c : Thread nD τ).loc main_arg0)) (m ((c : Thread nD τ).loc main_arg1)) (m ((c : Thread nD τ).loc main_arg2)) (m ((c : Thread nD τ).loc main_arg3)) d q (512 * f + (r.val + 1)) := by
  rw [c_at g r d _ fun x => by rw [lfH]; exact lg_ne_top _ _ _ _ _ _, hg]
  simp only [lfH]
  rw [tile_sum r fun s => lg (m ((c : Thread nD τ).loc main_arg0)) (m ((c : Thread nD τ).loc main_arg1)) (m ((c : Thread nD τ).loc main_arg2)) (m ((c : Thread nD τ).loc main_arg3)) d (t.val * 512 + s)]
  unfold pre
  rw [Finset.sum_range_add _ (512 * f)]
  refine (add_comm _ _).trans ?_
  refine congrArg₂ (fun a b : EReal => a + b) rfl (Finset.sum_congr rfl fun s _ => ?_)
  rw [show t.val * 512 + s = q * 2048 + (512 * f + s) by omega]

/-- What a grid point carries to the next: the sums over the sequence's rows so far. -/
theorem held (f : ℕ) (hf : f < 4) (q : ℕ) (h : 4 * q + f < cfg0.N) (d : Fin 128) :
    (outsAt0 m c (4 * q + f) h).2.2.2.2.2.2.2.2 (ix2 0 d) = pre (m ((c : Thread nD τ).loc main_arg0)) (m ((c : Thread nD τ).loc main_arg1)) (m ((c : Thread nD τ).loc main_arg2)) (m ((c : Thread nD τ).loc main_arg3)) d q (512 * f + 512) := by
  induction f with
  | zero =>
    rw [s_A m c ⟨4 * q + 0, h⟩ (by show (4 * q + 0) % 4 = 0; omega), s_at]
    exact step m c ⟨4 * q + 0, h⟩ 511 0 q rfl _ d ((zrow_at d).trans (by unfold pre; rfl))
  | succ f ih =>
    have hb : 4 * q + f < cfg0.N := by omega
    have hp := ih (by omega) hb
    rw [s_B m c ⟨4 * q + (f + 1), h⟩ (by show ¬ (4 * q + (f + 1)) % 4 = 0; omega) hb, s_at]
    exact step m c ⟨4 * q + (f + 1), h⟩ 511 (f + 1) q rfl _ d hp

/-- Equal numbers are the same grid point. -/
theorem same_point {n n' : ℕ} (e : n = n') (h : n < cfg0.N) (h' : n' < cfg0.N) : outsAt0 m c n h = outsAt0 m c n' h' := by
  subst e
  rfl

/-- The running sums a grid point stores. -/
theorem sums (d : Fin 128) : (outsAt0 m c t.val t.isLt).2.2.2.2.2.2.2.1 (ix2 r d)
    = pre (m ((c : Thread nD τ).loc main_arg0)) (m ((c : Thread nD τ).loc main_arg1)) (m ((c : Thread nD τ).loc main_arg2)) (m ((c : Thread nD τ).loc main_arg3)) d (t.val / 4) (512 * (t.val % 4) + (r.val + 1)) := by
  by_cases h0 : t.val % 4 = 0
  · rw [c_A m c t h0]
    exact step m c t r (t.val % 4) (t.val / 4) (by omega) _ d ((zrow_at d).trans (by rw [h0]; unfold pre; rfl))
  · have hb : t.val - 1 < cfg0.N := by have := t.isLt; omega
    rw [c_B m c t h0 hb]
    refine step m c t r (t.val % 4) (t.val / 4) (by omega) _ d ?_
    have e : t.val - 1 = 4 * (t.val / 4) + (t.val % 4 - 1) := by omega
    have hp := held m c (t.val % 4 - 1) (by omega) (t.val / 4) (e ▸ hb) d
    rw [show 512 * (t.val % 4) = 512 * (t.val % 4 - 1) + 512 by omega, ← hp]
    rw [same_point m c e hb (e ▸ hb)]

theorem q_fin (k : Fin 1024) : (outsAt0 m c t.val t.isLt).1 (ix2 r k) = hd (fun k => zz (m ((c : Thread nD τ).loc main_arg0)) (m ((c : Thread nD τ).loc main_arg1)) (m ((c : Thread nD τ).loc main_arg2)) (row t r) (qc k)) k (m ((c : Thread nD τ).loc main_arg4) (ix1 (inh k))) * qs := by
  have e : (outsAt0 m c t.val t.isLt).1 = qOut (k0_pay2 (iblk m c 0 t) (iblk m c 1 t)) (iblk m c 2 t) (iblk m c 8 t) := by
    by_cases h0 : t.val % 4 = 0
    · exact q_A m c t h0
    · exact q_B m c t h0 (by have := t.isLt; omega)
  refine (congrFun e _).trans ((qOut_at _ _ _ (ix2 r k)).trans ?_)
  show hd (wide (k0_pay2 (iblk m c 0 t) (iblk m c 1 t)) (iblk m c 2 t) r) k (iblk m c 8 t (ix2 0 (inh k))) * qs = _
  rw [wq, blk8]

theorem k_fin (k : Fin 1024) : (outsAt0 m c t.val t.isLt).2.1 (ix2 r k) = hd (fun k => zz (m ((c : Thread nD τ).loc main_arg0)) (m ((c : Thread nD τ).loc main_arg1)) (m ((c : Thread nD τ).loc main_arg2)) (row t r) (kc k)) k (m ((c : Thread nD τ).loc main_arg5) (ix1 (inh k))) := by
  have e : (outsAt0 m c t.val t.isLt).2.1 = kOut (k0_pay2 (iblk m c 0 t) (iblk m c 1 t)) (iblk m c 3 t) (iblk m c 9 t) := by
    by_cases h0 : t.val % 4 = 0
    · exact k_A m c t h0
    · exact k_B m c t h0 (by have := t.isLt; omega)
  refine (congrFun e _).trans ((kOut_at _ _ _ (ix2 r k)).trans ?_)
  show hd (wide (k0_pay2 (iblk m c 0 t) (iblk m c 1 t)) (iblk m c 3 t) r) k (iblk m c 9 t (ix2 0 (inh k))) = _
  rw [wk, blk9]

theorem b_fin (k : Fin 1024) : (outsAt0 m c t.val t.isLt).2.2.1 (ix2 r k) = hd (fun k => zz (m ((c : Thread nD τ).loc main_arg0)) (m ((c : Thread nD τ).loc main_arg1)) (m ((c : Thread nD τ).loc main_arg2)) (row t r) (kc k)) k (m ((c : Thread nD τ).loc main_arg5) (ix1 (inh k))) := by
  have e : (outsAt0 m c t.val t.isLt).2.2.1 = bOut (k0_pay2 (iblk m c 0 t) (iblk m c 1 t)) (iblk m c 3 t) (iblk m c 9 t) := by
    by_cases h0 : t.val % 4 = 0
    · exact b_A m c t h0
    · exact b_B m c t h0 (by have := t.isLt; omega)
  refine (congrFun e _).trans ((bOut_at _ _ _ (ix2 r k)).trans ?_)
  show hd (wide (k0_pay2 (iblk m c 0 t) (iblk m c 1 t)) (iblk m c 3 t) r) k (iblk m c 9 t (ix2 0 (inh k))) = _
  rw [wk, blk9]

theorem v_fin (k : Fin 1024) : (outsAt0 m c t.val t.isLt).2.2.2.1 (ix2 r k) = zz (m ((c : Thread nD τ).loc main_arg0)) (m ((c : Thread nD τ).loc main_arg1)) (m ((c : Thread nD τ).loc main_arg2)) (row t r) (vc k) := by
  have e : (outsAt0 m c t.val t.isLt).2.2.2.1 = vOut (k0_pay2 (iblk m c 0 t) (iblk m c 1 t)) (iblk m c 4 t) := by
    by_cases h0 : t.val % 4 = 0
    · exact v_A m c t h0
    · exact v_B m c t h0 (by have := t.isLt; omega)
  exact (congrFun e _).trans ((vOut_at _ _ (ix2 r k)).trans (congrFun (wv m c t r) k))

theorem w_fin (k : Fin 1024) : (outsAt0 m c t.val t.isLt).2.2.2.2.1 (ix2 r k) = zz (m ((c : Thread nD τ).loc main_arg0)) (m ((c : Thread nD τ).loc main_arg1)) (m ((c : Thread nD τ).loc main_arg2)) (row t r) (vc k) := by
  have e : (outsAt0 m c t.val t.isLt).2.2.2.2.1 = wOut (k0_pay2 (iblk m c 0 t) (iblk m c 1 t)) (iblk m c 4 t) := by
    by_cases h0 : t.val % 4 = 0
    · exact w_A m c t h0
    · exact w_B m c t h0 (by have := t.isLt; omega)
  exact (congrFun e _).trans ((wOut_at _ _ (ix2 r k)).trans (congrFun (wv m c t r) k))

theorem u_fin (k : Fin 1024) : (outsAt0 m c t.val t.isLt).2.2.2.2.2.1 (ix2 r k) = zz (m ((c : Thread nD τ).loc main_arg0)) (m ((c : Thread nD τ).loc main_arg1)) (m ((c : Thread nD τ).loc main_arg2)) (row t r) (uc k) := by
  have e : (outsAt0 m c t.val t.isLt).2.2.2.2.2.1 = vOut (k0_pay2 (iblk m c 0 t) (iblk m c 1 t)) (iblk m c 5 t) := by
    by_cases h0 : t.val % 4 = 0
    · exact u_A m c t h0
    · exact u_B m c t h0 (by have := t.isLt; omega)
  exact (congrFun e _).trans ((vOut_at _ _ (ix2 r k)).trans (congrFun (wu m c t r) k))

theorem l_fin (d : Fin 128) : (outsAt0 m c t.val t.isLt).2.2.2.2.2.2.1 (ix2 r d) = lg (m ((c : Thread nD τ).loc main_arg0)) (m ((c : Thread nD τ).loc main_arg1)) (m ((c : Thread nD τ).loc main_arg2)) (m ((c : Thread nD τ).loc main_arg3)) d (t.val * 512 + r.val) := by
  by_cases h0 : t.val % 4 = 0
  · rw [l_A m c t h0]; exact lfH m c t r d
  · rw [l_B m c t h0 (by have := t.isLt; omega)]; exact lfH m c t r d

end Cert.InpTile
end
-- ==== Proof.InpCum.lean ====
/- A running sum along the middle axis, as the host's window of the whole height takes it. -/
module

public import proofs.«01_k».proof.Proof.InpRows

@[expose] public section

noncomputable section

namespace Cert.InpTile

open Idealize.ShloMosaic

/-- A left fold of additions is the start plus the sum of what is added. -/
theorem foldl_sum {ι : Type} (l : List ι) (F : ι → EReal) (v : EReal) : l.foldl (fun r n => r + F n) v = v + (l.map F).sum := by
  induction l generalizing v with
  | nil => simp
  | cons a l ih => rw [List.foldl_cons, ih, List.map_cons, List.sum_cons, add_assoc]

/-- A window of the whole height padded low by one less, read at position `i`, sums the first `i + 1` terms. -/
theorem sum_padded (g : ℕ → EReal) (i : ℕ) (hi : i < 2048) :
    (∑ n ∈ Finset.range 2048, if 2047 ≤ i + n then g (i + n - 2047) else 0) = ∑ s ∈ Finset.range (i + 1), g s := by
  obtain ⟨d, hd⟩ : ∃ d, 2047 = i + d := ⟨2047 - i, by omega⟩
  rw [show 2048 = d + (i + 1) by omega, Finset.sum_range_add, Finset.sum_eq_zero fun n hn => if_neg (by have := Finset.mem_range.1 hn; omega), zero_add]
  exact Finset.sum_congr rfl fun s _ => by rw [if_pos (by omega), show i + (d + s) - 2047 = s by omega]

/-- The window's shape: its size, and the index at a position. -/
theorem win_numel : (⟨3, ![1, 2048, 1]⟩ : Shape).numel = 2048 := by decide +kernel
theorem win_symm (n : Fin (⟨3, ![1, 2048, 1]⟩ : Shape).numel) : (⟨3, ![1, 2048, 1]⟩ : Shape).rowMajor.symm n
    = ix3 (0 : Fin 1) (⟨n.val, lt_of_lt_of_eq n.isLt win_numel⟩ : Fin 2048) (0 : Fin 1) :=
  (Equiv.symm_apply_eq _).2 (Fin.ext (by
    rw [Shape.rowMajor_val_three]
    show n.val = (0 * 2048 + n.val) * 1 + 0
    omega))

/-- The host's running sum along the middle axis at a position is the sum of the entries up to it. -/
theorem cum (x : (⟨3, ![4, 2048, 128]⟩ : Shape).Idx → EReal) {u : Shape} (z : u.Idx → EReal) (hz : ∀ y, z y = 0)
    (h : (⟨3, ![4, 2048, 128]⟩ : Shape).ReduceWindows (![1, 2048, 1] : Fin 3 → ℕ) ![1, 1, 1] ![0, 2047, 0] ![0, 0, 0] ⟨3, ![4, 2048, 128]⟩) (hu : 0 < u.numel)
    (b : Fin 4) (a : Fin 128) (g : ℕ → EReal) (hx : ∀ s : Fin 2048, x (ix3 b s a) = g s.val) (i : Fin 2048) :
    Host.reduceWindow (· + ·) ![1, 2048, 1] ![1, 1, 1] ![0, 2047, 0] ![0, 0, 0] x z h hu (ix3 b i a) = ∑ s ∈ Finset.range (i.val + 1), g s := by
  have hi := i.isLt
  have hb := b.isLt
  have ha := a.isLt
  unfold Host.reduceWindow
  refine (foldl_sum _ _ _).trans ?_
  rw [hz, zero_add, ← sum_padded g i.val hi, ← Fin.sum_univ_def]
  refine (Finset.sum_congr rfl fun n _ => ?_).trans ((Fin.sum_univ_eq_sum_range (fun n => if 2047 ≤ i.val + n then g (i.val + n - 2047) else 0) _).trans
    (by rw [win_numel]))
  have hn : n.val < 2048 := lt_of_lt_of_eq n.isLt win_numel
  have hw0 : ((⟨3, ![1, 2048, 1]⟩ : Shape).rowMajor.symm n 0).val = 0 := by rw [win_symm]; rfl
  have hw1 : ((⟨3, ![1, 2048, 1]⟩ : Shape).rowMajor.symm n 1).val = n.val := by rw [win_symm]; rfl
  have hw2 : ((⟨3, ![1, 2048, 1]⟩ : Shape).rowMajor.symm n 2).val = 0 := by rw [win_symm]; rfl
  dsimp only
  split
  · next hin =>
    have h1 := hin 1
    change 2047 ≤ i.val * 1 + ((⟨3, ![1, 2048, 1]⟩ : Shape).rowMajor.symm n 1).val
      ∧ i.val * 1 + ((⟨3, ![1, 2048, 1]⟩ : Shape).rowMajor.symm n 1).val - 2047 < 2048 at h1
    rw [hw1] at h1
    rw [if_pos (by omega)]
    refine (congrArg x (funext fun e => Fin.ext ?_)).trans (hx ⟨i.val + n.val - 2047, by omega⟩)
    match e with
    | ⟨0, _⟩ =>
      show b.val * 1 + ((⟨3, ![1, 2048, 1]⟩ : Shape).rowMajor.symm n 0).val - 0 = b.val
      rw [hw0]; omega
    | ⟨1, _⟩ =>
      show i.val * 1 + ((⟨3, ![1, 2048, 1]⟩ : Shape).rowMajor.symm n 1).val - 2047 = i.val + n.val - 2047
      rw [hw1, Nat.mul_one]
    | ⟨2, _⟩ =>
      show a.val * 1 + ((⟨3, ![1, 2048, 1]⟩ : Shape).rowMajor.symm n 2).val - 0 = a.val
      rw [hw2]; omega
  · next hin =>
    rw [if_neg fun hle => hin fun e => by
      match e with
      | ⟨0, _⟩ =>
        show 0 ≤ b.val * 1 + ((⟨3, ![1, 2048, 1]⟩ : Shape).rowMajor.symm n 0).val ∧ b.val * 1 + ((⟨3, ![1, 2048, 1]⟩ : Shape).rowMajor.symm n 0).val - 0 < 4
        rw [hw0]; omega
      | ⟨1, _⟩ =>
        show 2047 ≤ i.val * 1 + ((⟨3, ![1, 2048, 1]⟩ : Shape).rowMajor.symm n 1).val
          ∧ i.val * 1 + ((⟨3, ![1, 2048, 1]⟩ : Shape).rowMajor.symm n 1).val - 2047 < 2048
        rw [hw1]; omega
      | ⟨2, _⟩ =>
        show 0 ≤ a.val * 1 + ((⟨3, ![1, 2048, 1]⟩ : Shape).rowMajor.symm n 2).val ∧ a.val * 1 + ((⟨3, ![1, 2048, 1]⟩ : Shape).rowMajor.symm n 2).val - 0 < 128
        rw [hw2]; omega]

end Cert.InpTile
end
-- ==== Proof.InpRef.lean ====
/- The input projection's reference, entry by entry. -/
module

public import proofs.«01_k».proof.Proof.InpArr
public import proofs.«01_k».proof.Proof.InpCum
public import proofs.«01_k».proof.Proof.Gen.InpRefIdeal.Read

@[expose] public section

noncomputable section

namespace Cert.InpRefRead

open Cert.InpRefIdeal Cert.InpRefIdeal.Gen Cert.InpRefIdeal.Read Idealize.ShloMosaic Cert.InpTile

variable (x0 : (⟨S8192x2048, .f32⟩ : BufTy).Contents (Elt Ideal)) (x1 : (⟨S2048, .f32⟩ : BufTy).Contents (Elt Ideal))
  (x2 : (⟨S2048x4104, .f32⟩ : BufTy).Contents (Elt Ideal)) (x3 : (⟨S8, .f32⟩ : BufTy).Contents (Elt Ideal))
  (x4 x5 : (⟨S128, .f32⟩ : BufTy).Contents (Elt Ideal))
variable (r : Fin 8192) (k : Fin 1024) (a : Fin 8) (d : Fin 128)

/-- The reference's normalised rows. -/
theorem norm_apply (l : Fin 2048) : val_main_v12 x0 x1 (ix2 r l) = Hn x0 x1 r l := by
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]
  rfl

/-- The reference's wide product. -/
theorem z_apply (j : Fin 4104) : val_main_v13 x0 x1 x2 (ix2 r j) = zz x0 x1 x2 r j := by
  unfold zz
  pointwise [val_main_v13, norm_apply]

theorem v_apply : val_main_v45 x0 x1 x2 (ix2 r k) = zz x0 x1 x2 r (vc k) :=
  (val_main_v45_apply x0 x1 x2 _).trans ((congrArg _ (funext fun b => Fin.ext (by match b with
    | ⟨0, _⟩ => rfl
    | ⟨1, _⟩ => rfl))).trans (z_apply x0 x1 x2 r (vc k)))

theorem u_apply : val_main_v47 x0 x1 x2 (ix2 r k) = zz x0 x1 x2 r (uc k) :=
  (val_main_v47_apply x0 x1 x2 _).trans ((congrArg _ (funext fun b => Fin.ext (by match b with
    | ⟨0, _⟩ => rfl
    | ⟨1, _⟩ => rfl))).trans (z_apply x0 x1 x2 r (uc k)))

/-- A head's column among the wide columns. -/
def hcol : Fin 1024 := ⟨a.val * 128 + d.val, by omega⟩

theorem col_hcol (e : Fin 128) : col (hcol a d) e = hcol a e :=
  Fin.ext (by show (a.val * 128 + d.val) / 128 * 128 + e.val = a.val * 128 + e.val; omega)

/-- The queries and the keys, head by head. -/
theorem q3_apply : val_main_v15 x0 x1 x2 (ix3 r a d) = zz x0 x1 x2 r (qc (hcol a d)) :=
  (val_main_v15_apply x0 x1 x2 _).trans ((val_main_v14_apply x0 x1 x2 _).trans ((congrArg _ (funext fun b => Fin.ext (by match b with
    | ⟨0, _⟩ => show ((r.val * 8 + a.val) * 128 + d.val) / 1024 = r.val; omega
    | ⟨1, _⟩ => show ((r.val * 8 + a.val) * 128 + d.val) % 1024 = a.val * 128 + d.val; omega))).trans (z_apply x0 x1 x2 r (qc (hcol a d)))))
theorem k3_apply : val_main_v30 x0 x1 x2 (ix3 r a d) = zz x0 x1 x2 r (kc (hcol a d)) :=
  (val_main_v30_apply x0 x1 x2 _).trans ((val_main_v29_apply x0 x1 x2 _).trans ((congrArg _ (funext fun b => Fin.ext (by match b with
    | ⟨0, _⟩ => show ((r.val * 8 + a.val) * 128 + d.val) / 1024 = r.val; omega
    | ⟨1, _⟩ => show 1024 + ((r.val * 8 + a.val) * 128 + d.val) % 1024 = 1024 + (a.val * 128 + d.val); omega))).trans (z_apply x0 x1 x2 r (kc (hcol a d)))))

/-- The same normalised head by head. -/
theorem qn_apply : val_main_v28 x0 x1 x2 x4 (ix3 r a d) = hd (fun k => zz x0 x1 x2 r (qc k)) (hcol a d) (x4 (ix1 d)) := by
  unfold hd
  simp only [col_hcol]
  pointwise [val_main_v28, val_main_v27, val_main_v26, val_main_v25, val_main_v24, val_main_v23, val_main_v22, val_main_v21, val_main_v20, val_main_v19,
    val_main_v18, val_main_v17, val_main_v16, val_main_cst_2, val_main_cst_3, val_main_cst_4, q3_apply]
theorem kn_apply : val_main_v43 x0 x1 x2 x5 (ix3 r a d) = hd (fun k => zz x0 x1 x2 r (kc k)) (hcol a d) (x5 (ix1 d)) := by
  unfold hd
  simp only [col_hcol]
  pointwise [val_main_v43, val_main_v42, val_main_v41, val_main_v40, val_main_v39, val_main_v38, val_main_v37, val_main_v36, val_main_v35, val_main_v34,
    val_main_v33, val_main_v32, val_main_v31, val_main_cst_5, val_main_cst_6, val_main_cst_7, k3_apply]

/-- The head of a wide column. -/
def hof : Fin 8 := ⟨k.val / 128, by omega⟩
theorem hcol_hof : hcol (hof k) (inh k) = k := Fin.ext (by show k.val / 128 * 128 + k.val % 128 = k.val; omega)

/-- The reference's keys. -/
theorem k_apply : val_main_v44 x0 x1 x2 x5 (ix2 r k) = hd (fun k => zz x0 x1 x2 r (kc k)) k (x5 (ix1 (inh k))) := by
  refine (val_main_v44_apply x0 x1 x2 x5 _).trans ((congrArg _ (funext fun b => Fin.ext (by match b with
    | ⟨0, _⟩ => show (r.val * 1024 + k.val) / 1024 = r.val; omega
    | ⟨1, _⟩ => show (r.val * 1024 + k.val) / 128 % 8 = k.val / 128; omega
    | ⟨2, _⟩ => show (r.val * 1024 + k.val) % 128 = k.val % 128; omega))).trans ((kn_apply x0 x1 x2 x5 r (hof k) (inh k)).trans ?_))
  rw [hcol_hof]

/-- Division by the root of 128 and by the logarithm of two is the product with their inverses. -/
theorem scaled (y : EReal) : Ideal.div (Ideal.div y (Ideal.sqrt (Ideal.ofBits .f32 0x43000000#32))) (Ideal.log (Ideal.ofBits .f32 0x40000000#32)) = y * qs := by
  have e128 : Ideal.ofBits .f32 0x43000000#32 = ((128 : ℝ) : EReal) := by
    simp [Ideal.ofBits, Ideal.ieee]
    rw [← EReal.coe_mul]
    norm_num
  have e2 : Ideal.ofBits .f32 0x40000000#32 = ((2 : ℝ) : EReal) := by
    simp [Ideal.ofBits, Ideal.ieee]
    rw [← EReal.coe_mul]
    norm_num
  rw [e128, e2, Ideal.sqrt_coe, if_neg (by norm_num)]
  have el : Ideal.log ((2 : ℝ) : EReal) = ((Real.log 2 : ℝ) : EReal) := if_neg (by norm_num)
  rw [el, Ideal.div_coe (Real.sqrt_ne_zero'.2 (by norm_num)), Ideal.div_coe (Real.log_pos (by norm_num)).ne', mul_assoc, ← EReal.coe_mul, one_div, one_div]
  rfl

/-- The reference's scaled queries. -/
theorem q_apply : val_main_v62 x0 x1 x2 x4 (ix2 r k) = hd (fun k => zz x0 x1 x2 r (qc k)) k (x4 (ix1 (inh k))) * qs := by
  have e : val_main_v61 x0 x1 x2 x4 (ix3 r (hof k) (inh k)) = val_main_v28 x0 x1 x2 x4 (ix3 r (hof k) (inh k)) * qs := by
    rw [← scaled]
    pointwise [val_main_v61, val_main_v60, val_main_v59, val_main_v58, val_main_v57, val_main_v56, val_main_cst_8, val_main_cst_9]
  refine (val_main_v62_apply x0 x1 x2 x4 _).trans ((congrArg _ (funext fun b => Fin.ext (by match b with
    | ⟨0, _⟩ => show (r.val * 1024 + k.val) / 1024 = r.val; omega
    | ⟨1, _⟩ => show (r.val * 1024 + k.val) / 128 % 8 = k.val / 128; omega
    | ⟨2, _⟩ => show (r.val * 1024 + k.val) % 128 = k.val % 128; omega))).trans (e.trans ?_))
  rw [qn_apply, hcol_hof]

/-- The gates' arguments, padded with zeros to whole lanes. -/
theorem f_apply : val_main_v51 x0 x1 x2 x3 (ix2 r d) = fz x0 x1 x2 x3 r d := by
  unfold fz
  pointwise [val_main_v51, val_main_v50, val_main_v49, val_main_v48, val_main_v46, val_main_call0_v0, val_main_c, z_apply, fc]
  rw [pad0]

/-- The logarithms of the gates. -/
theorem lf_apply : val_main_v52 x0 x1 x2 x3 (ix2 r d) = lg x0 x1 x2 x3 d r.val := by
  have e : val_main_v52 x0 x1 x2 x3 (ix2 r d) = lsg (val_main_v51 x0 x1 x2 x3 (ix2 r d)) := by
    rw [← lsg_ref]
    generalize hy : val_main_v51 x0 x1 x2 x3 = y
    pointwise [val_main_v52, val_main_call1_v1, val_main_call1_call0_v11, val_main_call1_call0_v10, val_main_call1_call0_v9, val_main_call1_call0_v8,
      val_main_call1_call0_v7, val_main_call1_call0_v6, val_main_call1_call0_v5, val_main_call1_call0_v4, val_main_call1_call0_v3, val_main_call1_call0_v2,
      val_main_call1_call0_v1, val_main_call1_call0_v0, val_main_call1_call0_cst, val_main_call1_v0, hy]
    rw [if_neg (not_not_intro rfl)]
    rfl
  rw [e, f_apply]
  unfold lg
  rw [dif_pos r.isLt]

/-- The host's float window sum is the window's fold of additions. -/
theorem window_add {s t u : Shape} (w st lo hi : Fin s.rank → ℕ) (x : s.Idx → EReal) (init : u.Idx → EReal) (h : s.ReduceWindows w st lo hi t) (hu : 0 < u.numel) :
    Host.reduceWindowAdd (F := Ideal) (φ := .f32) w st lo hi x init h hu
      = Host.reduceWindow (α := EReal) (· + ·) w st lo hi x (fun _ : (⟨0, ![]⟩ : Shape).Idx => init (Shape.Idx.first hu)) h := rfl

/-- Their running sums along each sequence. -/
theorem c_apply : val_main_v55 x0 x1 x2 x3 (ix2 r d) = pre x0 x1 x2 x3 d (r.val / 2048) (r.val % 2048 + 1) := by
  have hz : ∀ y, val_main_call2_call0_v0 (F := Ideal) y = (0 : EReal) := fun y => by
    rw [val_main_call2_call0_v0_apply, val_main_call2_call0_cst_apply]
    exact Ideal.ofBits_zero_f32
  refine (val_main_v55_apply x0 x1 x2 x3 _).trans ((congrArg _ (funext fun b => Fin.ext (by match b with
    | ⟨0, _⟩ => show (r.val * 128 + d.val) / 262144 = r.val / 2048; omega
    | ⟨1, _⟩ => show (r.val * 128 + d.val) / 128 % 2048 = r.val % 2048; omega
    | ⟨2, _⟩ => show (r.val * 128 + d.val) % 128 = d.val; omega))).trans (?_ : val_main_v54 x0 x1 x2 x3
      (ix3 (⟨r.val / 2048, by omega⟩ : Fin 4) (⟨r.val % 2048, by omega⟩ : Fin 2048) d) = _))
  have hx : ∀ s : Fin 2048, val_main_v53 x0 x1 x2 x3 (ix3 (⟨r.val / 2048, by omega⟩ : Fin 4) s d) = lg x0 x1 x2 x3 d (r.val / 2048 * 2048 + s.val) := fun s =>
    (val_main_v53_apply x0 x1 x2 x3 _).trans ((congrArg _ (funext fun b => Fin.ext (by match b with
    | ⟨0, _⟩ => show ((r.val / 2048 * 2048 + s.val) * 128 + d.val) / 128 = r.val / 2048 * 2048 + s.val; omega
    | ⟨1, _⟩ => show ((r.val / 2048 * 2048 + s.val) * 128 + d.val) % 128 = d.val; omega))).trans
      (lf_apply x0 x1 x2 x3 ⟨r.val / 2048 * 2048 + s.val, by omega⟩ d))
  unfold val_main_v54 pre
  generalize val_main_v53 x0 x1 x2 x3 = y at hx
  generalize val_main_call2_call0_v0 (F := Ideal) = z at hz
  rw [window_add]
  exact cum y _ (fun _ => hz _) _ _ ⟨r.val / 2048, by omega⟩ d (fun s => lg x0 x1 x2 x3 d (r.val / 2048 * 2048 + s)) hx ⟨r.val % 2048, by omega⟩

end Cert.InpRefRead
end
-- ==== Proof.InpClaim.lean ====
/- The input projection kernel's result arrays are the reference's. -/
module

public import proofs.«01_k».proof.Proof.InpSum
public import proofs.«01_k».proof.Proof.InpRef
public import proofs.«01_k».proof.Proof.Gen.InpRefIdeal.Run
public import Idealize.ShloMosaic.Lib.Pipeline.Value
public import Idealize.ShloMosaic.Lib.Quiescent
public import proofs.«01_k».proof.Defs

@[expose] public section

noncomputable section

namespace Cert.InpClaim

open Cert.InpIdeal Cert.InpIdeal.Gen Idealize.ShloMosaic Idealize.ShloMosaic.TcCoe Idealize.SL.Sem Cert.InpTile

variable (m : (ℓ : Loc nD τ sig) → Buf (Elt Ideal) ℓ)

/-- The block of the scaled queries a grid point writes, placed. -/
theorem place10 (t : Fin cfg0.N) (y : S512x1024.Idx) : ((cfg0.win 10).blk t).view.emb y = ix2 (row t (y 0)) (y 1) := by
  blk_ext [idx t, row]

/-- The kernel's scaled queries are the reference's value of the arguments. -/
theorem final10 (c : Dev nD) : (dats m 0 c).arrAt 10 cfg0.N = Cert.InpRefIdeal.Read.val_main_v63 (F := Ideal)
    (m ((c : Thread nD τ).loc main_arg0)) (m ((c : Thread nD τ).loc main_arg1)) (m ((c : Thread nD τ).loc main_arg2)) (m ((c : Thread nD τ).loc main_arg4)) := by
  refine (dats m 0 c).arrAt_eq_of_covers 10 _ (by decide +kernel) fun t hf y => ?_
  blk_simp
  rw [after0_10, place10]
  refine (congrArg _ (eq_ix2 y)).trans ((q_fin m c t (y 0) (y 1)).trans ?_)
  exact (Cert.InpRefRead.q_apply _ _ _ _ _ _).symm

/-- The block of the keys a grid point writes, placed. -/
theorem place11 (t : Fin cfg0.N) (y : S512x1024.Idx) : ((cfg0.win 11).blk t).view.emb y = ix2 (row t (y 0)) (y 1) := by
  blk_ext [idx t, row]

/-- The kernel's keys are the reference's value of the arguments. -/
theorem final11 (c : Dev nD) : (dats m 0 c).arrAt 11 cfg0.N = Cert.InpRefIdeal.Read.val_main_v44 (F := Ideal)
    (m ((c : Thread nD τ).loc main_arg0)) (m ((c : Thread nD τ).loc main_arg1)) (m ((c : Thread nD τ).loc main_arg2)) (m ((c : Thread nD τ).loc main_arg5)) := by
  refine (dats m 0 c).arrAt_eq_of_covers 11 _ (by decide +kernel) fun t hf y => ?_
  blk_simp
  rw [after0_11, place11]
  refine (congrArg _ (eq_ix2 y)).trans ((k_fin m c t (y 0) (y 1)).trans ?_)
  exact (Cert.InpRefRead.k_apply _ _ _ _ _ _).symm

/-- The block of the keys in the narrow type a grid point writes, placed. -/
theorem place12 (t : Fin cfg0.N) (y : S512x1024.Idx) : ((cfg0.win 12).blk t).view.emb y = ix2 (row t (y 0)) (y 1) := by
  blk_ext [idx t, row]

/-- The kernel's keys in the narrow type are the reference's value of the arguments. -/
theorem final12 (c : Dev nD) : (dats m 0 c).arrAt 12 cfg0.N = Cert.InpRefIdeal.Read.val_main_v64 (F := Ideal)
    (m ((c : Thread nD τ).loc main_arg0)) (m ((c : Thread nD τ).loc main_arg1)) (m ((c : Thread nD τ).loc main_arg2)) (m ((c : Thread nD τ).loc main_arg5)) := by
  refine (dats m 0 c).arrAt_eq_of_covers 12 _ (by decide +kernel) fun t hf y => ?_
  blk_simp
  rw [after0_12, place12]
  refine (congrArg _ (eq_ix2 y)).trans ((b_fin m c t (y 0) (y 1)).trans ?_)
  exact (Cert.InpRefRead.k_apply _ _ _ _ _ _).symm

/-- The block of the values a grid point writes, placed. -/
theorem place13 (t : Fin cfg0.N) (y : S512x1024.Idx) : ((cfg0.win 13).blk t).view.emb y = ix2 (row t (y 0)) (y 1) := by
  blk_ext [idx t, row]

/-- The kernel's values are the reference's value of the arguments. -/
theorem final13 (c : Dev nD) : (dats m 0 c).arrAt 13 cfg0.N = Cert.InpRefIdeal.Read.val_main_v45 (F := Ideal)
    (m ((c : Thread nD τ).loc main_arg0)) (m ((c : Thread nD τ).loc main_arg1)) (m ((c : Thread nD τ).loc main_arg2)) := by
  refine (dats m 0 c).arrAt_eq_of_covers 13 _ (by decide +kernel) fun t hf y => ?_
  blk_simp
  rw [after0_13, place13]
  refine (congrArg _ (eq_ix2 y)).trans ((v_fin m c t (y 0) (y 1)).trans ?_)
  exact (Cert.InpRefRead.v_apply _ _ _ _ _).symm

/-- The block of the values in the narrow type a grid point writes, placed. -/
theorem place14 (t : Fin cfg0.N) (y : S512x1024.Idx) : ((cfg0.win 14).blk t).view.emb y = ix2 (row t (y 0)) (y 1) := by
  blk_ext [idx t, row]

/-- The kernel's values in the narrow type are the reference's value of the arguments. -/
theorem final14 (c : Dev nD) : (dats m 0 c).arrAt 14 cfg0.N = Cert.InpRefIdeal.Read.val_main_v65 (F := Ideal)
    (m ((c : Thread nD τ).loc main_arg0)) (m ((c : Thread nD τ).loc main_arg1)) (m ((c : Thread nD τ).loc main_arg2)) := by
  refine (dats m 0 c).arrAt_eq_of_covers 14 _ (by decide +kernel) fun t hf y => ?_
  blk_simp
  rw [after0_14, place14]
  refine (congrArg _ (eq_ix2 y)).trans ((w_fin m c t (y 0) (y 1)).trans ?_)
  exact (Cert.InpRefRead.v_apply _ _ _ _ _).symm

/-- The block of the state-space inputs a grid point writes, placed. -/
theorem place15 (t : Fin cfg0.N) (y : S512x1024.Idx) : ((cfg0.win 15).blk t).view.emb y = ix2 (row t (y 0)) (y 1) := by
  blk_ext [idx t, row]

/-- The kernel's state-space inputs are the reference's value of the arguments. -/
theorem final15 (c : Dev nD) : (dats m 0 c).arrAt 15 cfg0.N = Cert.InpRefIdeal.Read.val_main_v47 (F := Ideal)
    (m ((c : Thread nD τ).loc main_arg0)) (m ((c : Thread nD τ).loc main_arg1)) (m ((c : Thread nD τ).loc main_arg2)) := by
  refine (dats m 0 c).arrAt_eq_of_covers 15 _ (by decide +kernel) fun t hf y => ?_
  blk_simp
  rw [after0_15, place15]
  refine (congrArg _ (eq_ix2 y)).trans ((u_fin m c t (y 0) (y 1)).trans ?_)
  exact (Cert.InpRefRead.u_apply _ _ _ _ _).symm

/-- The block of the gates' logarithms a grid point writes, placed. -/
theorem place16 (t : Fin cfg0.N) (y : S512x128.Idx) : ((cfg0.win 16).blk t).view.emb y = ix2 (row t (y 0)) (y 1) := by
  blk_ext [idx t, row]

/-- The kernel's gates' logarithms are the reference's value of the arguments. -/
theorem final16 (c : Dev nD) : (dats m 0 c).arrAt 16 cfg0.N = Cert.InpRefIdeal.Read.val_main_v52 (F := Ideal)
    (m ((c : Thread nD τ).loc main_arg0)) (m ((c : Thread nD τ).loc main_arg1)) (m ((c : Thread nD τ).loc main_arg2)) (m ((c : Thread nD τ).loc main_arg3)) := by
  refine (dats m 0 c).arrAt_eq_of_covers 16 _ (by decide +kernel) fun t hf y => ?_
  blk_simp
  rw [after0_16, place16]
  refine (congrArg _ (eq_ix2 y)).trans ((l_fin m c t (y 0) (y 1)).trans ?_)
  exact (Cert.InpRefRead.lf_apply _ _ _ _ (row t (y 0)) (y 1)).symm

/-- The block of the gates' running sums a grid point writes, placed. -/
theorem place17 (t : Fin cfg0.N) (y : S512x128.Idx) : ((cfg0.win 17).blk t).view.emb y = ix2 (row t (y 0)) (y 1) := by
  blk_ext [idx t, row]

/-- The kernel's gates' running sums are the reference's value of the arguments. -/
theorem final17 (c : Dev nD) : (dats m 0 c).arrAt 17 cfg0.N = Cert.InpRefIdeal.Read.val_main_v55 (F := Ideal)
    (m ((c : Thread nD τ).loc main_arg0)) (m ((c : Thread nD τ).loc main_arg1)) (m ((c : Thread nD τ).loc main_arg2)) (m ((c : Thread nD τ).loc main_arg3)) := by
  refine (dats m 0 c).arrAt_eq_of_covers 17 _ (by decide +kernel) fun t hf y => ?_
  blk_simp
  rw [after0_17, place17]
  refine (congrArg _ (eq_ix2 y)).trans ((sums m c t (y 0) (y 1)).trans ?_)
  refine Eq.trans ?_ (Cert.InpRefRead.c_apply _ _ _ _ _ _).symm
  have hy : (y 0).val < 512 := (y 0).isLt
  show pre _ _ _ _ _ (t.val / 4) (512 * (t.val % 4) + ((y 0).val + 1)) = pre _ _ _ _ _ ((t.val * 512 + (y 0).val) / 2048) ((t.val * 512 + (y 0).val) % 2048 + 1)
  rw [show (t.val * 512 + (y 0).val) / 2048 = t.val / 4 by omega, show (t.val * 512 + (y 0).val) % 2048 + 1 = 512 * (t.val % 4) + ((y 0).val + 1) by omega]

/-- The reference runs and leaves its arguments. -/
theorem frame_ref : Cert.quiescent_InpRefIdeal := fun m ρ _ =>
  (θ_run Cert.InpRefIdeal.defs _ _).mono (fun r h => ⟨fun c => ⟨(h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2⟩,
      Idealize.ShloMosaic.sem_eq_zero_of_no_sems (by decide) r.2⟩)
    (Cert.InpRefIdeal.Value.run (F := Ideal) m ρ)

/-- The queries' scale is the literal's exact value. -/
theorem preserves : Cert.preserves_Inp_InpIdeal :=
  IdealRules.named_const.statement Cert.InpIdeal.κ "q_scale" .f32 0x3E0293EE#32 (((Real.sqrt 128)⁻¹ * (Real.log 2)⁻¹ : ℝ) : EReal) rfl

/-- The kernel's results are the reference's, on every argument. -/
theorem algebraic : Cert.algebraic_InpIdeal_InpRefIdeal := by
  intro m ρ m' ρ' _ hagree
  refine ⟨fun c => Cert.InpRefIdeal.Read.val_main_v63 (F := Ideal) (m ((c : Thread nD τ).loc main_arg0)) (m ((c : Thread nD τ).loc main_arg1)) (m ((c : Thread nD τ).loc main_arg2)) (m ((c : Thread nD τ).loc main_arg4)),
    fun c => Cert.InpRefIdeal.Read.val_main_v44 (F := Ideal) (m ((c : Thread nD τ).loc main_arg0)) (m ((c : Thread nD τ).loc main_arg1)) (m ((c : Thread nD τ).loc main_arg2)) (m ((c : Thread nD τ).loc main_arg5)),
    fun c => Cert.InpRefIdeal.Read.val_main_v64 (F := Ideal) (m ((c : Thread nD τ).loc main_arg0)) (m ((c : Thread nD τ).loc main_arg1)) (m ((c : Thread nD τ).loc main_arg2)) (m ((c : Thread nD τ).loc main_arg5)),
    fun c => Cert.InpRefIdeal.Read.val_main_v45 (F := Ideal) (m ((c : Thread nD τ).loc main_arg0)) (m ((c : Thread nD τ).loc main_arg1)) (m ((c : Thread nD τ).loc main_arg2)),
    fun c => Cert.InpRefIdeal.Read.val_main_v65 (F := Ideal) (m ((c : Thread nD τ).loc main_arg0)) (m ((c : Thread nD τ).loc main_arg1)) (m ((c : Thread nD τ).loc main_arg2)),
    fun c => Cert.InpRefIdeal.Read.val_main_v47 (F := Ideal) (m ((c : Thread nD τ).loc main_arg0)) (m ((c : Thread nD τ).loc main_arg1)) (m ((c : Thread nD τ).loc main_arg2)),
    fun c => Cert.InpRefIdeal.Read.val_main_v52 (F := Ideal) (m ((c : Thread nD τ).loc main_arg0)) (m ((c : Thread nD τ).loc main_arg1)) (m ((c : Thread nD τ).loc main_arg2)) (m ((c : Thread nD τ).loc main_arg3)),
    fun c => Cert.InpRefIdeal.Read.val_main_v55 (F := Ideal) (m ((c : Thread nD τ).loc main_arg0)) (m ((c : Thread nD τ).loc main_arg1)) (m ((c : Thread nD τ).loc main_arg2)) (m ((c : Thread nD τ).loc main_arg3)), ?_, ?_⟩
  · exact (θ_run Cert.InpIdeal.defs _ _).mono (fun _ h c => ⟨(h c).1.trans (final10 m c), (h c).2.1.trans (final11 m c), (h c).2.2.1.trans (final12 m c), (h c).2.2.2.1.trans (final13 m c), (h c).2.2.2.2.1.trans (final14 m c), (h c).2.2.2.2.2.1.trans (final15 m c), (h c).2.2.2.2.2.2.1.trans (final16 m c), (h c).2.2.2.2.2.2.2.1.trans (final17 m c), (h c).2.2.2.2.2.2.2.2⟩)
      (Cert.InpIdeal.Value.run_blocks (F := Ideal) m ρ)
  · refine (θ_run Cert.InpRefIdeal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2⟩) (Cert.InpRefIdeal.Value.run (F := Ideal) m' ρ')
    · refine (Cert.InpRefIdeal.Read.val_main_v63_eq _ _ _ _).trans ?_
      rw [(hagree c).1, (hagree c).2.1, (hagree c).2.2.1, (hagree c).2.2.2.2.1]
    · refine (Cert.InpRefIdeal.Read.val_main_v44_eq _ _ _ _).trans ?_
      rw [(hagree c).1, (hagree c).2.1, (hagree c).2.2.1, (hagree c).2.2.2.2.2]
    · refine (Cert.InpRefIdeal.Read.val_main_v64_eq _ _ _ _).trans ?_
      rw [(hagree c).1, (hagree c).2.1, (hagree c).2.2.1, (hagree c).2.2.2.2.2]
    · refine (Cert.InpRefIdeal.Read.val_main_v45_eq _ _ _).trans ?_
      rw [(hagree c).1, (hagree c).2.1, (hagree c).2.2.1]
    · refine (Cert.InpRefIdeal.Read.val_main_v65_eq _ _ _).trans ?_
      rw [(hagree c).1, (hagree c).2.1, (hagree c).2.2.1]
    · refine (Cert.InpRefIdeal.Read.val_main_v47_eq _ _ _).trans ?_
      rw [(hagree c).1, (hagree c).2.1, (hagree c).2.2.1]
    · refine (Cert.InpRefIdeal.Read.val_main_v52_eq m' c).trans ?_
      rw [(hagree c).1, (hagree c).2.1, (hagree c).2.2.1, (hagree c).2.2.2.1]
    · refine (Cert.InpRefIdeal.Read.val_main_v55_eq m' c).trans ?_
      rw [(hagree c).1, (hagree c).2.1, (hagree c).2.2.1, (hagree c).2.2.2.1]

end Cert.InpClaim

end
-- ==== Proof.PoolSum.lean ====
/- Windows of a sequence: doubled sums, differences of running sums, and that a normalised row is finite. -/
module

public import Idealize.ShloMosaic.Lib.Pointwise

@[expose] public section

noncomputable section

namespace Cert.PoolTile

open Idealize.ShloMosaic

/-- The sum of the `w` terms ending at `j`. -/
def Wn (w : ℕ) (g : ℕ → EReal) (j : ℕ) : EReal := ∑ k ∈ Finset.range w, g (j - k)

/-- A window of two terms. -/
theorem two (g : ℕ → EReal) (j : ℕ) : g j + g (j - 1) = Wn 2 g j := by
  simp [Wn, Finset.sum_range_succ]

/-- Two windows side by side are one of twice the width. -/
theorem dbl (w : ℕ) (g : ℕ → EReal) (j : ℕ) : Wn w g j + Wn w g (j - w) = Wn (w + w) g j := by
  simp only [Wn, Finset.sum_range_add, Nat.sub_sub]

/-- A finite sum of numbers is a number. -/
theorem sum_real (g : ℕ → EReal) (hg : ∀ i, ∃ a : ℝ, g i = a) (n : ℕ) : ∃ a : ℝ, ∑ i ∈ Finset.range n, g i = a := by
  induction n with
  | zero => exact ⟨0, by simp⟩
  | succ n ih =>
    obtain ⟨a, ha⟩ := ih
    obtain ⟨b, hb⟩ := hg n
    exact ⟨a + b, by rw [Finset.sum_range_succ, ha, hb, EReal.coe_add]⟩

/-- The difference of two running sums of numbers is the window between them. -/
theorem diff (g : ℕ → EReal) (hg : ∀ i, ∃ a : ℝ, g i = a) (n w : ℕ) :
    ∑ i ∈ Finset.range (n + w), g i - ∑ i ∈ Finset.range n, g i = Wn w g (n + w - 1) := by
  obtain ⟨a, ha⟩ := sum_real g hg n
  rw [Finset.sum_range_add, ha, add_comm, EReal.add_sub_cancel_right, ← Finset.sum_range_reflect]
  exact Finset.sum_congr rfl fun k hk => congrArg g (by have := Finset.mem_range.1 hk; omega)

/-- One entry of a row normalised by its root mean square: the row, the entry's column, its weight. -/
def nrm (x : Fin 2048 → EReal) (l : Fin 2048) (w : EReal) : EReal :=
  x l * Ideal.rsqrt (Ideal.div (∑ k : Fin 2048, x k * x k) (Ideal.ofBits .f32 0x45000000#32) + Ideal.ofBits .f32 0x358637BD#32) * w

theorem sq_nonneg' (a : EReal) : 0 ≤ a * a := by
  induction a with
  | bot => simp
  | top => simp
  | coe a => rw [← EReal.coe_mul]; exact_mod_cast mul_self_nonneg a

theorem eps_real : ∃ e : ℝ, 0 < e ∧ Ideal.ofBits .f32 0x358637BD#32 = e := by
  refine ⟨_, ?_, by simp [Ideal.ofBits, Ideal.ieee]; rfl⟩
  norm_num
theorem dim_real : Ideal.ofBits .f32 0x45000000#32 = ((2048 : ℝ) : EReal) := by
  simp [Ideal.ofBits, Ideal.ieee]
  rw [← EReal.coe_mul]
  norm_num

/-- A normalised entry is a number whatever the row, if its weight is. -/
theorem nrm_real (x : Fin 2048 → EReal) (l : Fin 2048) (w : ℝ) : ∃ a : ℝ, nrm x l w = a := by
  unfold nrm
  obtain ⟨e, he, hE⟩ := eps_real
  rw [hE, dim_real]
  have hn : (0 : EReal) ≤ ∑ k : Fin 2048, x k * x k := Finset.sum_nonneg fun k _ => sq_nonneg' (x k)
  have hl : x l * x l ≤ ∑ k : Fin 2048, x k * x k :=
    Finset.single_le_sum (f := fun k => x k * x k) (fun k _ => sq_nonneg' (x k)) (Finset.mem_univ l)
  generalize (∑ k : Fin 2048, x k * x k) = S at hn hl
  have h2 : ((2048 : ℝ) : EReal) ≠ 0 := by exact_mod_cast (by norm_num : (2048 : ℝ) ≠ 0)
  unfold Ideal.div
  rw [if_neg h2, ← EReal.coe_inv]
  induction S with
  | bot => exact absurd hn (by simp)
  | top =>
    refine ⟨0, ?_⟩
    rw [EReal.top_mul_coe_of_pos (by norm_num), EReal.top_add_coe]
    rw [show Ideal.rsqrt ⊤ = 0 from rfl, mul_zero, zero_mul]
    rfl
  | coe s =>
    have hs : (0 : ℝ) ≤ s := by exact_mod_cast hn
    rw [← EReal.coe_mul, ← EReal.coe_add]
    have hp : 0 < s * (2048 : ℝ)⁻¹ + e := by positivity
    have hr : Ideal.rsqrt ((s * (2048 : ℝ)⁻¹ + e : ℝ) : EReal) = (((Real.sqrt (s * (2048 : ℝ)⁻¹ + e))⁻¹ : ℝ) : EReal) := by
      show (if s * (2048 : ℝ)⁻¹ + e < 0 then (⊥ : EReal) else if s * (2048 : ℝ)⁻¹ + e = 0 then ⊤ else _) = _
      rw [if_neg (not_lt.2 hp.le), if_neg hp.ne']
    rw [hr]
    generalize x l = a at hl
    induction a with
    | bot => exact absurd hl (by simp)
    | top => exact absurd hl (by simp)
    | coe a => exact ⟨_, by rw [← EReal.coe_mul, ← EReal.coe_mul]⟩

/-- A sum shared out: times the count's inverse. -/
theorem share (x n : EReal) (hn : n ≠ 0) : x * Ideal.div 1 n = Ideal.div x n := by
  unfold Ideal.div
  rw [if_neg hn, if_neg hn, one_mul]

/-- The word of the literal one. -/
theorem one : Ideal.ofBits .f32 0x3F800000#32 = 1 := by
  simp [Ideal.ofBits, Ideal.ieee]
  rw [← EReal.coe_mul]
  norm_num

end Cert.PoolTile

end
-- ==== Proof.PoolTile.lean ====
/- The pooling mixer's body. -/
module

public import proofs.«01_k».proof.Proof.Gen.PoolIdeal.Value
public import proofs.«01_k».proof.Proof.PoolSum
public import Idealize.ShloMosaic.Lib.Pointwise
public import Idealize.ShloMosaic.Lib.Pipeline.ValueKit
public import Idealize.ShloMosaic.Lib.Pipeline.ReadBack

@[expose] public section

noncomputable section

namespace Cert.PoolTile

open Cert.PoolIdeal Cert.PoolIdeal.Gen Idealize.ShloMosaic Idealize.ShloMosaic.TcCoe Idealize.SL.Sem

theorem pay5_apply (x : Vec Ideal S512x2048 .f32) (w : Vec Ideal S1x2048 .f32) (r : Fin 512) (l : Fin 2048) :
    k0_pay5 x w (ix2 r l) = nrm (fun k => x (ix2 r k)) l (w (ix2 0 l)) := by
  pointwise [k0_pay5]
  simp only [nrm]
theorem pay6_eq (x : Vec Ideal S512x2048 .f32) (w : Vec Ideal S1x2048 .f32) : k0_pay6 x w = k0_pay5 x w := by
  unfold k0_pay6
  exact shapeCast_self _ _
theorem pay3_eq (x : Vec Ideal S32x2048 .f32) : k0_pay3 x = x := by
  unfold k0_pay3
  exact shapeCast_self _ _
theorem pay2_apply (x : Vec Ideal S15x2048 .f32) (r : Fin 15) (l : Fin 2048) : k0_pay2 x (ix3 0 r l) = x (ix2 r l) := by
  pointwise [k0_pay2]
theorem pay4_apply (r : Fin 32) (l : Fin 2048) : k0_pay4 (F := Ideal) (ix2 r l) = (0 : EReal) := by
  pointwise [k0_pay4]
theorem pay9_apply (x y : Vec Ideal S536x512 .f32) (r : Fin 536) (l : Fin 512) : k0_pay9 x y (ix3 0 r l) = (x (ix2 r l) : EReal) + y (ix2 r l) := by
  pointwise [k0_pay9]
theorem pay12_apply (x y : Vec Ideal S536x512 .f32) (r : Fin 536) (l : Fin 512) : k0_pay12 x y (ix3 0 r l) = (x (ix2 r l) : EReal) + y (ix2 r l) := by
  pointwise [k0_pay12]
theorem pay16_apply (x y : Vec Ideal S536x512 .f32) (r : Fin 536) (l : Fin 512) : k0_pay16 x y (ix3 0 r l) = (x (ix2 r l) : EReal) + y (ix2 r l) := by
  pointwise [k0_pay16]
theorem pay14_apply (x y : Vec Ideal S1x528x512 .f32) (r : Fin 528) (l : Fin 512) : k0_pay14 (k0_pay13 x) y (ix3 0 r l) = (x (ix3 0 r l) : EReal) + y (ix3 0 r l) := by
  pointwise [k0_pay14, k0_pay13]
theorem pay17_apply (x y : Vec Ideal S1x528x512 .f32) (r : Fin 528) (l : Fin 512) : k0_pay17 x y (ix3 0 r l) = (x (ix3 0 r l) : EReal) + y (ix3 0 r l) := by
  pointwise [k0_pay17]
theorem pay18_apply (x y : Vec Ideal S1x520x512 .f32) (r : Fin 520) (l : Fin 512) : k0_pay18 x y (ix3 0 r l) = (x (ix3 0 r l) : EReal) + y (ix3 0 r l) := by
  pointwise [k0_pay18]
theorem pay19_apply (x y : Vec Ideal S1x512x512 .f32) (r : Fin 512) (l : Fin 512) : k0_pay19 x y (ix2 r l) = (x (ix3 0 r l) : EReal) + y (ix3 0 r l) := by
  pointwise [k0_pay19]

/-- The count of terms a window of width `w` has at a position. -/
def cnt (w : BitVec 32) (p : BitVec 32) : EReal := FloatOps.sitofp (F := Ideal) .f32 (IntOp.minsi (IntOp.addi p 1#32) w)

/-- The mixed entry: the row's, and the pooled group's product with a column of weights, scaled. -/
def res (x : EReal) (win h : Fin 512 → EReal) (n : EReal) (w : Fin 512 → EReal) (s : EReal) : EReal :=
  x + (∑ k : Fin 512, (win k * Ideal.div 1 n - h k) * w k) * s

/-- Column `k` of group `g`. -/
def gc (g : Fin 4) (k : Fin 512) : Fin 2048 := ⟨512 * g.val + k.val, by omega⟩

theorem coord : ∀ t : Fin grid0.N, k0_pay7 (grid0.coords t) (ix2 0 0) = BitVec.ofNat 32 (t.val % 4 * 512) := by decide +kernel

theorem pay7_apply (t : Fin grid0.N) (r : Fin 512) : k0_pay7 (grid0.coords t) (ix2 r 0) = BitVec.ofNat 32 (t.val % 4 * 512 + r.val) := by
  have h := coord t
  revert h
  pointwise [k0_pay7]
  intro h
  rw [BitVec.ofNat_add, ← h]
  simp [IntOp.addi]

theorem pay8_apply (x h : Vec Ideal S512x2048 .f32) (p : IVec S512x1 32) (a b : Vec Ideal S536x512 .f32) (w : Vec Ideal S1x512x512 .bf16) (s : Vec Ideal S1x512 .f32)
    (r : Fin 512) (l : Fin 512) : k0_pay8 x h p a b w s (ix2 r l) = res (x (ix2 r (gc 0 l)))
      (fun k => (a (ix2 ⟨24 + r.val, by omega⟩ k) : EReal) + b (ix2 ⟨24 + r.val, by omega⟩ k)) (fun k => h (ix2 r (gc 0 k))) (cnt 2#32 (p (ix2 r 0)))
      (fun k => w (ix3 0 k l)) (s (ix2 0 l)) := by
  pointwise [k0_pay8]
  simp only [res, gc, cnt, one, Fin.val_zero, Nat.mul_zero, Nat.zero_add]
theorem pay11_apply (x h : Vec Ideal S512x2048 .f32) (p : IVec S512x1 32) (a b : Vec Ideal S1x528x512 .f32) (w : Vec Ideal S1x512x512 .bf16) (s : Vec Ideal S1x512 .f32)
    (r : Fin 512) (l : Fin 512) : k0_pay11 x h p (k0_pay10 a) b w s (ix2 r l) = res (x (ix2 r (gc 1 l)))
      (fun k => (a (ix3 0 ⟨16 + r.val, by omega⟩ k) : EReal) + b (ix3 0 ⟨16 + r.val, by omega⟩ k)) (fun k => h (ix2 r (gc 1 k))) (cnt 4#32 (p (ix2 r 0)))
      (fun k => w (ix3 0 k l)) (s (ix2 0 l)) := by
  pointwise [k0_pay11, k0_pay10]
  simp only [res, gc, cnt, one]
  rfl
theorem pay15_apply (x h : Vec Ideal S512x2048 .f32) (p : IVec S512x1 32) (a b : Vec Ideal S1x520x512 .f32) (w : Vec Ideal S1x512x512 .bf16) (s : Vec Ideal S1x512 .f32)
    (r : Fin 512) (l : Fin 512) : k0_pay15 x h p a b w s (ix2 r l) = res (x (ix2 r (gc 2 l)))
      (fun k => (a (ix3 0 ⟨8 + r.val, by omega⟩ k) : EReal) + b (ix3 0 ⟨8 + r.val, by omega⟩ k)) (fun k => h (ix2 r (gc 2 k))) (cnt 8#32 (p (ix2 r 0)))
      (fun k => w (ix3 0 k l)) (s (ix2 0 l)) := by
  pointwise [k0_pay15]
  simp only [res, gc, cnt, one]
  rfl
theorem pay1_apply (x h : Vec Ideal S512x2048 .f32) (p : IVec S512x1 32) (a : Vec Ideal S512x512 .f32) (w : Vec Ideal S1x512x512 .bf16) (s : Vec Ideal S1x512 .f32)
    (r : Fin 512) (l : Fin 512) : k0_pay1 x h a (k0_pay20 p) w s (ix2 r l) = res (x (ix2 r (gc 3 l)))
      (fun k => a (ix2 r k)) (fun k => h (ix2 r (gc 3 k))) (cnt 16#32 (p (ix2 r 0)))
      (fun k => w (ix3 0 k l)) (s (ix2 0 l)) := by
  pointwise [k0_pay1, k0_pay20]
  simp only [res, gc, cnt, one]
  rfl

/-- How a rectangle of the extended rows is read. -/
abbrev Ld := (r : Rect S544x2048) → Vec Ideal r.shape .f32

/-- A read of the levels' scratch after a list of stores. -/
abbrev rd (L : List (View.Piece (Elt Ideal) S3x544x512 .f32)) (r : Rect S3x544x512) : Vec Ideal r.shape .f32 :=
  (View.whole cc0_scratch1).readCov L r.toLoadRect

section
variable (E : Ld)

/-- The stores into the levels' scratch, group by group and level by level, the last first. -/
def L1 : List (View.Piece (Elt Ideal) S3x544x512 .f32) := [⟨Rect.unit ![0, 8, 0] ![1, 536, 512] inb_S3x544x512_S1x536x512_0_8_0,
  k0_pay9 (E (Rect.unit ![8, 512] ![536, 512] inb_S544x2048_S536x512_8_512)) (E (Rect.unit ![7, 512] ![536, 512] inb_S544x2048_S536x512_7_512))⟩]
def L2 : List (View.Piece (Elt Ideal) S3x544x512 .f32) := ⟨Rect.unit ![0, 8, 0] ![1, 536, 512] inb_S3x544x512_S1x536x512_0_8_0,
  k0_pay12 (E (Rect.unit ![8, 1024] ![536, 512] inb_S544x2048_S536x512_8_1024)) (E (Rect.unit ![7, 1024] ![536, 512] inb_S544x2048_S536x512_7_1024))⟩ :: L1 E
def L3 : List (View.Piece (Elt Ideal) S3x544x512 .f32) := ⟨Rect.unit ![1, 16, 0] ![1, 528, 512] inb_S3x544x512_S1x528x512_1_16_0,
  k0_pay14 (k0_pay13 (rd (L2 E) (Rect.unit ![0, 16, 0] ![1, 528, 512] inb_S3x544x512_S1x528x512_0_16_0)))
    (rd (L2 E) (Rect.unit ![0, 14, 0] ![1, 528, 512] inb_S3x544x512_S1x528x512_0_14_0))⟩ :: L2 E
def L4 : List (View.Piece (Elt Ideal) S3x544x512 .f32) := ⟨Rect.unit ![0, 8, 0] ![1, 536, 512] inb_S3x544x512_S1x536x512_0_8_0,
  k0_pay16 (E (Rect.unit ![8, 1536] ![536, 512] inb_S544x2048_S536x512_8_1536)) (E (Rect.unit ![7, 1536] ![536, 512] inb_S544x2048_S536x512_7_1536))⟩ :: L3 E
def L5 : List (View.Piece (Elt Ideal) S3x544x512 .f32) := ⟨Rect.unit ![1, 16, 0] ![1, 528, 512] inb_S3x544x512_S1x528x512_1_16_0,
  k0_pay17 (rd (L4 E) (Rect.unit ![0, 16, 0] ![1, 528, 512] inb_S3x544x512_S1x528x512_0_16_0))
    (rd (L4 E) (Rect.unit ![0, 14, 0] ![1, 528, 512] inb_S3x544x512_S1x528x512_0_14_0))⟩ :: L4 E
def L6 : List (View.Piece (Elt Ideal) S3x544x512 .f32) := ⟨Rect.unit ![2, 24, 0] ![1, 520, 512] inb_S3x544x512_S1x520x512_2_24_0,
  k0_pay18 (rd (L5 E) (Rect.unit ![1, 24, 0] ![1, 520, 512] inb_S3x544x512_S1x520x512_1_24_0))
    (rd (L5 E) (Rect.unit ![1, 20, 0] ![1, 520, 512] inb_S3x544x512_S1x520x512_1_20_0))⟩ :: L5 E

variable (x0 : Vec Ideal S512x2048 .f32) (h : Vec Ideal S512x2048 .f32) (p : IVec S512x1 32) (x2 : Vec Ideal S4x512x512 .bf16) (x3 : Vec Ideal S1x2048 .f32)

/-- The four groups' pieces of the output block. -/
def g0 : Vec Ideal S512x512 .f32 := k0_pay8 x0 h p (E (Rect.unit ![8, 0] ![536, 512] inb_S544x2048_S536x512_8_0)) (E (Rect.unit ![7, 0] ![536, 512] inb_S544x2048_S536x512_7_0))
  (View.ld x2 (Rect.unit ![0, 0, 0] ![1, 512, 512] inb_S4x512x512_S1x512x512_0_0_0)) (View.ld x3 (Rect.unit ![0, 0] ![1, 512] inb_S1x2048_S1x512_0_0))
def g1 : Vec Ideal S512x512 .f32 := k0_pay11 x0 h p
  (k0_pay10 (rd (L1 E) (Rect.unit ![0, 16, 0] ![1, 528, 512] inb_S3x544x512_S1x528x512_0_16_0)))
  (rd (L1 E) (Rect.unit ![0, 14, 0] ![1, 528, 512] inb_S3x544x512_S1x528x512_0_14_0))
  (View.ld x2 (Rect.unit ![1, 0, 0] ![1, 512, 512] inb_S4x512x512_S1x512x512_1_0_0)) (View.ld x3 (Rect.unit ![0, 512] ![1, 512] inb_S1x2048_S1x512_0_512))
def g2 : Vec Ideal S512x512 .f32 := k0_pay15 x0 h p
  (rd (L3 E) (Rect.unit ![1, 24, 0] ![1, 520, 512] inb_S3x544x512_S1x520x512_1_24_0))
  (rd (L3 E) (Rect.unit ![1, 20, 0] ![1, 520, 512] inb_S3x544x512_S1x520x512_1_20_0))
  (View.ld x2 (Rect.unit ![2, 0, 0] ![1, 512, 512] inb_S4x512x512_S1x512x512_2_0_0)) (View.ld x3 (Rect.unit ![0, 1024] ![1, 512] inb_S1x2048_S1x512_0_1024))
def g3 : Vec Ideal S512x512 .f32 := k0_pay1 x0 h
  (k0_pay19 (rd (L6 E) (Rect.unit ![2, 32, 0] ![1, 512, 512] inb_S3x544x512_S1x512x512_2_32_0))
    (rd (L6 E) (Rect.unit ![2, 24, 0] ![1, 512, 512] inb_S3x544x512_S1x512x512_2_24_0))) (k0_pay20 p)
  (View.ld x2 (Rect.unit ![3, 0, 0] ![1, 512, 512] inb_S4x512x512_S1x512x512_3_0_0)) (View.ld x3 (Rect.unit ![0, 1536] ![1, 512] inb_S1x2048_S1x512_0_1536))

def body : Vec Ideal S512x2048 .f32 := View.canon [⟨Rect.unit ![0, 1536] ![512, 512] inb_S512x2048_S512x512_0_1536, g3 E x0 h p x2 x3⟩,
  ⟨Rect.unit ![0, 1024] ![512, 512] inb_S512x2048_S512x512_0_1024, g2 E x0 h p x2 x3⟩,
  ⟨Rect.unit ![0, 512] ![512, 512] inb_S512x2048_S512x512_0_512, g1 E x0 h p x2 x3⟩,
  ⟨Rect.unit ![0, 0] ![512, 512] inb_S512x2048_S512x512_0_0, g0 E x0 h p x2 x3⟩]

end

variable (m : (ℓ : Loc nD τ sig) → Buf (Elt Ideal) ℓ) (c : Dev nD)

/-- The stores into the extended rows at a sequence's first point, and at the others. -/
def XA (h : Vec Ideal S512x2048 .f32) : List (View.Piece (Elt Ideal) S544x2048 .f32) :=
  [⟨Rect.unit ![32, 0] ![512, 2048] inb_S544x2048_S512x2048_32_0, h⟩, ⟨Rect.unit ![0, 0] ![32, 2048] inb_S544x2048_S32x2048_0_0, k0_pay4 (F := Ideal)⟩]
def XB (h : Vec Ideal S512x2048 .f32) (prev : Vec Ideal S544x2048 .f32) : Vec Ideal S544x2048 .f32 :=
  (View.whole cc0_scratch0).read (Elt Ideal) ((View.whole cc0_scratch0).writes (Elt Ideal) ((Memref.isWhole_whole cc0_scratch0).unread prev)
    [⟨Rect.unit ![32, 0] ![512, 2048] inb_S544x2048_S512x2048_32_0, h⟩])

theorem out_A (t : Fin cfg0.N) (h0 : t.val % 4 = 0) : (outsAt0 m c t.val t.isLt).1
    = body (fun r => (View.whole cc0_scratch0).readCov (XA (k0_pay6 (iblk m c 0 t) (iblk m c 1 t))) r.toLoadRect) (iblk m c 0 t)
        (k0_pay5 (iblk m c 0 t) (iblk m c 1 t)) (k0_pay7 (grid0.coords t)) (iblk m c 2 t) (iblk m c 3 t) := by
  rw [outsAt0_A m c t h0]
  frame_out
  rfl
theorem out_B (t : Fin cfg0.N) (h0 : ¬ t.val % 4 = 0) (hb : t.val - 1 < cfg0.N) : (outsAt0 m c t.val t.isLt).1
    = body (View.ld (XB (k0_pay6 (iblk m c 0 t) (iblk m c 1 t)) (outsAt0 m c (t.val - 1) hb).2.2)) (iblk m c 0 t)
        (k0_pay5 (iblk m c 0 t) (iblk m c 1 t)) (k0_pay7 (grid0.coords t)) (iblk m c 2 t) (iblk m c 3 t) := by
  rw [outsAt0_B m c t h0]
  frame_out
  rfl
theorem st_A (t : Fin cfg0.N) (h0 : t.val % 4 = 0) : (outsAt0 m c t.val t.isLt).2.1
    = k0_pay2 ((View.whole cc0_scratch0).readCov (XA (k0_pay6 (iblk m c 0 t) (iblk m c 1 t))) (Rect.unit ![529, 0] ![15, 2048] inb_S544x2048_S15x2048_529_0).toLoadRect) := by
  rw [outsAt0_A m c t h0]
  frame_out
  rfl
/-- The stores into the extended rows at a later point, up to the carried rows' own. -/
def XC (h : Vec Ideal S512x2048 .f32) : List (View.Piece (Elt Ideal) S544x2048 .f32) :=
  [⟨Rect.unit ![32, 0] ![512, 2048] inb_S544x2048_S512x2048_32_0, h⟩]
theorem st_B (t : Fin cfg0.N) (h0 : ¬ t.val % 4 = 0) : (outsAt0 m c t.val t.isLt).2.1
    = k0_pay2 ((View.whole cc0_scratch0).readCov (XC (k0_pay6 (iblk m c 0 t) (iblk m c 1 t))) (Rect.unit ![529, 0] ![15, 2048] inb_S544x2048_S15x2048_529_0).toLoadRect) := by
  rw [outsAt0_B m c t h0]
  frame_out
  rfl
theorem sc_A (t : Fin cfg0.N) (h0 : t.val % 4 = 0) : (outsAt0 m c t.val t.isLt).2.2
    = View.canon (⟨Rect.unit ![0, 0] ![32, 2048] inb_S544x2048_S32x2048_0_0, k0_pay3
        ((View.whole cc0_scratch0).readCov (XA (k0_pay6 (iblk m c 0 t) (iblk m c 1 t))) (Rect.unit ![512, 0] ![32, 2048] inb_S544x2048_S32x2048_512_0).toLoadRect)⟩
      :: XA (k0_pay6 (iblk m c 0 t) (iblk m c 1 t))) := by
  rw [outsAt0_A m c t h0]
  frame_out
  rfl
theorem sc_B (t : Fin cfg0.N) (h0 : ¬ t.val % 4 = 0) : (outsAt0 m c t.val t.isLt).2.2
    = View.canon (⟨Rect.unit ![0, 0] ![32, 2048] inb_S544x2048_S32x2048_0_0, k0_pay3
        ((View.whole cc0_scratch0).readCov (XC (k0_pay6 (iblk m c 0 t) (iblk m c 1 t))) (Rect.unit ![512, 0] ![32, 2048] inb_S544x2048_S32x2048_512_0).toLoadRect)⟩
      :: XC (k0_pay6 (iblk m c 0 t) (iblk m c 1 t))) := by
  rw [outsAt0_B m c t h0]
  frame_out
  rfl

end Cert.PoolTile

end
-- ==== Proof.PoolRows.lean ====
/- The pooling mixer's blocks, read at their entries. -/
module

public import proofs.«01_k».proof.Proof.PoolTile

@[expose] public section

noncomputable section

namespace Cert.PoolTile

open Cert.PoolIdeal Cert.PoolIdeal.Gen Idealize.ShloMosaic Idealize.ShloMosaic.TcCoe Idealize.SL.Sem

theorem two' (g : ℕ → EReal) (j i : ℕ) (h : i = j - 1) : g j + g i = Wn 2 g j := h ▸ two g j
theorem dbl' (w v : ℕ) (g : ℕ → EReal) (j i : ℕ) (h : i = j - w) (hv : v = w + w) : Wn w g j + Wn w g i = Wn v g j := by
  subst h hv; exact dbl w g j

/-- A list of stores read inside the last one's rectangle. -/
theorem hit {A B o c n k : ℕ} (inb : ∀ a, (![o, c] : Fin 2 → ℕ) a + (![n, k] : Fin 2 → ℕ) a ≤ (⟨2, ![A, B]⟩ : Shape).size a)
    (w : (⟨2, ![n, k]⟩ : Shape).Idx → Elt Ideal .f32) (L : List (View.Piece (Elt Ideal) ⟨2, ![A, B]⟩ .f32)) (r : Fin n) (l : Fin k) (a : Fin A) (b : Fin B)
    (ha : a.val = o + r.val) (hb : b.val = c + l.val) : View.canon (⟨Rect.unit (s := ⟨2, ![A, B]⟩) ![o, c] ![n, k] inb, w⟩ :: L) (ix2 a b) = w (ix2 r l) := by
  rw [show (ix2 a b : (⟨2, ![A, B]⟩ : Shape).Idx) = (Rect.unit (s := ⟨2, ![A, B]⟩) ![o, c] ![n, k] inb).emb (ix2 r l) from funext fun e => Fin.ext (by
    match e with
    | ⟨0, _⟩ => show a.val = o + 1 * r.val; omega
    | ⟨1, _⟩ => show b.val = c + 1 * l.val; omega)]
  exact View.canon_cons_emb _ _ _ _

/-- A list of stores read off the last one's rectangle. -/
theorem miss {A B o c n k : ℕ} (inb : ∀ a, (![o, c] : Fin 2 → ℕ) a + (![n, k] : Fin 2 → ℕ) a ≤ (⟨2, ![A, B]⟩ : Shape).size a)
    (w : (⟨2, ![n, k]⟩ : Shape).Idx → Elt Ideal .f32) (L : List (View.Piece (Elt Ideal) ⟨2, ![A, B]⟩ .f32)) (a : Fin A) (b : Fin B)
    (h : a.val < o ∨ b.val < c) : View.canon (⟨Rect.unit (s := ⟨2, ![A, B]⟩) ![o, c] ![n, k] inb, w⟩ :: L) (ix2 a b) = View.canon L (ix2 a b) := by
  refine View.canon_cons_of_not_mem _ _ ?_
  intro hm
  change ix2 a b ∈ (Rect.unit (s := ⟨2, ![A, B]⟩) ![o, c] ![n, k] inb).set at hm
  rw [Rect.mem_set_unit] at hm
  have h0 : o ≤ a.val := (hm 0).1
  have h1 : c ≤ b.val := (hm 1).1
  omega

/-- A level's rows read inside the last store's. -/
theorem rdH {A o q n n' : ℕ} (inb : ∀ a, (![A, q, 0] : Fin 3 → ℕ) a + (![1, n', 512] : Fin 3 → ℕ) a ≤ S3x544x512.size a)
    (inbB : ∀ a, (![A, o, 0] : Fin 3 → ℕ) a + (![1, n, 512] : Fin 3 → ℕ) a ≤ S3x544x512.size a)
    (w : (⟨3, ![1, n', 512]⟩ : Shape).Idx → Elt Ideal .f32) (L : List (View.Piece (Elt Ideal) S3x544x512 .f32)) (r : Fin n) (l : Fin 512) (x : Fin n')
    (h : o + r.val = q + x.val) : rd (⟨Rect.unit (s := S3x544x512) ![A, q, 0] ![1, n', 512] inb, w⟩ :: L) (Rect.unit (s := S3x544x512) ![A, o, 0] ![1, n, 512] inbB) (ix3 0 r l) = w (ix3 0 x l) := by
  unfold rd
  rw [View.readCov_eq_canon']
  show View.canon _ ((Rect.unit (s := S3x544x512) ![A, o, 0] ![1, n, 512] inbB).idx (ix3 0 r l)) = _
  rw [show (Rect.unit (s := S3x544x512) ![A, o, 0] ![1, n, 512] inbB).idx (ix3 0 r l) = (Rect.unit (s := S3x544x512) ![A, q, 0] ![1, n', 512] inb).emb (ix3 0 x l) from
    funext fun e => Fin.ext (by
      match e with
      | ⟨0, _⟩ => rfl
      | ⟨1, _⟩ => show o + 1 * r.val = q + 1 * x.val; omega
      | ⟨2, _⟩ => rfl)]
  exact View.canon_cons_emb _ _ _ _

section

variable {E : Ld} {P : Fin 2048 → ℕ → EReal}

/-- The loads read the rows of `P`. -/
def Reads (E : Ld) (P : Fin 2048 → ℕ → EReal) : Prop :=
  ∀ (r : Rect S544x2048) (j : r.shape.Idx) (a : Fin 544) (b : Fin 2048), r.idx j = ix2 a b → E r j = P b a.val

variable (hE : Reads E P)
include hE

theorem rdE {o c n k : ℕ} (inb : ∀ a, (![o, c] : Fin 2 → ℕ) a + (![n, k] : Fin 2 → ℕ) a ≤ S544x2048.size a) (r : Fin n) (l : Fin k) (b : Fin 2048)
    (hb : b.val = c + l.val) (ha : o + r.val < 544) : E (Rect.unit ![o, c] ![n, k] inb) (ix2 r l) = P b (o + r.val) := by
  refine hE _ _ ⟨o + r.val, ha⟩ b (funext fun e => Fin.ext ?_)
  match e with
  | ⟨0, _⟩ => show o + 1 * r.val = o + r.val; omega
  | ⟨1, _⟩ => show c + 1 * l.val = b.val; omega

theorem lev1 (r : Fin 536) (l : Fin 512) : k0_pay9 (E (Rect.unit ![8, 512] ![536, 512] inb_S544x2048_S536x512_8_512)) (E (Rect.unit ![7, 512] ![536, 512] inb_S544x2048_S536x512_7_512))
    (ix3 0 r l) = Wn 2 (P (gc 1 l)) (8 + r.val) := by
  rw [pay9_apply, rdE (c := 512) hE _ r l (gc 1 l) rfl (by omega), rdE (c := 512) hE _ r l (gc 1 l) rfl (by omega)]
  exact two' _ _ _ (by omega)
theorem lev1' (r : Fin 536) (l : Fin 512) : k0_pay12 (E (Rect.unit ![8, 1024] ![536, 512] inb_S544x2048_S536x512_8_1024)) (E (Rect.unit ![7, 1024] ![536, 512] inb_S544x2048_S536x512_7_1024))
    (ix3 0 r l) = Wn 2 (P (gc 2 l)) (8 + r.val) := by
  rw [pay12_apply, rdE (c := 1024) hE _ r l (gc 2 l) rfl (by omega), rdE (c := 1024) hE _ r l (gc 2 l) rfl (by omega)]
  exact two' _ _ _ (by omega)
theorem lev1'' (r : Fin 536) (l : Fin 512) : k0_pay16 (E (Rect.unit ![8, 1536] ![536, 512] inb_S544x2048_S536x512_8_1536)) (E (Rect.unit ![7, 1536] ![536, 512] inb_S544x2048_S536x512_7_1536))
    (ix3 0 r l) = Wn 2 (P (gc 3 l)) (8 + r.val) := by
  rw [pay16_apply, rdE (c := 1536) hE _ r l (gc 3 l) rfl (by omega), rdE (c := 1536) hE _ r l (gc 3 l) rfl (by omega)]
  exact two' _ _ _ (by omega)

theorem lev2 (r : Fin 528) (l : Fin 512) : k0_pay14 (k0_pay13 (rd (L2 E) (Rect.unit ![0, 16, 0] ![1, 528, 512] inb_S3x544x512_S1x528x512_0_16_0)))
    (rd (L2 E) (Rect.unit ![0, 14, 0] ![1, 528, 512] inb_S3x544x512_S1x528x512_0_14_0)) (ix3 0 r l) = Wn 4 (P (gc 2 l)) (16 + r.val) := by
  rw [pay14_apply]
  refine (congrArg₂ (· + ·) ((rdH _ _ _ _ r l ⟨r.val + 8, by omega⟩ (by dsimp only; omega)).trans (lev1' hE _ l))
    ((rdH _ _ _ _ r l ⟨r.val + 6, by omega⟩ (by dsimp only; omega)).trans (lev1' hE _ l))).trans ?_
  refine (dbl' 2 4 _ _ _ (by dsimp only; omega) rfl).trans ?_
  rw [show 8 + (r.val + 8) = 16 + r.val by omega]
theorem lev2' (r : Fin 528) (l : Fin 512) : k0_pay17 (rd (L4 E) (Rect.unit ![0, 16, 0] ![1, 528, 512] inb_S3x544x512_S1x528x512_0_16_0))
    (rd (L4 E) (Rect.unit ![0, 14, 0] ![1, 528, 512] inb_S3x544x512_S1x528x512_0_14_0)) (ix3 0 r l) = Wn 4 (P (gc 3 l)) (16 + r.val) := by
  rw [pay17_apply]
  refine (congrArg₂ (· + ·) ((rdH _ _ _ _ r l ⟨r.val + 8, by omega⟩ (by dsimp only; omega)).trans (lev1'' hE _ l))
    ((rdH _ _ _ _ r l ⟨r.val + 6, by omega⟩ (by dsimp only; omega)).trans (lev1'' hE _ l))).trans ?_
  refine (dbl' 2 4 _ _ _ (by dsimp only; omega) rfl).trans ?_
  rw [show 8 + (r.val + 8) = 16 + r.val by omega]
theorem lev3 (r : Fin 520) (l : Fin 512) : k0_pay18 (rd (L5 E) (Rect.unit ![1, 24, 0] ![1, 520, 512] inb_S3x544x512_S1x520x512_1_24_0))
    (rd (L5 E) (Rect.unit ![1, 20, 0] ![1, 520, 512] inb_S3x544x512_S1x520x512_1_20_0)) (ix3 0 r l) = Wn 8 (P (gc 3 l)) (24 + r.val) := by
  rw [pay18_apply]
  refine (congrArg₂ (· + ·) ((rdH _ _ _ _ r l ⟨r.val + 8, by omega⟩ (by dsimp only; omega)).trans (lev2' hE _ l))
    ((rdH _ _ _ _ r l ⟨r.val + 4, by omega⟩ (by dsimp only; omega)).trans (lev2' hE _ l))).trans ?_
  refine (dbl' 4 8 _ _ _ (by dsimp only; omega) rfl).trans ?_
  rw [show 16 + (r.val + 8) = 24 + r.val by omega]

variable (x0 : Vec Ideal S512x2048 .f32) (h : Vec Ideal S512x2048 .f32) (p : IVec S512x1 32) (x2 : Vec Ideal S4x512x512 .bf16) (x3 : Vec Ideal S1x2048 .f32)

omit hE in
theorem wgt (g : ℕ) (hg : g < 4) (inb : ∀ a, (![g, 0, 0] : Fin 3 → ℕ) a + (![1, 512, 512] : Fin 3 → ℕ) a ≤ S4x512x512.size a) (k l : Fin 512) :
    View.ld x2 (Rect.unit ![g, 0, 0] ![1, 512, 512] inb) (ix3 0 k l) = x2 (ix3 ⟨g, hg⟩ k l) := by
  refine congrArg x2 (funext fun e => Fin.ext ?_)
  match e with
  | ⟨0, _⟩ => rfl
  | ⟨1, _⟩ => show 0 + 1 * k.val = k.val; omega
  | ⟨2, _⟩ => show 0 + 1 * l.val = l.val; omega
omit hE in
theorem scl (o : ℕ) (inb : ∀ a, (![0, o] : Fin 2 → ℕ) a + (![1, 512] : Fin 2 → ℕ) a ≤ S1x2048.size a) (l : Fin 512) (b : Fin 2048) (hb : b.val = o + l.val) :
    View.ld x3 (Rect.unit ![0, o] ![1, 512] inb) (ix2 0 l) = x3 (ix2 0 b) := by
  refine congrArg x3 (funext fun e => Fin.ext ?_)
  match e with
  | ⟨0, _⟩ => rfl
  | ⟨1, _⟩ => show o + 1 * l.val = b.val; omega

/-- An entry of the body's block, by group. -/
def ent (P : Fin 2048 → ℕ → EReal) (g : Fin 4) (r l : Fin 512) : EReal :=
  res (x0 (ix2 r (gc g l))) (fun k => Wn (2 ^ (g.val + 1)) (P (gc g k)) (32 + r.val)) (fun k => h (ix2 r (gc g k)))
    (cnt (BitVec.ofNat 32 (2 ^ (g.val + 1))) (p (ix2 r 0))) (fun k => x2 (ix3 g k l)) (x3 (ix2 0 (gc g l)))

theorem body0 (r l : Fin 512) : body E x0 h p x2 x3 (ix2 r (gc 0 l)) = ent x0 h p x2 x3 P 0 r l := by
  unfold body
  rw [miss _ _ _ _ _ (Or.inr (show 512 * 0 + l.val < 1536 by omega)), miss _ _ _ _ _ (Or.inr (show 512 * 0 + l.val < 1024 by omega)), miss _ _ _ _ _ (Or.inr (show 512 * 0 + l.val < 512 by omega)),
    hit _ _ _ r l _ _ (by simp) rfl]
  unfold g0
  rw [pay8_apply]
  unfold ent
  refine congr (congr (congrArg₂ (fun a b => res _ a _ b) (funext fun k => ?_) rfl) (funext fun k => wgt x2 0 (by omega) _ k l)) (scl x3 0 _ l (gc 0 l) rfl)
  rw [rdE (c := 0) hE _ _ k (gc 0 k) rfl (by dsimp only; omega), rdE (c := 0) hE _ _ k (gc 0 k) rfl (by dsimp only; omega)]
  refine (two' _ _ _ (by dsimp only; omega)).trans ?_
  rw [show 8 + (24 + r.val) = 32 + r.val by omega]
  rfl
theorem body1 (r l : Fin 512) : body E x0 h p x2 x3 (ix2 r (gc 1 l)) = ent x0 h p x2 x3 P 1 r l := by
  unfold body
  rw [miss _ _ _ _ _ (Or.inr (show 512 * 1 + l.val < 1536 by omega)), miss _ _ _ _ _ (Or.inr (show 512 * 1 + l.val < 1024 by omega)),
    hit _ _ _ r l _ _ (by simp) rfl]
  unfold g1
  rw [pay11_apply]
  unfold ent
  refine congr (congr (congrArg₂ (fun a b => res _ a _ b) (funext fun k => ?_) rfl) (funext fun k => wgt x2 1 (by omega) _ k l)) (scl x3 512 _ l (gc 1 l) rfl)
  refine (congrArg₂ (· + ·) ((rdH _ _ _ _ _ k ⟨r.val + 24, by omega⟩ (by dsimp only; omega)).trans (lev1 hE _ k))
    ((rdH _ _ _ _ _ k ⟨r.val + 22, by omega⟩ (by dsimp only; omega)).trans (lev1 hE _ k))).trans ?_
  refine (dbl' 2 4 _ _ _ (by dsimp only; omega) rfl).trans ?_
  rw [show 8 + (r.val + 24) = 32 + r.val by omega]
  rfl
theorem body2 (r l : Fin 512) : body E x0 h p x2 x3 (ix2 r (gc 2 l)) = ent x0 h p x2 x3 P 2 r l := by
  unfold body
  rw [miss _ _ _ _ _ (Or.inr (show 512 * 2 + l.val < 1536 by omega)),
    hit _ _ _ r l _ _ (by simp) rfl]
  unfold g2
  rw [pay15_apply]
  unfold ent
  refine congr (congr (congrArg₂ (fun a b => res _ a _ b) (funext fun k => ?_) rfl) (funext fun k => wgt x2 2 (by omega) _ k l)) (scl x3 1024 _ l (gc 2 l) rfl)
  refine (congrArg₂ (· + ·) ((rdH _ _ _ _ _ k ⟨r.val + 16, by omega⟩ (by dsimp only; omega)).trans (lev2 hE _ k))
    ((rdH _ _ _ _ _ k ⟨r.val + 12, by omega⟩ (by dsimp only; omega)).trans (lev2 hE _ k))).trans ?_
  refine (dbl' 4 8 _ _ _ (by dsimp only; omega) rfl).trans ?_
  rw [show 16 + (r.val + 16) = 32 + r.val by omega]
  rfl
theorem body3 (r l : Fin 512) : body E x0 h p x2 x3 (ix2 r (gc 3 l)) = ent x0 h p x2 x3 P 3 r l := by
  unfold body
  rw [hit _ _ _ r l _ _ (by simp) rfl]
  unfold g3
  rw [pay1_apply]
  unfold ent
  refine congr (congr (congrArg₂ (fun a b => res _ a _ b) (funext fun k => ?_) rfl) (funext fun k => wgt x2 3 (by omega) _ k l)) (scl x3 1536 _ l (gc 3 l) rfl)
  rw [pay19_apply]
  refine (congrArg₂ (· + ·) ((rdH _ _ _ _ _ k ⟨r.val + 8, by omega⟩ (by dsimp only; omega)).trans (lev3 hE _ k))
    ((rdH _ _ _ _ _ k ⟨r.val, by omega⟩ (by dsimp only)).trans (lev3 hE _ k))).trans ?_
  refine (dbl' 8 16 _ _ _ (by dsimp only; omega) rfl).trans ?_
  rw [show 24 + (r.val + 8) = 32 + r.val by omega]
  rfl

theorem body_apply (g : Fin 4) (r l : Fin 512) : body E x0 h p x2 x3 (ix2 r (gc g l)) = ent x0 h p x2 x3 P g r l := by
  match g with
  | ⟨0, _⟩ => exact body0 hE x0 h p x2 x3 r l
  | ⟨1, _⟩ => exact body1 hE x0 h p x2 x3 r l
  | ⟨2, _⟩ => exact body2 hE x0 h p x2 x3 r l
  | ⟨3, _⟩ => exact body3 hE x0 h p x2 x3 r l

end

end Cert.PoolTile

end
-- ==== Proof.PoolArr.lean ====
/- The pooling mixer's blocks as parts of the argument arrays. -/
module

public import proofs.«01_k».proof.Proof.PoolRows
public import Idealize.ShloMosaic.Lib.WritesUnit

@[expose] public section

noncomputable section

namespace Cert.PoolTile

open Cert.PoolIdeal Cert.PoolIdeal.Gen Idealize.ShloMosaic Idealize.ShloMosaic.TcCoe Idealize.SL.Sem

/-- A normalised row's entry: the row's number over all sequences. -/
def R (x0 : S8192x2048.Idx → EReal) (x1 : S2048.Idx → EReal) (n : ℕ) (l : Fin 2048) : EReal :=
  nrm (fun k => x0 (ix2 ⟨n % 8192, Nat.mod_lt _ (by norm_num)⟩ k)) l (x1 (ix1 l))

/-- A sequence's normalised rows under 32 rows of zeros. -/
def Pd (x0 : S8192x2048.Idx → EReal) (x1 : S2048.Idx → EReal) (b : ℕ) (l : Fin 2048) (j : ℕ) : EReal :=
  if j < 32 then 0 else R x0 x1 (b * 2048 + (j - 32)) l

/-- The result's entry at a sequence's position, by group. -/
def fin (x0 : S8192x2048.Idx → EReal) (x1 : S2048.Idx → EReal) (x2 : S4x512x512.Idx → EReal) (x3 : S2048.Idx → EReal) (b s : ℕ) (g : Fin 4) (l : Fin 512) : EReal :=
  res (x0 (ix2 ⟨(b * 2048 + s) % 8192, Nat.mod_lt _ (by norm_num)⟩ (gc g l))) (fun k => Wn (2 ^ (g.val + 1)) (Pd x0 x1 b (gc g k)) (s + 32))
    (fun k => R x0 x1 (b * 2048 + s) (gc g k)) (cnt (BitVec.ofNat 32 (2 ^ (g.val + 1))) (BitVec.ofNat 32 s)) (fun k => x2 (ix3 g k l)) (x3 (ix1 (gc g l)))

theorem Wn_shift (w c i : ℕ) (P : ℕ → EReal) (h : w ≤ i + 1) : Wn w (fun j => P (c + j)) i = Wn w P (c + i) :=
  Finset.sum_congr rfl fun k hk => congrArg P (by have := Finset.mem_range.1 hk; omega)

theorem idx : ∀ t : Fin grid0.N, win0_0.index t = ![t.val, 0] ∧ win0_1.index t = ![0, 0] ∧ win0_2.index t = ![0, 0, 0]
    ∧ win0_3.index t = ![0, 0] ∧ win0_4.index t = ![t.val, 0] ∧ win0_5.index t = ![t.val / 4, 0, 0] := by decide +kernel

variable (m : (ℓ : Loc nD τ sig) → Buf (Elt Ideal) ℓ) (c : Dev nD)

theorem lt16 (t : Fin cfg0.N) : t.val < 16 := t.isLt

/-- The row of a grid point's row. -/
def row (t : Fin cfg0.N) (r : Fin 512) : Fin 8192 := ⟨t.val * 512 + r.val, by have := lt16 t; omega⟩

theorem blk0 (t : Fin cfg0.N) (r : Fin 512) (l : Fin 2048) : iblk m c 0 t (ix2 r l) = m ((c : Thread nD τ).loc main_arg0) (ix2 (row t r) l) := by
  blk_ext [iblk, V, idx t, row]
theorem blk1 (t : Fin cfg0.N) (l : Fin 2048) : iblk m c 1 t (ix2 0 l) = m ((c : Thread nD τ).loc main_arg1) (ix1 l) := by
  have e : iblk m c 1 t (ix2 0 l) = V m c main_v0 (ix2 0 l) := by
    blk_ext [iblk, idx t]
  rw [e]
  entry_read
  pointwise
theorem blk2 (t : Fin cfg0.N) (g : Fin 4) (k l : Fin 512) : iblk m c 2 t (ix3 g k l) = m ((c : Thread nD τ).loc main_arg2) (ix3 g k l) := by
  have e : iblk m c 2 t (ix3 g k l) = V m c main_v1 (ix3 g k l) := by
    blk_ext [iblk, idx t]
  rw [e]
  entry_read
  pointwise
theorem blk3 (t : Fin cfg0.N) (l : Fin 2048) : iblk m c 3 t (ix2 0 l) = m ((c : Thread nD τ).loc main_arg3) (ix1 l) := by
  have e : iblk m c 3 t (ix2 0 l) = V m c main_v2 (ix2 0 l) := by
    blk_ext [iblk, idx t]
  rw [e]
  entry_read
  pointwise

theorem h_apply (t : Fin cfg0.N) (r : Fin 512) (l : Fin 2048) : k0_pay5 (iblk m c 0 t) (iblk m c 1 t) (ix2 r l)
    = R (m ((c : Thread nD τ).loc main_arg0)) (m ((c : Thread nD τ).loc main_arg1)) (t.val * 512 + r.val) l := by
  rw [pay5_apply]
  unfold R
  rw [blk1]
  refine congrArg (fun f => nrm f l _) (funext fun k => (blk0 m c t r k).trans (congrArg _ (congrArg (fun i => ix2 i k) (Fin.ext ?_))))
  have := lt16 t
  show t.val * 512 + r.val = (t.val * 512 + r.val) % 8192
  omega

theorem canon_XA (h : Vec Ideal S512x2048 .f32) (a : Fin 544) (b : Fin 2048) :
    View.canon (XA h) (ix2 a b) = if ha : a.val < 32 then 0 else h (ix2 ⟨a.val - 32, by omega⟩ b) := by
  unfold XA
  split
  · next ha =>
    rw [miss _ _ _ _ _ (Or.inl ha), hit _ _ _ (⟨a.val, ha⟩ : Fin 32) b _ _ (by simp) (by simp)]
    exact pay4_apply _ _
  · next ha =>
    exact hit _ _ _ _ b _ _ (by show a.val = 32 + (a.val - 32); omega) (by simp)
theorem canon_XC (h : Vec Ideal S512x2048 .f32) (a : Fin 544) (b : Fin 2048) (r : Fin 512) (hr : a.val = 32 + r.val) :
    View.canon (XC h) (ix2 a b) = h (ix2 r b) := by
  unfold XC
  exact hit _ _ _ _ b _ _ hr (by simp)
theorem canon_XA' (h : Vec Ideal S512x2048 .f32) (a : Fin 544) (b : Fin 2048) (r : Fin 512) (hr : a.val = 32 + r.val) :
    View.canon (XA h) (ix2 a b) = h (ix2 r b) := by
  unfold XA
  exact hit _ _ _ _ b _ _ hr (by simp)
theorem XB_apply (h : Vec Ideal S512x2048 .f32) (prev : Vec Ideal S544x2048 .f32) (a : Fin 544) (b : Fin 2048) :
    XB h prev (ix2 a b) = if ha : a.val < 32 then prev (ix2 a b) else h (ix2 ⟨a.val - 32, by omega⟩ b) := by
  unfold XB
  split
  · next ha =>
    rw [View.read_writes_cons_unit_of_not_mem _ _ _ _ _ _ rfl (0 : Fin 2) (Or.inl ha)]
    exact congrFun (read_unread_whole cc0_scratch0 _ prev) _
  · next ha =>
    refine View.read_writes_cons_unit_of_mem (s := S544x2048) (size := ![512, 2048]) _ _ _ _ _ _ (ix2 (⟨a.val - 32, by omega⟩ : Fin 512) b) rfl fun e => ?_
    match e with
    | ⟨0, _⟩ => show a.val = 32 + (a.val - 32); omega
    | ⟨1, _⟩ => show b.val = 0 + b.val; omega

/-- A block read through a rectangle of the extended rows. -/
theorem rc_apply (L : List (View.Piece (Elt Ideal) S544x2048 .f32)) {o n : ℕ} (inb : ∀ a, (![o, 0] : Fin 2 → ℕ) a + (![n, 2048] : Fin 2 → ℕ) a ≤ S544x2048.size a)
    (r : Fin n) (l : Fin 2048) (a : Fin 544) (ha : a.val = o + r.val) :
    (View.whole cc0_scratch0).readCov L (Rect.unit (s := S544x2048) ![o, 0] ![n, 2048] inb).toLoadRect (ix2 r l) = View.canon L (ix2 a l) := by
  rw [View.readCov_eq_canon']
  refine congrArg (View.canon L) (funext fun e => Fin.ext ?_)
  match e with
  | ⟨0, _⟩ => show o + 1 * r.val = a.val; omega
  | ⟨1, _⟩ => show 0 + 1 * l.val = l.val; omega

/-- The rows carried to a sequence's next point. -/
theorem carry (t : Fin cfg0.N) (a : Fin 544) (ha : a.val < 32) (b : Fin 2048) : (outsAt0 m c t.val t.isLt).2.2 (ix2 a b)
    = R (m ((c : Thread nD τ).loc main_arg0)) (m ((c : Thread nD τ).loc main_arg1)) (t.val * 512 + (480 + a.val)) b := by
  by_cases h0 : t.val % 4 = 0
  · rw [sc_A m c t h0, hit _ _ _ (⟨a.val, ha⟩ : Fin 32) b _ _ (by simp) (by simp), pay3_eq, rc_apply _ _ (⟨a.val, ha⟩ : Fin 32) _ ⟨512 + a.val, by omega⟩ rfl,
      canon_XA' _ _ _ ⟨480 + a.val, by omega⟩ (by dsimp only; omega), pay6_eq, h_apply]
  · rw [sc_B m c t h0, hit _ _ _ (⟨a.val, ha⟩ : Fin 32) b _ _ (by simp) (by simp), pay3_eq, rc_apply _ _ (⟨a.val, ha⟩ : Fin 32) _ ⟨512 + a.val, by omega⟩ rfl,
      canon_XC _ _ _ ⟨480 + a.val, by omega⟩ (by dsimp only; omega), pay6_eq, h_apply]

/-- The state's block holds the point's last fifteen rows. -/
theorem st_apply (t : Fin cfg0.N) (r : Fin 15) (l : Fin 2048) : (outsAt0 m c t.val t.isLt).2.1 (ix3 0 r l)
    = R (m ((c : Thread nD τ).loc main_arg0)) (m ((c : Thread nD τ).loc main_arg1)) (t.val * 512 + (497 + r.val)) l := by
  by_cases h0 : t.val % 4 = 0
  · rw [st_A m c t h0, pay2_apply, rc_apply _ _ _ _ ⟨529 + r.val, by omega⟩ rfl,
      canon_XA' _ _ _ ⟨497 + r.val, by omega⟩ (by dsimp only; omega), pay6_eq, h_apply]
  · rw [st_B m c t h0, pay2_apply, rc_apply _ _ _ _ ⟨529 + r.val, by omega⟩ rfl,
      canon_XC _ _ _ ⟨497 + r.val, by omega⟩ (by dsimp only; omega), pay6_eq, h_apply]

/-- The rows a point's loads read. -/
def PT (t : Fin cfg0.N) (b : Fin 2048) (j : ℕ) : EReal :=
  Pd (m ((c : Thread nD τ).loc main_arg0)) (m ((c : Thread nD τ).loc main_arg1)) (t.val / 4) b (t.val % 4 * 512 + j)

theorem PT_new (t : Fin cfg0.N) (b : Fin 2048) (r : Fin 512) (j : ℕ) (hj : j = r.val + 32) :
    k0_pay5 (iblk m c 0 t) (iblk m c 1 t) (ix2 r b) = PT m c t b j := by
  have := lt16 t
  rw [h_apply]
  unfold PT Pd
  rw [if_neg (by omega)]
  exact congrArg (fun n => R _ _ n b) (by omega)

theorem reads_A (t : Fin cfg0.N) (h0 : t.val % 4 = 0) :
    Reads (fun r => (View.whole cc0_scratch0).readCov (XA (k0_pay6 (iblk m c 0 t) (iblk m c 1 t))) r.toLoadRect) (PT m c t) := by
  intro r j a b hj
  dsimp only
  rw [View.readCov_eq_canon']
  refine (congrArg (View.canon _) hj).trans ?_
  rw [canon_XA, pay6_eq]
  split
  · next ha =>
    unfold PT Pd
    rw [if_pos (by omega)]
  · next ha => exact PT_new m c t b _ _ (by dsimp only; omega)

theorem reads_B (t : Fin cfg0.N) (h0 : ¬ t.val % 4 = 0) (hb : t.val - 1 < cfg0.N) :
    Reads (View.ld (XB (k0_pay6 (iblk m c 0 t) (iblk m c 1 t)) (outsAt0 m c (t.val - 1) hb).2.2)) (PT m c t) := by
  intro r j a b hj
  refine (congrArg (XB _ _) hj).trans ?_
  rw [XB_apply, pay6_eq]
  split
  · next ha =>
    refine (carry m c ⟨t.val - 1, hb⟩ a ha b).trans ?_
    unfold PT Pd
    rw [if_neg (by omega)]
    exact congrArg (fun n => R _ _ n b) (by dsimp only; omega)
  · next ha => exact PT_new m c t b _ _ (by dsimp only; omega)

/-- The result's block, entry by entry. -/
theorem out_apply (t : Fin cfg0.N) (g : Fin 4) (r l : Fin 512) : (outsAt0 m c t.val t.isLt).1 (ix2 r (gc g l))
    = fin (m ((c : Thread nD τ).loc main_arg0)) (m ((c : Thread nD τ).loc main_arg1)) (m ((c : Thread nD τ).loc main_arg2)) (m ((c : Thread nD τ).loc main_arg3))
        (t.val / 4) (t.val % 4 * 512 + r.val) g l := by
  have ht := lt16 t
  have hr := r.isLt
  have key : (outsAt0 m c t.val t.isLt).1 (ix2 r (gc g l)) = ent (iblk m c 0 t) (k0_pay5 (iblk m c 0 t) (iblk m c 1 t)) (k0_pay7 (grid0.coords t)) (iblk m c 2 t) (iblk m c 3 t) (PT m c t) g r l := by
    by_cases h0 : t.val % 4 = 0
    · rw [out_A m c t h0]
      exact body_apply (reads_A m c t h0) _ _ _ _ _ g r l
    · have hb : t.val - 1 < cfg0.N := by show t.val - 1 < 16; omega
      rw [out_B m c t h0 hb]
      exact body_apply (reads_B m c t h0 hb) _ _ _ _ _ g r l
  rw [key]
  unfold ent fin
  have en : t.val / 4 * 2048 + (t.val % 4 * 512 + r.val) = t.val * 512 + r.val := by omega
  simp only [en]
  rw [pay7_apply]
  refine congr (congr (congr (congr (congrArg₂ res ?_ ?_) ?_) rfl) ?_) ?_
  · refine (blk0 m c t r _).trans (congrArg _ (congrArg (fun i => ix2 i _) (Fin.ext ?_)))
    show t.val * 512 + r.val = (t.val * 512 + r.val) % 8192
    omega
  · refine funext fun k => (Wn_shift _ (t.val % 4 * 512) (32 + r.val) (Pd _ _ (t.val / 4) (gc g k)) ?_).trans ?_
    · have : 2 ^ (g.val + 1) ≤ 2 ^ 4 := Nat.pow_le_pow_right (by norm_num) (by omega)
      omega
    · rw [show t.val % 4 * 512 + (32 + r.val) = t.val % 4 * 512 + r.val + 32 by omega]
  · exact funext fun k => h_apply m c t r _
  · exact funext fun k => blk2 m c t g k l
  · exact blk3 m c t _

end Cert.PoolTile

end
-- ==== Proof.PoolCum.lean ====
/- A running sum over a sequence with its fifteen rows of history. -/
module

public import Idealize.ShloMosaic.Lib.Pointwise
public import Idealize.ShloMosaic.Lib.Pipeline.ValueKit

@[expose] public section

noncomputable section

namespace Cert.PoolCum

open Idealize.ShloMosaic

/-- A left fold of additions is the start plus the sum of what is added. -/
theorem foldl_sum {ι : Type} (l : List ι) (F : ι → EReal) (v : EReal) : l.foldl (fun r n => r + F n) v = v + (l.map F).sum := by
  induction l generalizing v with
  | nil => simp
  | cons a l ih => rw [List.foldl_cons, ih, List.map_cons, List.sum_cons, add_assoc]

/-- A window of the whole height padded low by one less, read at position `i`, sums the first `i + 1` terms. -/
theorem sum_padded (g : ℕ → EReal) (i : ℕ) (hi : i < 2063) :
    (∑ n ∈ Finset.range 2063, if 2062 ≤ i + n then g (i + n - 2062) else 0) = ∑ s ∈ Finset.range (i + 1), g s := by
  obtain ⟨d, hd⟩ : ∃ d, 2062 = i + d := ⟨2062 - i, by omega⟩
  rw [show 2063 = d + (i + 1) by omega, Finset.sum_range_add, Finset.sum_eq_zero fun n hn => if_neg (by have := Finset.mem_range.1 hn; omega), zero_add]
  exact Finset.sum_congr rfl fun s _ => by rw [if_pos (by omega), show i + (d + s) - 2062 = s by omega]

/-- The window's shape: its size, and the index at a position. -/
theorem win_numel : (⟨3, ![1, 2063, 1]⟩ : Shape).numel = 2063 := by decide +kernel
theorem win_symm (n : Fin (⟨3, ![1, 2063, 1]⟩ : Shape).numel) : (⟨3, ![1, 2063, 1]⟩ : Shape).rowMajor.symm n
    = ix3 (0 : Fin 1) (⟨n.val, lt_of_lt_of_eq n.isLt win_numel⟩ : Fin 2063) (0 : Fin 1) :=
  (Equiv.symm_apply_eq _).2 (Fin.ext (by
    rw [Shape.rowMajor_val_three]
    show n.val = (0 * 2063 + n.val) * 1 + 0
    omega))

/-- The host's running sum along the middle axis at a position is the sum of the entries up to it. -/
theorem cum (x : (⟨3, ![4, 2063, 2048]⟩ : Shape).Idx → EReal) {u : Shape} (z : u.Idx → EReal) (hz : ∀ y, z y = 0)
    (h : (⟨3, ![4, 2063, 2048]⟩ : Shape).ReduceWindows (![1, 2063, 1] : Fin 3 → ℕ) ![1, 1, 1] ![0, 2062, 0] ![0, 0, 0] ⟨3, ![4, 2063, 2048]⟩) (hu : 0 < u.numel)
    (b : Fin 4) (a : Fin 2048) (g : ℕ → EReal) (hx : ∀ s : Fin 2063, x (ix3 b s a) = g s.val) (i : Fin 2063) :
    Host.reduceWindow (· + ·) ![1, 2063, 1] ![1, 1, 1] ![0, 2062, 0] ![0, 0, 0] x z h hu (ix3 b i a) = ∑ s ∈ Finset.range (i.val + 1), g s := by
  have hi := i.isLt
  have hb := b.isLt
  have ha := a.isLt
  unfold Host.reduceWindow
  refine (foldl_sum _ _ _).trans ?_
  rw [hz, zero_add, ← sum_padded g i.val hi, ← Fin.sum_univ_def]
  refine (Finset.sum_congr rfl fun n _ => ?_).trans ((Fin.sum_univ_eq_sum_range (fun n => if 2062 ≤ i.val + n then g (i.val + n - 2062) else 0) _).trans
    (by rw [win_numel]))
  have hn : n.val < 2063 := lt_of_lt_of_eq n.isLt win_numel
  have hw0 : ((⟨3, ![1, 2063, 1]⟩ : Shape).rowMajor.symm n 0).val = 0 := by rw [win_symm]; rfl
  have hw1 : ((⟨3, ![1, 2063, 1]⟩ : Shape).rowMajor.symm n 1).val = n.val := by rw [win_symm]; rfl
  have hw2 : ((⟨3, ![1, 2063, 1]⟩ : Shape).rowMajor.symm n 2).val = 0 := by rw [win_symm]; rfl
  dsimp only
  split
  · next hin =>
    have h1 := hin 1
    change 2062 ≤ i.val * 1 + ((⟨3, ![1, 2063, 1]⟩ : Shape).rowMajor.symm n 1).val
      ∧ i.val * 1 + ((⟨3, ![1, 2063, 1]⟩ : Shape).rowMajor.symm n 1).val - 2062 < 2063 at h1
    rw [hw1] at h1
    rw [if_pos (by omega)]
    refine (congrArg x (funext fun e => Fin.ext ?_)).trans (hx ⟨i.val + n.val - 2062, by omega⟩)
    match e with
    | ⟨0, _⟩ =>
      show b.val * 1 + ((⟨3, ![1, 2063, 1]⟩ : Shape).rowMajor.symm n 0).val - 0 = b.val
      rw [hw0]; omega
    | ⟨1, _⟩ =>
      show i.val * 1 + ((⟨3, ![1, 2063, 1]⟩ : Shape).rowMajor.symm n 1).val - 2062 = i.val + n.val - 2062
      rw [hw1, Nat.mul_one]
    | ⟨2, _⟩ =>
      show a.val * 1 + ((⟨3, ![1, 2063, 1]⟩ : Shape).rowMajor.symm n 2).val - 0 = a.val
      rw [hw2]; omega
  · next hin =>
    rw [if_neg fun hle => hin fun e => by
      match e with
      | ⟨0, _⟩ =>
        show 0 ≤ b.val * 1 + ((⟨3, ![1, 2063, 1]⟩ : Shape).rowMajor.symm n 0).val ∧ b.val * 1 + ((⟨3, ![1, 2063, 1]⟩ : Shape).rowMajor.symm n 0).val - 0 < 4
        rw [hw0]; omega
      | ⟨1, _⟩ =>
        show 2062 ≤ i.val * 1 + ((⟨3, ![1, 2063, 1]⟩ : Shape).rowMajor.symm n 1).val
          ∧ i.val * 1 + ((⟨3, ![1, 2063, 1]⟩ : Shape).rowMajor.symm n 1).val - 2062 < 2063
        rw [hw1]; omega
      | ⟨2, _⟩ =>
        show 0 ≤ a.val * 1 + ((⟨3, ![1, 2063, 1]⟩ : Shape).rowMajor.symm n 2).val ∧ a.val * 1 + ((⟨3, ![1, 2063, 1]⟩ : Shape).rowMajor.symm n 2).val - 0 < 2048
        rw [hw2]; omega]

/-- The host's float window sum is the window's fold of additions. -/
theorem window_add {s t u : Shape} (w st lo hi : Fin s.rank → ℕ) (x : s.Idx → EReal) (init : u.Idx → EReal) (h : s.ReduceWindows w st lo hi t) (hu : 0 < u.numel) :
    Host.reduceWindowAdd (F := Ideal) (φ := .f32) w st lo hi x init h hu
      = Host.reduceWindow (α := EReal) (· + ·) w st lo hi x (fun _ : (⟨0, ![]⟩ : Shape).Idx => init (Shape.Idx.first hu)) h := rfl

end Cert.PoolCum

end
-- ==== Proof.PoolRef.lean ====
/- The pooling mixer's reference, entry by entry. -/
module

public import proofs.«01_k».proof.Proof.PoolArr
public import proofs.«01_k».proof.Proof.PoolCum
public import proofs.«01_k».proof.Proof.Gen.PoolRefIdeal.Read

@[expose] public section

noncomputable section

namespace Cert.PoolRefRead

open Cert.PoolRefIdeal Cert.PoolRefIdeal.Gen Cert.PoolRefIdeal.Read Idealize.ShloMosaic Cert.PoolTile

variable (x0 : (⟨S8192x2048, .f32⟩ : BufTy).Contents (Elt Ideal)) (x1 : (⟨S2048, .f32⟩ : BufTy).Contents (Elt Ideal))
  (x2 : (⟨S4x512x512, .f32⟩ : BufTy).Contents (Elt Ideal)) (x3 : (⟨S2048, .f32⟩ : BufTy).Contents (Elt Ideal))

/-- The reference's normalised rows. -/
theorem norm_apply (n : Fin 8192) (l : Fin 2048) : val_main_v12 x0 x1 (ix2 n l) = R x0 x1 n.val l := by
  have e : (⟨n.val % 8192, Nat.mod_lt _ (by norm_num)⟩ : Fin 8192) = n := Fin.ext (Nat.mod_eq_of_lt n.isLt)
  unfold R nrm
  rw [e]
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]

theorem rows_apply (b : Fin 4) (s : Fin 2048) (l : Fin 2048) : val_main_v13 x0 x1 (ix3 b s l) = R x0 x1 (b.val * 2048 + s.val) l :=
  (val_main_v13_apply x0 x1 _).trans ((congrArg _ (funext fun a => Fin.ext (by match a with
    | ⟨0, _⟩ => show ((b.val * 2048 + s.val) * 2048 + l.val) / 2048 = b.val * 2048 + s.val; omega
    | ⟨1, _⟩ => show ((b.val * 2048 + s.val) * 2048 + l.val) % 2048 = l.val; omega))).trans
      (norm_apply x0 x1 ⟨b.val * 2048 + s.val, by omega⟩ l))

/-- The rows under the fifteen of history. -/
theorem ext_apply (b : Fin 4) (s : Fin 2063) (l : Fin 2048) : val_main_v15 x0 x1 (ix3 b s l) = Pd x0 x1 b.val l (17 + s.val) := by
  have e : val_main_v15 x0 x1 (ix3 b s l) = if h : s.val < 15 then 0 else R x0 x1 (b.val * 2048 + (s.val - 15)) l := by
    pointwise [val_main_v15, val_main_v14, val_main_cst_2, rows_apply]
  rw [e]
  unfold Pd
  split
  · next h => rw [if_pos (by omega)]
  · next h =>
    rw [if_neg (by omega)]
    exact congrArg (fun n => R x0 x1 n l) (by omega)

/-- Their running sums. -/
theorem cum_apply (b : Fin 4) (i : Fin 2063) (l : Fin 2048) : val_main_v17 x0 x1 (ix3 b i l) = ∑ j ∈ Finset.range (i.val + 1), Pd x0 x1 b.val l (17 + j) := by
  have hz : ∀ y, val_main_call0_call0_v0 (F := Ideal) y = (0 : EReal) := fun y => by
    rw [val_main_call0_call0_v0_apply, val_main_call0_call0_cst_apply]
    exact Ideal.ofBits_zero_f32
  have hx := fun s => ext_apply x0 x1 b s l
  unfold val_main_v17
  generalize val_main_v15 x0 x1 = y at hx
  generalize val_main_call0_call0_v0 (F := Ideal) = z at hz
  rw [Cert.PoolCum.window_add]
  exact Cert.PoolCum.cum y _ (fun _ => hz _) _ _ b l (fun s => Pd x0 x1 b.val l (17 + s)) hx i

/-- The same with the empty sum before them. -/
theorem run_apply (b : Fin 4) (i : Fin 2064) (l : Fin 2048) : val_main_v18 x0 x1 (ix3 b i l) = ∑ j ∈ Finset.range i.val, Pd x0 x1 b.val l (17 + j) := by
  unfold val_main_v18
  have e0 : FloatOps.sitofp (F := Ideal) FTy.f32 (0#32) = (0 : EReal) := by
    simp [FloatOps.sitofp]
  pointwise [val_main_call1_v0, val_main_c]
  split
  · next h =>
    rw [cum_apply]
    exact congrArg (fun n => ∑ j ∈ Finset.range n, Pd x0 x1 b.val l (17 + j)) (by dsimp only; omega)
  · next h =>
    rw [show i.val = 0 by have := i.isLt; omega]
    exact e0

/-- A difference of running sums is the window between. -/
theorem win (hw : ∀ l, ∃ a : ℝ, x1 (ix1 l) = (a : EReal)) (b s n m' w : ℕ) (l : Fin 2048) (hn : n = 16 + s) (hm : m' + w = 16 + s) :
    ∑ j ∈ Finset.range n, Pd x0 x1 b l (17 + j) - ∑ j ∈ Finset.range m', Pd x0 x1 b l (17 + j) = Wn w (Pd x0 x1 b l) (s + 32) := by
  have hP : ∀ j, ∃ a : ℝ, Pd x0 x1 b l (17 + j) = a := fun j => by
    unfold Pd
    split
    · exact ⟨0, rfl⟩
    · obtain ⟨a, ha⟩ := hw l
      unfold R
      rw [ha]
      exact nrm_real _ _ _
  rw [show n = m' + w by omega, diff _ hP, Wn_shift _ _ _ _ (by omega), show 17 + (m' + w - 1) = s + 32 by omega]

theorem cnt_ne2 : ∀ s : Fin 2048, IntOp.minsi (IntOp.addi (BitVec.ofNat 32 s.val) 1#32) 2#32 ≠ 0#32 := by decide +kernel
theorem cnt_ne4 : ∀ s : Fin 2048, IntOp.minsi (IntOp.addi (BitVec.ofNat 32 s.val) 1#32) 4#32 ≠ 0#32 := by decide +kernel
theorem cnt_ne8 : ∀ s : Fin 2048, IntOp.minsi (IntOp.addi (BitVec.ofNat 32 s.val) 1#32) 8#32 ≠ 0#32 := by decide +kernel
theorem cnt_ne16 : ∀ s : Fin 2048, IntOp.minsi (IntOp.addi (BitVec.ofNat 32 s.val) 1#32) 16#32 ≠ 0#32 := by decide +kernel
/-- A count is not zero. -/
theorem cnt_ne (w p : BitVec 32) (h : IntOp.minsi (IntOp.addi p 1#32) w ≠ 0#32) : cnt w p ≠ 0 := by
  unfold cnt
  generalize IntOp.minsi (IntOp.addi p 1#32) w = z at h
  intro hz
  have hz' : ((z.toInt : ℝ) : EReal) = 0 := hz
  have : z.toInt = 0 := by exact_mod_cast hz'
  exact h (BitVec.eq_of_toInt_eq (by rw [this]; rfl))

variable (hw : ∀ l, ∃ a : ℝ, x1 (ix1 l) = (a : EReal)) (b : Fin 4) (s : Fin 2048)
include hw

/-- Group 0: the pooled and mixed entries. -/
theorem mix0 (l : Fin 512) : val_main_v35 x0 x1 x2 (ix3 b s l)
    = ∑ k : Fin 512, (Wn (2 ^ ((0 : Fin 4).val + 1)) (Pd x0 x1 b.val (gc 0 k)) (s.val + 32) * Ideal.div 1 (cnt (BitVec.ofNat 32 (2 ^ ((0 : Fin 4).val + 1))) (BitVec.ofNat 32 s.val))
        - R x0 x1 (b.val * 2048 + s.val) (gc 0 k)) * x2 (ix3 0 k l) := by
  have h1 : ∀ k : Fin 512, val_main_v28 x0 x1 (ix3 b s k) = Wn 2 (Pd x0 x1 b.val (gc 0 k)) (s.val + 32) := fun k => by
    pointwise [val_main_v28, val_main_v20, val_main_v21, run_apply]
    exact (win x0 x1 hw b.val s.val _ _ 2 _ (by omega) (by omega)).trans (congrArg (fun q => Wn 2 (Pd x0 x1 b.val q) (s.val + 32)) (Fin.ext (by simp [gc])))
  have h2 : ∀ k : Fin 512, val_main_v29 (F := Ideal) (ix3 b s k) = cnt 2#32 (BitVec.ofNat 32 s.val) := fun k => by
    pointwise [val_main_v29, val_main_v27, val_main_v26, val_main_v25, val_main_v24, val_main_v23, val_main_v22, val_main_v16, val_main_c_3, val_main_c_4]
    rfl
  have h3 : ∀ k : Fin 512, val_main_v31 x0 x1 (ix3 b s k) = R x0 x1 (b.val * 2048 + s.val) (gc 0 k) := fun k => by
    pointwise [val_main_v31, val_main_v19, ext_apply]
    unfold Pd
    rw [if_neg (by omega)]
    exact congrArg₂ (R x0 x1) (by omega) (Fin.ext (by simp [gc]))
  have h4 : ∀ k : Fin 512, val_main_v32 x0 x1 (ix3 b s k) = Wn 2 (Pd x0 x1 b.val (gc 0 k)) (s.val + 32) * Ideal.div 1 (cnt 2#32 (BitVec.ofNat 32 s.val))
      - R x0 x1 (b.val * 2048 + s.val) (gc 0 k) := fun k => by
    rw [share _ _ (cnt_ne _ _ (cnt_ne2 s)), ← h1, ← h2 k, ← h3]
    rfl
  have h5 : ∀ k : Fin 512, val_main_v34 x2 (ix2 k l) = x2 (ix3 0 k l) := fun k => by
    pointwise [val_main_v34, val_main_v33]
  pointwise [val_main_v35, h4, h5]
  rfl
/-- Group 1: the pooled and mixed entries. -/
theorem mix1 (l : Fin 512) : val_main_v51 x0 x1 x2 (ix3 b s l)
    = ∑ k : Fin 512, (Wn (2 ^ ((1 : Fin 4).val + 1)) (Pd x0 x1 b.val (gc 1 k)) (s.val + 32) * Ideal.div 1 (cnt (BitVec.ofNat 32 (2 ^ ((1 : Fin 4).val + 1))) (BitVec.ofNat 32 s.val))
        - R x0 x1 (b.val * 2048 + s.val) (gc 1 k)) * x2 (ix3 1 k l) := by
  have h1 : ∀ k : Fin 512, val_main_v44 x0 x1 (ix3 b s k) = Wn 4 (Pd x0 x1 b.val (gc 1 k)) (s.val + 32) := fun k => by
    pointwise [val_main_v44, val_main_v36, val_main_v37, run_apply]
    exact (win x0 x1 hw b.val s.val _ _ 4 _ (by omega) (by omega)).trans (congrArg (fun q => Wn 4 (Pd x0 x1 b.val q) (s.val + 32)) (Fin.ext (by simp [gc])))
  have h2 : ∀ k : Fin 512, val_main_v45 (F := Ideal) (ix3 b s k) = cnt 4#32 (BitVec.ofNat 32 s.val) := fun k => by
    pointwise [val_main_v45, val_main_v43, val_main_v42, val_main_v41, val_main_v40, val_main_v39, val_main_v38, val_main_v16, val_main_c_5, val_main_c_6]
    rfl
  have h3 : ∀ k : Fin 512, val_main_v47 x0 x1 (ix3 b s k) = R x0 x1 (b.val * 2048 + s.val) (gc 1 k) := fun k => by
    pointwise [val_main_v47, val_main_v19, ext_apply]
    unfold Pd
    rw [if_neg (by omega)]
    exact congrArg₂ (R x0 x1) (by omega) (Fin.ext (by simp [gc]))
  have h4 : ∀ k : Fin 512, val_main_v48 x0 x1 (ix3 b s k) = Wn 4 (Pd x0 x1 b.val (gc 1 k)) (s.val + 32) * Ideal.div 1 (cnt 4#32 (BitVec.ofNat 32 s.val))
      - R x0 x1 (b.val * 2048 + s.val) (gc 1 k) := fun k => by
    rw [share _ _ (cnt_ne _ _ (cnt_ne4 s)), ← h1, ← h2 k, ← h3]
    rfl
  have h5 : ∀ k : Fin 512, val_main_v50 x2 (ix2 k l) = x2 (ix3 1 k l) := fun k => by
    pointwise [val_main_v50, val_main_v49]
  pointwise [val_main_v51, h4, h5]
  rfl
/-- Group 2: the pooled and mixed entries. -/
theorem mix2 (l : Fin 512) : val_main_v67 x0 x1 x2 (ix3 b s l)
    = ∑ k : Fin 512, (Wn (2 ^ ((2 : Fin 4).val + 1)) (Pd x0 x1 b.val (gc 2 k)) (s.val + 32) * Ideal.div 1 (cnt (BitVec.ofNat 32 (2 ^ ((2 : Fin 4).val + 1))) (BitVec.ofNat 32 s.val))
        - R x0 x1 (b.val * 2048 + s.val) (gc 2 k)) * x2 (ix3 2 k l) := by
  have h1 : ∀ k : Fin 512, val_main_v60 x0 x1 (ix3 b s k) = Wn 8 (Pd x0 x1 b.val (gc 2 k)) (s.val + 32) := fun k => by
    pointwise [val_main_v60, val_main_v52, val_main_v53, run_apply]
    exact (win x0 x1 hw b.val s.val _ _ 8 _ (by omega) (by omega)).trans (congrArg (fun q => Wn 8 (Pd x0 x1 b.val q) (s.val + 32)) (Fin.ext (by simp [gc])))
  have h2 : ∀ k : Fin 512, val_main_v61 (F := Ideal) (ix3 b s k) = cnt 8#32 (BitVec.ofNat 32 s.val) := fun k => by
    pointwise [val_main_v61, val_main_v59, val_main_v58, val_main_v57, val_main_v56, val_main_v55, val_main_v54, val_main_v16, val_main_c_7, val_main_c_8]
    rfl
  have h3 : ∀ k : Fin 512, val_main_v63 x0 x1 (ix3 b s k) = R x0 x1 (b.val * 2048 + s.val) (gc 2 k) := fun k => by
    pointwise [val_main_v63, val_main_v19, ext_apply]
    unfold Pd
    rw [if_neg (by omega)]
    exact congrArg₂ (R x0 x1) (by omega) (Fin.ext (by simp [gc]))
  have h4 : ∀ k : Fin 512, val_main_v64 x0 x1 (ix3 b s k) = Wn 8 (Pd x0 x1 b.val (gc 2 k)) (s.val + 32) * Ideal.div 1 (cnt 8#32 (BitVec.ofNat 32 s.val))
      - R x0 x1 (b.val * 2048 + s.val) (gc 2 k) := fun k => by
    rw [share _ _ (cnt_ne _ _ (cnt_ne8 s)), ← h1, ← h2 k, ← h3]
    rfl
  have h5 : ∀ k : Fin 512, val_main_v66 x2 (ix2 k l) = x2 (ix3 2 k l) := fun k => by
    pointwise [val_main_v66, val_main_v65]
  pointwise [val_main_v67, h4, h5]
  rfl
/-- Group 3: the pooled and mixed entries. -/
theorem mix3 (l : Fin 512) : val_main_v83 x0 x1 x2 (ix3 b s l)
    = ∑ k : Fin 512, (Wn (2 ^ ((3 : Fin 4).val + 1)) (Pd x0 x1 b.val (gc 3 k)) (s.val + 32) * Ideal.div 1 (cnt (BitVec.ofNat 32 (2 ^ ((3 : Fin 4).val + 1))) (BitVec.ofNat 32 s.val))
        - R x0 x1 (b.val * 2048 + s.val) (gc 3 k)) * x2 (ix3 3 k l) := by
  have h1 : ∀ k : Fin 512, val_main_v76 x0 x1 (ix3 b s k) = Wn 16 (Pd x0 x1 b.val (gc 3 k)) (s.val + 32) := fun k => by
    pointwise [val_main_v76, val_main_v68, val_main_v69, run_apply]
    exact (win x0 x1 hw b.val s.val _ _ 16 _ (by omega) (by omega)).trans (congrArg (fun q => Wn 16 (Pd x0 x1 b.val q) (s.val + 32)) (Fin.ext (by simp [gc])))
  have h2 : ∀ k : Fin 512, val_main_v77 (F := Ideal) (ix3 b s k) = cnt 16#32 (BitVec.ofNat 32 s.val) := fun k => by
    pointwise [val_main_v77, val_main_v75, val_main_v74, val_main_v73, val_main_v72, val_main_v71, val_main_v70, val_main_v16, val_main_c_9, val_main_c_10]
    rfl
  have h3 : ∀ k : Fin 512, val_main_v79 x0 x1 (ix3 b s k) = R x0 x1 (b.val * 2048 + s.val) (gc 3 k) := fun k => by
    pointwise [val_main_v79, val_main_v19, ext_apply]
    unfold Pd
    rw [if_neg (by omega)]
    exact congrArg₂ (R x0 x1) (by omega) (Fin.ext (by simp [gc]))
  have h4 : ∀ k : Fin 512, val_main_v80 x0 x1 (ix3 b s k) = Wn 16 (Pd x0 x1 b.val (gc 3 k)) (s.val + 32) * Ideal.div 1 (cnt 16#32 (BitVec.ofNat 32 s.val))
      - R x0 x1 (b.val * 2048 + s.val) (gc 3 k) := fun k => by
    rw [share _ _ (cnt_ne _ _ (cnt_ne16 s)), ← h1, ← h2 k, ← h3]
    rfl
  have h5 : ∀ k : Fin 512, val_main_v82 x2 (ix2 k l) = x2 (ix3 3 k l) := fun k => by
    pointwise [val_main_v82, val_main_v81]
  pointwise [val_main_v83, h4, h5]
  rfl
omit hw in
theorem cat0 (l : Fin 512) : val_main_v84 x0 x1 x2 (ix3 b s (gc 0 l)) = val_main_v35 x0 x1 x2 (ix3 b s l) := by
  unfold val_main_v84
  generalize val_main_v35 x0 x1 x2 = y0
  generalize val_main_v51 x0 x1 x2 = y1
  generalize val_main_v67 x0 x1 x2 = y2
  generalize val_main_v83 x0 x1 x2 = y3
  pointwise [gc]
omit hw in
theorem cat1 (l : Fin 512) : val_main_v84 x0 x1 x2 (ix3 b s (gc 1 l)) = val_main_v51 x0 x1 x2 (ix3 b s l) := by
  unfold val_main_v84
  generalize val_main_v35 x0 x1 x2 = y0
  generalize val_main_v51 x0 x1 x2 = y1
  generalize val_main_v67 x0 x1 x2 = y2
  generalize val_main_v83 x0 x1 x2 = y3
  pointwise [gc]
omit hw in
theorem cat2 (l : Fin 512) : val_main_v84 x0 x1 x2 (ix3 b s (gc 2 l)) = val_main_v67 x0 x1 x2 (ix3 b s l) := by
  unfold val_main_v84
  generalize val_main_v35 x0 x1 x2 = y0
  generalize val_main_v51 x0 x1 x2 = y1
  generalize val_main_v67 x0 x1 x2 = y2
  generalize val_main_v83 x0 x1 x2 = y3
  pointwise [gc]
  rw [dif_neg (by omega), dif_neg (by omega), dif_pos (by omega)]
  exact congrArg (fun k => y2 (ix3 b s k)) (Fin.ext (by dsimp only; omega))
omit hw in
theorem cat3 (l : Fin 512) : val_main_v84 x0 x1 x2 (ix3 b s (gc 3 l)) = val_main_v83 x0 x1 x2 (ix3 b s l) := by
  unfold val_main_v84
  generalize val_main_v35 x0 x1 x2 = y0
  generalize val_main_v51 x0 x1 x2 = y1
  generalize val_main_v67 x0 x1 x2 = y2
  generalize val_main_v83 x0 x1 x2 = y3
  pointwise [gc]
  rw [dif_neg (by omega), dif_neg (by omega), dif_neg (by omega)]
  exact congrArg (fun k => y3 (ix3 b s k)) (Fin.ext (by dsimp only; omega))

/-- The groups side by side. -/
theorem cat_apply (g : Fin 4) (l : Fin 512) : val_main_v84 x0 x1 x2 (ix3 b s (gc g l))
    = ∑ k : Fin 512, (Wn (2 ^ (g.val + 1)) (Pd x0 x1 b.val (gc g k)) (s.val + 32) * Ideal.div 1 (cnt (BitVec.ofNat 32 (2 ^ (g.val + 1))) (BitVec.ofNat 32 s.val))
        - R x0 x1 (b.val * 2048 + s.val) (gc g k)) * x2 (ix3 g k l) := by
  match g with
  | ⟨0, _⟩ => exact (cat0 x0 x1 x2 b s l).trans (mix0 x0 x1 x2 hw b s l)
  | ⟨1, _⟩ => exact (cat1 x0 x1 x2 b s l).trans (mix1 x0 x1 x2 hw b s l)
  | ⟨2, _⟩ => exact (cat2 x0 x1 x2 b s l).trans (mix2 x0 x1 x2 hw b s l)
  | ⟨3, _⟩ => exact (cat3 x0 x1 x2 b s l).trans (mix3 x0 x1 x2 hw b s l)

/-- The reference's result, entry by entry. -/
theorem ref_apply (n : Fin 8192) (hn : n.val = b.val * 2048 + s.val) (g : Fin 4) (l : Fin 512) :
    val_main_v89 x0 x1 x2 x3 (ix2 n (gc g l)) = fin x0 x1 x2 x3 b.val s.val g l := by
  have e1 : val_main_v88 x0 x1 x2 x3 (ix2 n (gc g l)) = val_main_v87 x0 x1 x2 x3 (ix3 b s (gc g l)) :=
    (val_main_v88_apply x0 x1 x2 x3 _).trans (congrArg _ (funext fun a => Fin.ext (by
      have := (gc g l).isLt
      match a with
      | ⟨0, _⟩ => show (n.val * 2048 + (gc g l).val) / 4194304 = b.val; omega
      | ⟨1, _⟩ => show (n.val * 2048 + (gc g l).val) / 2048 % 2048 = s.val; omega
      | ⟨2, _⟩ => show (n.val * 2048 + (gc g l).val) % 2048 = (gc g l).val; omega)))
  have e2 : val_main_v86 (F := Ideal) x3 (ix3 b s (gc g l)) = x3 (ix1 (gc g l)) := by
    pointwise [val_main_v86, val_main_v85]
  have e3 : (⟨(b.val * 2048 + s.val) % 8192, Nat.mod_lt _ (by norm_num)⟩ : Fin 8192) = n := Fin.ext (by have := n.isLt; dsimp only; omega)
  rw [val_main_v89_apply, e1, val_main_v87_apply, e2, cat_apply x0 x1 x2 hw b s g l]
  unfold fin res
  rw [e3]
  rfl

omit hw in
/-- The reference's state: a sequence's last fifteen rows. -/
theorem state_apply (r : Fin 15) (l : Fin 2048) : val_main_v90 x0 x1 (ix3 b r l) = R x0 x1 (b.val * 2048 + (2033 + r.val)) l := by
  pointwise [val_main_v90, ext_apply]
  unfold Pd
  rw [if_neg (by omega)]
  exact congrArg (fun n => R x0 x1 n l) (by omega)

end Cert.PoolRefRead

end
-- ==== Proof.PoolClaim.lean ====
/- The pooling mixer kernel's result arrays are the reference's. -/
module

public import proofs.«01_k».proof.Proof.PoolRef
public import proofs.«01_k».proof.Proof.AttnClaim
public import proofs.«01_k».proof.Proof.Gen.PoolRefIdeal.Run
public import proofs.«01_k».proof.Proof.Gen.PoolIdeal.Value
public import Idealize.ShloMosaic.Lib.Pipeline.ValueKit
public import Idealize.ShloMosaic.Lib.Pipeline.Value
public import Idealize.ShloMosaic.Lib.Quiescent
public import proofs.«01_k».proof.Defs
public import proofs.«01_k».proof.Proof.Gen.Pre_pool_finite

@[expose] public section

noncomputable section

namespace Cert.PoolClaim

open Cert.PoolIdeal Cert.PoolIdeal.Gen Idealize.ShloMosaic Idealize.ShloMosaic.TcCoe Idealize.SL.Sem
open Cert.PoolTile (idx lt16 row gc R fin st_apply out_apply)

variable (m : (ℓ : Loc nD τ sig) → Buf (Elt Ideal) ℓ)

/-- The sequence of a grid point. -/
def sq (t : Fin cfg0.N) : Fin 4 := ⟨t.val / 4, by have := lt16 t; omega⟩

/-- The block of the result a grid point writes, placed. -/
theorem place4 (t : Fin cfg0.N) (y : S512x2048.Idx) : ((cfg0.win 4).blk t).view.emb y = ix2 (row t (y 0)) (y 1) := by
  blk_ext [idx t, row]
/-- The block of the state a grid point writes, placed. -/
theorem place5 (t : Fin cfg0.N) (y : S1x15x2048.Idx) : ((cfg0.win 5).blk t).view.emb y = ix3 (sq t) (y 1) (y 2) := by
  blk_ext [idx t, sq]

/-- A column is a group's lane. -/
theorem col_eq (k : Fin 2048) : k = gc ⟨k.val / 512, by omega⟩ ⟨k.val % 512, by omega⟩ :=
  Fin.ext (by simp only [gc]; omega)

/-- An entry of the result block in terms of its group and lane. -/
theorem entry4 (hw : ∀ (c : Dev nD) (l : Fin 2048), ∃ a : ℝ, m ((c : Thread nD τ).loc main_arg1) (ix1 l) = (a : EReal)) (c : Dev nD)
    (t : Fin cfg0.N) (r : Fin 512) (k : Fin 2048) : (outsAt0 m c t.val t.isLt).1 (ix2 r k) = Cert.PoolRefIdeal.Read.val_main_v89 (F := Ideal)
    (m ((c : Thread nD τ).loc main_arg0)) (m ((c : Thread nD τ).loc main_arg1)) (m ((c : Thread nD τ).loc main_arg2)) (m ((c : Thread nD τ).loc main_arg3)) (ix2 (row t r) k) := by
  rw [col_eq k]
  exact (out_apply m c t _ r _).trans (Cert.PoolRefRead.ref_apply _ _ _ _ (hw c) (sq t) ⟨t.val % 4 * 512 + r.val, by omega⟩ (row t r)
    (by simp only [row, sq]; omega) _ _).symm

/-- The kernel's result array is the reference's value of its arguments. -/
theorem final4 (hw : ∀ (c : Dev nD) (l : Fin 2048), ∃ a : ℝ, m ((c : Thread nD τ).loc main_arg1) (ix1 l) = (a : EReal)) (c : Dev nD) :
    (dats m 0 c).arrAt 4 cfg0.N = Cert.PoolRefIdeal.Read.val_main_v89 (F := Ideal)
    (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, place4]
  exact (congrArg _ (eq_ix2 y)).trans (entry4 m hw c t (y 0) (y 1))

/-- An entry of the state block of a sequence's last point. -/
theorem entry5 (c : Dev nD) (t : Fin cfg0.N) (hm : t.val % 4 = 3) (r : Fin 15) (l : Fin 2048) :
    (outsAt0 m c t.val t.isLt).2.1 (ix3 0 r l) = Cert.PoolRefIdeal.Read.val_main_v90 (F := Ideal)
    (m ((c : Thread nD τ).loc main_arg0)) (m ((c : Thread nD τ).loc main_arg1)) (ix3 (sq t) r l) := by
  rw [st_apply, Cert.PoolRefRead.state_apply]
  exact congrArg (fun n => R _ _ n l) (by simp only [sq]; omega)

/-- The kernel's state array is the reference's value of its arguments. -/
theorem final5 (c : Dev nD) : (dats m 0 c).arrAt 5 cfg0.N = Cert.PoolRefIdeal.Read.val_main_v90 (F := Ideal)
    (m ((c : Thread nD τ).loc main_arg0)) (m ((c : Thread nD τ).loc main_arg1)) := by
  refine (dats m 0 c).arrAt_eq_of_covers 5 _ (by decide +kernel) fun t hf y => ?_
  have hm : t.val % 4 = 3 := (flush0_5 t).mp hf
  blk_simp
  rw [after0_5, place5]
  have e0 : y 0 = (0 : Fin 1) := Subsingleton.elim (α := Fin 1) _ _
  have ey : y = ix3 (0 : Fin 1) (y 1) (y 2) := (eq_ix3 y).trans (congrArg (fun k : Fin 1 => ix3 k (y 1) (y 2)) e0)
  exact (congrArg _ ey).trans (entry5 m c t hm (y 1) (y 2))

/-- What the precondition says: the norm's weights are reals. -/
theorem decode (h : Cert.Pre_PoolIdeal_pool_finite m) (c : Dev nD) (l : Fin 2048) :
    ∃ a : ℝ, m ((c : Thread nD τ).loc main_arg1) (ix1 l) = (a : EReal) :=
  ⟨_, Cert.AttnClaim.real_of_abs _ (congrFun (h c) (ix1 l))⟩

/-- The reference runs and leaves its arguments. -/
theorem frame_ref : Cert.quiescent_PoolRefIdeal := fun m ρ _ =>
  (θ_run Cert.PoolRefIdeal.defs _ _).mono (fun r h => ⟨fun c => (h c).2.2,
      Idealize.ShloMosaic.sem_eq_zero_of_no_sems (by decide) r.2⟩)
    (Cert.PoolRefIdeal.Value.run (F := Ideal) m ρ)

/-- On finite norm weights the kernel's results are the reference's. -/
theorem algebraic : Cert.algebraic_PoolIdeal_PoolRefIdeal_pre_pool_finite := by
  intro m ρ m' ρ' hpre hagree
  have hw := decode m hpre
  refine ⟨fun c => Cert.PoolRefIdeal.Read.val_main_v89 (F := Ideal) (m ((c : Thread nD τ).loc main_arg0)) (m ((c : Thread nD τ).loc main_arg1))
    (m ((c : Thread nD τ).loc main_arg2)) (m ((c : Thread nD τ).loc main_arg3)),
    fun c => Cert.PoolRefIdeal.Read.val_main_v90 (F := Ideal) (m ((c : Thread nD τ).loc main_arg0)) (m ((c : Thread nD τ).loc main_arg1)), ?_, ?_⟩
  · exact (θ_run Cert.PoolIdeal.defs _ _).mono (fun _ h c => ⟨(h c).1.trans (final4 m hw c), (h c).2.1.trans (final5 m c), (h c).2.2⟩)
      (Cert.PoolIdeal.Value.run_blocks (F := Ideal) m ρ)
  · refine (θ_run Cert.PoolRefIdeal.defs _ _).mono (fun _ h c => ⟨(h c).1.trans ?_, (h c).2.1.trans ?_, (h c).2.2⟩)
      (Cert.PoolRefIdeal.Value.run (F := Ideal) m' ρ')
    · refine (Cert.PoolRefIdeal.Read.val_main_v89_eq m' c).trans ?_
      rw [(hagree c).1, (hagree c).2.1, (hagree c).2.2.1, (hagree c).2.2.2]
    · refine (Cert.PoolRefIdeal.Read.val_main_v90_eq _ _).trans ?_
      rw [(hagree c).1, (hagree c).2.1]

end Cert.PoolClaim

end
-- ==== Proof.lean ====
/- The claims of the five calls: the prompt's attention, the gated feed-forward, the mixer's output projection and its input projection, and the pooling mixer. -/
module

public import proofs.«01_k».proof.Defs
public import proofs.«01_k».proof.Proof.Gen.Attn.Frame
public import proofs.«01_k».proof.Proof.Gen.AttnIdeal.Value
public import proofs.«01_k».proof.Proof.Gen.AttnRefIdeal.Run
public import proofs.«01_k».proof.Proof.Gen.AttnRefIdeal.Read
public import proofs.«01_k».proof.Proof.AttnClaim
public import proofs.«01_k».proof.Proof.Gen.Ffn.Frame
public import proofs.«01_k».proof.Proof.Gen.FfnIdeal.Value
public import proofs.«01_k».proof.Proof.Gen.FfnRefIdeal.Run
public import proofs.«01_k».proof.Proof.Gen.FfnRefIdeal.Read
public import proofs.«01_k».proof.Proof.FfnClaim
public import proofs.«01_k».proof.Proof.Gen.Mix.Frame
public import proofs.«01_k».proof.Proof.Gen.MixIdeal.Value
public import proofs.«01_k».proof.Proof.Gen.MixRefIdeal.Run
public import proofs.«01_k».proof.Proof.Gen.MixRefIdeal.Read
public import proofs.«01_k».proof.Proof.MixClaim
public import proofs.«01_k».proof.Proof.Gen.Inp.Frame
public import proofs.«01_k».proof.Proof.Gen.InpIdeal.Value
public import proofs.«01_k».proof.Proof.Gen.InpRefIdeal.Run
public import proofs.«01_k».proof.Proof.Gen.InpRefIdeal.Read
public import proofs.«01_k».proof.Proof.InpClaim
public import proofs.«01_k».proof.Proof.Gen.Pool.Frame
public import proofs.«01_k».proof.Proof.Gen.PoolIdeal.Value
public import proofs.«01_k».proof.Proof.Gen.PoolRefIdeal.Run
public import proofs.«01_k».proof.Proof.Gen.PoolRefIdeal.Read
public import proofs.«01_k».proof.Proof.Gen.Pre_pool_finite
public import proofs.«01_k».proof.Proof.PoolClaim

@[expose] public section

namespace Cert.Proof

open Idealize.ShloMosaic Idealize.SL.Sem

/-- Every claim. -/
theorem claim : Cert.Claim := ⟨Cert.Attn.Gen.facts, Cert.AttnIdeal.Gen.facts, Cert.AttnRefIdeal.Gen.facts,
  Cert.Ffn.Gen.facts, Cert.FfnIdeal.Gen.facts, Cert.FfnRefIdeal.Gen.facts,
  Cert.Mix.Gen.facts, Cert.MixIdeal.Gen.facts, Cert.MixRefIdeal.Gen.facts,
  Cert.Inp.Gen.facts, Cert.InpIdeal.Gen.facts, Cert.InpRefIdeal.Gen.facts,
  Cert.Pool.Gen.facts, Cert.PoolIdeal.Gen.facts, Cert.PoolRefIdeal.Gen.facts, Cert.Pre_attn_finite.Gen.facts, Cert.Pre_pool_finite.Gen.facts,
  fun m ρ _ => Cert.Attn.Gen.frame m ρ,
  fun m ρ _ => Cert.AttnIdeal.Gen.frame m ρ, fun m ρ _ => Cert.AttnIdeal.Gen.frame m ρ,
  Cert.AttnClaim.frame_ref, fun m ρ _ => Cert.AttnClaim.frame_ref m ρ trivial,
  fun m ρ _ => Cert.Ffn.Gen.frame m ρ, fun m ρ _ => Cert.FfnIdeal.Gen.frame m ρ, Cert.FfnClaim.frame_ref,
  fun m ρ _ => Cert.Mix.Gen.frame m ρ, fun m ρ _ => Cert.MixIdeal.Gen.frame m ρ, Cert.MixClaim.frame_ref,
  fun m ρ _ => Cert.Inp.Gen.frame m ρ, fun m ρ _ => Cert.InpIdeal.Gen.frame m ρ, Cert.InpClaim.frame_ref,
  fun m ρ _ => Cert.Pool.Gen.frame m ρ,
  fun m ρ _ => Cert.PoolIdeal.Gen.frame m ρ, fun m ρ _ => Cert.PoolIdeal.Gen.frame m ρ,
  Cert.PoolClaim.frame_ref, fun m ρ _ => Cert.PoolClaim.frame_ref m ρ trivial,
  Cert.AttnClaim.preserves, Cert.AttnClaim.algebraic,
  trivial, Cert.FfnClaim.algebraic,
  trivial, Cert.MixClaim.algebraic,
  Cert.InpClaim.preserves, Cert.InpClaim.algebraic,
  trivial, Cert.PoolClaim.algebraic⟩

end Cert.Proof
